-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tiles : Cert.Pre_tiles.Facts] (m : (ℓ : Loc Cert.Kernel2.nD Cert.Kernel2.τ Cert.Kernel2.sig) → Buf (Elt Bits) ℓ) : Prop :=
  ∀ c : Dev Cert.Kernel2.nD,
    (Cert.Pre_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tiles : Cert.Pre_tiles.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles [hPre_tiles : Cert.Pre_tiles.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tiles : Cert.Pre_tiles.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tiles : Cert.Pre_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles [hReference2Ideal : Cert.Reference2Ideal.Facts] [hPre_tiles : Cert.Pre_tiles.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tiles : Cert.Pre_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v54_1)) (v1 : (c : Dev Cert.Kernel3Ideal.nD) → Buf (Elt Ideal) ((c.tc : Thread Cert.Kernel3Ideal.nD Cert.Kernel3Ideal.τ).loc Cert.Kernel3Ideal.main_v54_2)) (v2 : (c : Dev Cert.Kernel3Ideal.nD) → Buf (Elt Ideal) ((c.tc : Thread Cert.Kernel3Ideal.nD Cert.Kernel3Ideal.τ).loc Cert.Kernel3Ideal.main_v54_7)) (v3 : (c : Dev Cert.Kernel3Ideal.nD) → Buf (Elt Ideal) ((c.tc : Thread Cert.Kernel3Ideal.nD Cert.Kernel3Ideal.τ).loc Cert.Kernel3Ideal.main_v54_8)) (v4 : (c : Dev Cert.Kernel3Ideal.nD) → Buf (Elt Ideal) ((c.tc : Thread Cert.Kernel3Ideal.nD Cert.Kernel3Ideal.τ).loc Cert.Kernel3Ideal.main_v54_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v54_1) = v0 c
          ∧ r.2.mem ((c.tc : Thread Cert.Kernel3Ideal.nD Cert.Kernel3Ideal.τ).loc Cert.Kernel3Ideal.main_v54_2) = v1 c
          ∧ r.2.mem ((c.tc : Thread Cert.Kernel3Ideal.nD Cert.Kernel3Ideal.τ).loc Cert.Kernel3Ideal.main_v54_7) = v2 c
          ∧ r.2.mem ((c.tc : Thread Cert.Kernel3Ideal.nD Cert.Kernel3Ideal.τ).loc Cert.Kernel3Ideal.main_v54_8) = v3 c
          ∧ r.2.mem ((c.tc : Thread Cert.Kernel3Ideal.nD Cert.Kernel3Ideal.τ).loc Cert.Kernel3Ideal.main_v54_9) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v67) = v3 c
          ∧ r.2.mem ((c.tc : Thread Cert.Reference3Ideal.nD Cert.Reference3Ideal.τ).loc Cert.Reference3Ideal.main_v68) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_tiles : Cert.Pre_tiles.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tiles := hPre_tiles)
    ∧ quiescent_Kernel2Ideal (hKernel2Ideal := hKernel2Ideal) (hPre_tiles := hPre_tiles)
    ∧ quiescent_Reference2Ideal (hReference2Ideal := hReference2Ideal)
    ∧ quiescent_Reference2Ideal_pre_tiles (hReference2Ideal := hReference2Ideal) (hPre_tiles := hPre_tiles)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tiles := hPre_tiles)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x8192x512 : Shape := ⟨3, ![2, 8192, 512]⟩
abbrev S2x8448x128 : Shape := ⟨3, ![2, 8448, 128]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8448x128 : S_.BroadcastsInDim S2x8448x128 (![] : Fin 0 → Fin S2x8448x128.rank)
  reducesTo_S2x8448x128_S_d0_1_2 : S2x8448x128.ReducesTo [0, 1, 2] S_

variable [Facts]

def fn {F : FTy → Type} [FloatOps F] (main_arg0 : FVec F S2x8192x512 .f32) (main_arg1 : FVec F S2x8448x128 .f32) (main_arg2 : FVec F S2x8448x128 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8448x128 .f32 := Host.absf main_arg1
  let main_cst_0 : FVec F S_ .f32 := constant S_ .f32 0x7F800000#32
  let main_v5 : FVec F S2x8448x128 .f32 := broadcastInDim S2x8448x128 ![] bcast_S_S2x8448x128 main_cst_0
  let main_v6 : IVec S2x8448x128 1 := cmpf .olt main_v4 main_v5
  let main_c_1 : IVec S_ 1 := constantI S_ 1 1#1
  let main_v7 : IVec S_ 1 := (fun x v => Host.reduce IntOp.andi x v reducesTo_S2x8448x128_S_d0_1_2 h_S_) main_v6 main_c_1
  let main_v8 : IVec S_ 1 := andi main_v3 main_v7
  main_v8
-- ==== Pre_tiles.lean ====
abbrev S97 : Shape := ⟨1, ![97]⟩
abbrev S1 : Shape := ⟨1, ![1]⟩
abbrev S49664x1024 : Shape := ⟨2, ![49664, 1024]⟩
abbrev S2x16x1024x704 : Shape := ⟨4, ![2, 16, 1024, 704]⟩
abbrev S2x16x704x1024 : Shape := ⟨4, ![2, 16, 704, 1024]⟩
abbrev S_ : Shape := ⟨0, ![]⟩

class Facts : Prop where
  bcast_S_S97 : S_.BroadcastsInDim S97 (![] : Fin 0 → Fin S97.rank)
  reducesTo_S97_S_d0 : S97.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S97 32) (main_arg1 : IVec S1 32) (main_arg2 : FVec F S49664x1024 .f32) (main_arg3 : FVec F S2x16x1024x704 .f32) (main_arg4 : FVec F S2x16x1024x704 .f32) (main_arg5 : FVec F S2x16x704x1024 .f32) : IVec S_ 1 :=
  let main_c : IVec S_ 32 := constantI S_ 32 0#32
  let main_v0 : IVec S97 32 := broadcastInDim S97 ![] bcast_S_S97 main_c
  let main_v1 : IVec S97 1 := cmpi .sge main_arg0 main_v0
  let main_c_0 : IVec S_ 1 := constantI S_ 1 1#1
  let main_v2 : IVec S_ 1 := (fun x v => Host.reduce IntOp.andi x v reducesTo_S97_S_d0 h_S_) main_v1 main_c_0
  let main_c_1 : IVec S_ 32 := constantI S_ 32 16#32
  let main_v3 : IVec S97 32 := broadcastInDim S97 ![] bcast_S_S97 main_c_1
  let main_v4 : IVec S97 1 := cmpi .slt main_arg0 main_v3
  let main_c_2 : IVec S_ 1 := constantI S_ 1 1#1
  let main_v5 : IVec S_ 1 := (fun x v => Host.reduce IntOp.andi x v reducesTo_S97_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 97#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S2x8192x512 : Shape := ⟨3, ![2, 8192, 512]⟩
abbrev S2x8448x128 : Shape := ⟨3, ![2, 8448, 128]⟩
abbrev S2x8448x2x1x64 : Shape := ⟨5, ![2, 8448, 2, 1, 64]⟩
abbrev S2x8448x2x2x64 : Shape := ⟨5, ![2, 8448, 2, 2, 64]⟩
abbrev S2x8448x256 : Shape := ⟨3, ![2, 8448, 256]⟩
abbrev S2x8448x2x64 : Shape := ⟨4, ![2, 8448, 2, 64]⟩
abbrev S_ : Shape := ⟨0, ![]⟩
abbrev S2x8448x2x128 : Shape := ⟨4, ![2, 8448, 2, 128]⟩
abbrev S1x512x128 : Shape := ⟨3, ![1, 512, 128]⟩
abbrev S1x8448x128 : Shape := ⟨3, ![1, 8448, 128]⟩
abbrev S256x128 : Shape := ⟨2, ![256, 128]⟩
abbrev S1x256x128 : Shape := ⟨3, ![1, 256, 128]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S256x1 : Shape := ⟨2, ![256, 1]⟩

abbrev nBuf : Space → Nat
  | .hbm => 14
  | .vmem => 8
  | .smem => 0
  | _ => 0

abbrev bufTy : (tb : Table) → Fin (tcTables nBuf tb) → BufTy
  | .hbm, ⟨0, _⟩ => ⟨S2x8192x512, .f32⟩
  | .hbm, ⟨1, _⟩ => ⟨S2x8448x128, .f32⟩
  | .hbm, ⟨2, _⟩ => ⟨S2x8448x128, .f32⟩
  | .hbm, ⟨3, _⟩ => ⟨S2x8192x512, .bf16⟩
  | .hbm, ⟨4, _⟩ => ⟨S2x8448x128, .bf16⟩
  | .hbm, ⟨5, _⟩ => ⟨S2x8448x2x1x64, .bf16⟩
  | .hbm, ⟨6, _⟩ => ⟨S2x8448x2x2x64, .bf16⟩
  | .hbm, ⟨7, _⟩ => ⟨S2x8448x256, .bf16⟩
  | .hbm, ⟨8, _⟩ => ⟨S2x8448x128, .bf16⟩
  | .hbm, ⟨9, _⟩ => ⟨S2x8448x2x64, .bf16⟩
  | .hbm, ⟨10, _⟩ => ⟨S_, .bf16⟩
  | .hbm, ⟨11, _⟩ => ⟨S2x8448x2x128, .bf16⟩
  | .hbm, ⟨12, _⟩ => ⟨S2x8448x256, .bf16⟩
  | .hbm, ⟨13, _⟩ => ⟨S2x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x512x128, .bf16⟩
  | .local _ .vmem, ⟨7, _⟩ => ⟨S1x512x128, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32 : BitVec 32 := 0#32
  let c256_i32 : BitVec 32 := 256#32
  let v25 : BitVec 32 := Scalar.muli c0_i32 c256_i32
  v25
def k0_off1 (c0_i32 : BitVec 32) : Fin 3 → Nat :=
  let c0_9 : Index := 0#32
  let c256_i32 : BitVec 32 := 256#32
  let v25 : BitVec 32 := Scalar.muli c0_i32 c256_i32
  let v26 : BitVec 32 := v25
  let v27 : Index := Scalar.indexCast v26
  let c0_10 : Index := 0#32
  ![0, v27.toNat, 0]
def k0_mult2 : BitVec 32 :=
  let c1_i32 : BitVec 32 := 1#32
  let c256_i32_19 : BitVec 32 := 256#32
  let v61 : BitVec 32 := Scalar.muli c1_i32 c256_i32_19
  v61
def k0_mult3 : BitVec 32 :=
  let c2_i32 : BitVec 32 := 2#32
  let c256_i32_30 : BitVec 32 := 256#32
  let v97 : BitVec 32 := Scalar.muli c2_i32 c256_i32_30
  v97
def k0_mult4 : BitVec 32 :=
  let c3_i32 : BitVec 32 := 3#32
  let c256_i32_41 : BitVec 32 := 256#32
  let v133 : BitVec 32 := Scalar.muli c3_i32 c256_i32_41
  v133
def k0_mult5 : BitVec 32 :=
  let c4_i32 : BitVec 32 := 4#32
  let c256_i32_52 : BitVec 32 := 256#32
  let v169 : BitVec 32 := Scalar.muli c4_i32 c256_i32_52
  v169
def k0_mult6 : BitVec 32 :=
  let c5_i32 : BitVec 32 := 5#32
  let c256_i32_63 : BitVec 32 := 256#32
  let v205 : BitVec 32 := Scalar.muli c5_i32 c256_i32_63
  v205
def k0_mult7 : BitVec 32 :=
  let c6_i32 : BitVec 32 := 6#32
  let c256_i32_74 : BitVec 32 := 256#32
  let v241 : BitVec 32 := Scalar.muli c6_i32 c256_i32_74
  v241
def k0_mult8 : BitVec 32 :=
  let c7_i32 : BitVec 32 := 7#32
  let c256_i32_85 : BitVec 32 := 256#32
  let v277 : BitVec 32 := Scalar.muli c7_i32 c256_i32_85
  v277
def k0_mult9 : BitVec 32 :=
  let c8_i32 : BitVec 32 := 8#32
  let c256_i32_96 : BitVec 32 := 256#32
  let v313 : BitVec 32 := Scalar.muli c8_i32 c256_i32_96
  v313
def k0_mult10 : BitVec 32 :=
  let c9_i32 : BitVec 32 := 9#32
  let c256_i32_107 : BitVec 32 := 256#32
  let v349 : BitVec 32 := Scalar.muli c9_i32 c256_i32_107
  v349
def k0_mult11 : BitVec 32 :=
  let c10_i32 : BitVec 32 := 10#32
  let c256_i32_118 : BitVec 32 := 256#32
  let v385 : BitVec 32 := Scalar.muli c10_i32 c256_i32_118
  v385
def k0_mult12 : BitVec 32 :=
  let c11_i32 : BitVec 32 := 11#32
  let c256_i32_129 : BitVec 32 := 256#32
  let v421 : BitVec 32 := Scalar.muli c11_i32 c256_i32_129
  v421
def k0_mult13 : BitVec 32 :=
  let c12_i32 : BitVec 32 := 12#32
  let c256_i32_140 : BitVec 32 := 256#32
  let v457 : BitVec 32 := Scalar.muli c12_i32 c256_i32_140
  v457
def k0_mult14 : BitVec 32 :=
  let c13_i32 : BitVec 32 := 13#32
  let c256_i32_151 : BitVec 32 := 256#32
  let v493 : BitVec 32 := Scalar.muli c13_i32 c256_i32_151
  v493
def k0_mult15 : BitVec 32 :=
  let c14_i32 : BitVec 32 := 14#32
  let c256_i32_162 : BitVec 32 := 256#32
  let v529 : BitVec 32 := Scalar.muli c14_i32 c256_i32_162
  v529
def k0_mult16 : BitVec 32 :=
  let c15_i32 : BitVec 32 := 15#32
  let c256_i32_173 : BitVec 32 := 256#32
  let v565 : BitVec 32 := Scalar.muli c15_i32 c256_i32_173
  v565
def k0_mult17 : BitVec 32 :=
  let c16_i32 : BitVec 32 := 16#32
  let c256_i32_184 : BitVec 32 := 256#32
  let v601 : BitVec 32 := Scalar.muli c16_i32 c256_i32_184
  v601
def k0_mult18 : BitVec 32 :=
  let c17_i32 : BitVec 32 := 17#32
  let c256_i32_195 : BitVec 32 := 256#32
  let v637 : BitVec 32 := Scalar.muli c17_i32 c256_i32_195
  v637
def k0_mult19 : BitVec 32 :=
  let c18_i32 : BitVec 32 := 18#32
  let c256_i32_206 : BitVec 32 := 256#32
  let v673 : BitVec 32 := Scalar.muli c18_i32 c256_i32_206
  v673
def k0_mult20 : BitVec 32 :=
  let c19_i32 : BitVec 32 := 19#32
  let c256_i32_217 : BitVec 32 := 256#32
  let v709 : BitVec 32 := Scalar.muli c19_i32 c256_i32_217
  v709
def k0_mult21 : BitVec 32 :=
  let c20_i32 : BitVec 32 := 20#32
  let c256_i32_228 : BitVec 32 := 256#32
  let v745 : BitVec 32 := Scalar.muli c20_i32 c256_i32_228
  v745
def k0_mult22 : BitVec 32 :=
  let c21_i32 : BitVec 32 := 21#32
  let c256_i32_239 : BitVec 32 := 256#32
  let v781 : BitVec 32 := Scalar.muli c21_i32 c256_i32_239
  v781
def k0_mult23 : BitVec 32 :=
  let c22_i32 : BitVec 32 := 22#32
  let c256_i32_250 : BitVec 32 := 256#32
  let v817 : BitVec 32 := Scalar.muli c22_i32 c256_i32_250
  v817
def k0_mult24 : BitVec 32 :=
  let c23_i32 : BitVec 32 := 23#32
  let c256_i32_261 : BitVec 32 := 256#32
  let v853 : BitVec 32 := Scalar.muli c23_i32 c256_i32_261
  v853
def k0_mult25 : BitVec 32 :=
  let c24_i32 : BitVec 32 := 24#32
  let c256_i32_272 : BitVec 32 := 256#32
  let v889 : BitVec 32 := Scalar.muli c24_i32 c256_i32_272
  v889
def k0_mult26 : BitVec 32 :=
  let c25_i32 : BitVec 32 := 25#32
  let c256_i32_283 : BitVec 32 := 256#32
  let v925 : BitVec 32 := Scalar.muli c25_i32 c256_i32_283
  v925
def k0_mult27 : BitVec 32 :=
  let c26_i32 : BitVec 32 := 26#32
  let c256_i32_294 : BitVec 32 := 256#32
  let v961 : BitVec 32 := Scalar.muli c26_i32 c256_i32_294
  v961
def k0_mult28 : BitVec 32 :=
  let c27_i32 : BitVec 32 := 27#32
  let c256_i32_305 : BitVec 32 := 256#32
  let v997 : BitVec 32 := Scalar.muli c27_i32 c256_i32_305
  v997
def k0_mult29 : BitVec 32 :=
  let c28_i32 : BitVec 32 := 28#32
  let c256_i32_316 : BitVec 32 := 256#32
  let v1033 : BitVec 32 := Scalar.muli c28_i32 c256_i32_316
  v1033
def k0_mult30 : BitVec 32 :=
  let c29_i32 : BitVec 32 := 29#32
  let c256_i32_327 : BitVec 32 := 256#32
  let v1069 : BitVec 32 := Scalar.muli c29_i32 c256_i32_327
  v1069
def k0_mult31 : BitVec 32 :=
  let c30_i32 : BitVec 32 := 30#32
  let c256_i32_338 : BitVec 32 := 256#32
  let v1105 : BitVec 32 := Scalar.muli c30_i32 c256_i32_338
  v1105
def k0_mult32 : BitVec 32 :=
  let c31_i32 : BitVec 32 := 31#32
  let c256_i32_349 : BitVec 32 := 256#32
  let v1141 : BitVec 32 := Scalar.muli c31_i32 c256_i32_349
  v1141
def k0_mult33 : BitVec 32 :=
  let c32_i32 : BitVec 32 := 32#32
  let c256_i32_360 : BitVec 32 := 256#32
  let v1177 : BitVec 32 := Scalar.muli c32_i32 c256_i32_360
  v1177
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S2x8192x512 : Shape := ⟨3, ![2, 8192, 512]⟩
abbrev S2x8448x128 : Shape := ⟨3, ![2, 8448, 128]⟩
abbrev S2x8192x2x4x64 : Shape := ⟨5, ![2, 8192, 2, 4, 64]⟩
abbrev S2x8448x2x64 : Shape := ⟨4, ![2, 8448, 2, 64]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8448x128, .f32⟩
  | .hbm, ⟨2, _⟩ => ⟨S2x8448x128, .f32⟩
  | .hbm, ⟨3, _⟩ => ⟨S2x8192x2x4x64, .f32⟩
  | .hbm, ⟨4, _⟩ => ⟨S2x8448x2x64, .f32⟩
  | .hbm, ⟨5, _⟩ => ⟨S2x8448x2x64, .f32⟩
  | .hbm, ⟨6, _⟩ => ⟨S2x2x8448x8192x4, .f32⟩
  | .hbm, ⟨7, _⟩ => ⟨S2x2x4x8192x8448, .f32⟩
  | .hbm, ⟨8, _⟩ => ⟨S_, .f32⟩
  | .hbm, ⟨9, _⟩ => ⟨S2x2x4x8192x8448, .f32⟩
  | .hbm, ⟨10, _⟩ => ⟨S2x2x4x8192x8448, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8448, .f32⟩
  | .hbm, ⟨18, _⟩ => ⟨S2x2x4x8192x8448, .f32⟩
  | .hbm, ⟨19, _⟩ => ⟨S2x2x4x8192x8448, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8448, .f32⟩
  | .hbm, ⟨24, _⟩ => ⟨S2x2x4x8192x8448, .f32⟩
  | .hbm, ⟨25, _⟩ => ⟨S2x2x64x4x8192, .f32⟩
  | .hbm, ⟨26, _⟩ => ⟨S2x8192x2x4x64, .f32⟩
  | .hbm, ⟨27, _⟩ => ⟨S2x8192x512, .f32⟩
  | .hbm, ⟨28, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S97 : Shape := ⟨1, ![97]⟩
abbrev S1 : Shape := ⟨1, ![1]⟩
abbrev S49664x1024 : Shape := ⟨2, ![49664, 1024]⟩
abbrev S2x16x1024x704 : Shape := ⟨4, ![2, 16, 1024, 704]⟩
abbrev S2x16x704x1024 : Shape := ⟨4, ![2, 16, 704, 1024]⟩
abbrev S512x1024 : Shape := ⟨2, ![512, 1024]⟩
abbrev S1x1x704x1024 : Shape := ⟨4, ![1, 1, 704, 1024]⟩
abbrev S704x1024 : Shape := ⟨2, ![704, 1024]⟩
abbrev S512x704 : Shape := ⟨2, ![512, 704]⟩

abbrev nBuf : Space → Nat
  | .hbm => 7
  | .vmem => 10
  | .smem => 2
  | _ => 0

abbrev bufTy : (tb : Table) → Fin (tcTables nBuf tb) → BufTy
  | .hbm, ⟨0, _⟩ => ⟨S49664x1024, .f32⟩
  | .hbm, ⟨1, _⟩ => ⟨S2x16x1024x704, .f32⟩
  | .hbm, ⟨2, _⟩ => ⟨S2x16x1024x704, .f32⟩
  | .hbm, ⟨3, _⟩ => ⟨S2x16x704x1024, .f32⟩
  | .hbm, ⟨4, _⟩ => ⟨S2x16x704x1024, .f32⟩
  | .hbm, ⟨5, _⟩ => ⟨S2x16x704x1024, .f32⟩
  | .hbm, ⟨6, _⟩ => ⟨S49664x1024, .f32⟩
  | .local _ .vmem, ⟨0, _⟩ => ⟨S512x1024, .f32⟩
  | .local _ .vmem, ⟨1, _⟩ => ⟨S512x1024, .f32⟩
  | .local _ .vmem, ⟨2, _⟩ => ⟨S1x1x704x1024, .f32⟩
  | .local _ .vmem, ⟨3, _⟩ => ⟨S1x1x704x1024, .f32⟩
  | .local _ .vmem, ⟨4, _⟩ => ⟨S1x1x704x1024, .f32⟩
  | .local _ .vmem, ⟨5, _⟩ => ⟨S1x1x704x1024, .f32⟩
  | .local _ .vmem, ⟨6, _⟩ => ⟨S1x1x704x1024, .f32⟩
  | .local _ .vmem, ⟨7, _⟩ => ⟨S1x1x704x1024, .f32⟩
  | .local _ .vmem, ⟨8, _⟩ => ⟨S512x1024, .f32⟩
  | .local _ .vmem, ⟨9, _⟩ => ⟨S512x1024, .f32⟩
  | .local _ .smem, ⟨0, _⟩ => ⟨S97, .i32⟩
  | .local _ .smem, ⟨1, _⟩ => ⟨S1, .i32⟩
  | _, _ => ⟨S49664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![97], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S97 : Shape := ⟨1, ![97]⟩
abbrev S1 : Shape := ⟨1, ![1]⟩
abbrev S49664x1024 : Shape := ⟨2, ![49664, 1024]⟩
abbrev S2x16x1024x704 : Shape := ⟨4, ![2, 16, 1024, 704]⟩
abbrev S2x16x704x1024 : Shape := ⟨4, ![2, 16, 704, 1024]⟩
abbrev S97x512 : Shape := ⟨2, ![97, 512]⟩
abbrev S49664 : Shape := ⟨1, ![49664]⟩
abbrev S_ : Shape := ⟨0, ![]⟩
abbrev S49664x1 : Shape := ⟨2, ![49664, 1]⟩
abbrev S1x16 : Shape := ⟨2, ![1, 16]⟩
abbrev S49664x16 : Shape := ⟨2, ![49664, 16]⟩
abbrev S1x16x1024x704 : Shape := ⟨4, ![1, 16, 1024, 704]⟩
abbrev S16x1024x704 : Shape := ⟨3, ![16, 1024, 704]⟩
abbrev S16x704x49664 : Shape := ⟨3, ![16, 704, 49664]⟩
abbrev S16x49664x704 : Shape := ⟨3, ![16, 49664, 704]⟩
abbrev S1x16x704x1024 : Shape := ⟨4, ![1, 16, 704, 1024]⟩
abbrev S16x704x1024 : Shape := ⟨3, ![16, 704, 1024]⟩
abbrev S16x49664x1024 : Shape := ⟨3, ![16, 49664, 1024]⟩
abbrev S16x49664 : Shape := ⟨2, ![16, 49664]⟩
abbrev S16x49664x1 : Shape := ⟨3, ![16, 49664, 1]⟩

abbrev nBuf : Space → Nat
  | .hbm => 53
  | .vmem => 0
  | .smem => 0
  | _ => 0

abbrev bufTy : (tb : Table) → Fin (tcTables nBuf tb) → BufTy
  | .hbm, ⟨0, _⟩ => ⟨S97, .i32⟩
  | .hbm, ⟨1, _⟩ => ⟨S1, .i32⟩
  | .hbm, ⟨2, _⟩ => ⟨S49664x1024, .f32⟩
  | .hbm, ⟨3, _⟩ => ⟨S2x16x1024x704, .f32⟩
  | .hbm, ⟨4, _⟩ => ⟨S2x16x1024x704, .f32⟩
  | .hbm, ⟨5, _⟩ => ⟨S2x16x704x1024, .f32⟩
  | .hbm, ⟨6, _⟩ => ⟨S97x512, .i32⟩
  | .hbm, ⟨7, _⟩ => ⟨S49664, .i32⟩
  | .hbm, ⟨8, _⟩ => ⟨S49664, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S49664, .i32⟩
  | .hbm, ⟨13, _⟩ => ⟨S49664, .i1⟩
  | .hbm, ⟨14, _⟩ => ⟨S49664x1, .i1⟩
  | .hbm, ⟨15, _⟩ => ⟨S49664x1, .i32⟩
  | .hbm, ⟨16, _⟩ => ⟨S1x16, .i32⟩
  | .hbm, ⟨17, _⟩ => ⟨S49664x16, .i32⟩
  | .hbm, ⟨18, _⟩ => ⟨S49664x16, .i32⟩
  | .hbm, ⟨19, _⟩ => ⟨S49664x16, .i1⟩
  | .hbm, ⟨20, _⟩ => ⟨S49664x16, .f32⟩
  | .hbm, ⟨21, _⟩ => ⟨S_, .f32⟩
  | .hbm, ⟨22, _⟩ => ⟨S_, .f32⟩
  | .hbm, ⟨23, _⟩ => ⟨S49664x16, .i1⟩
  | .hbm, ⟨24, _⟩ => ⟨S49664x16, .f32⟩
  | .hbm, ⟨25, _⟩ => ⟨S49664x16, .f32⟩
  | .hbm, ⟨26, _⟩ => ⟨S1x16x1024x704, .f32⟩
  | .hbm, ⟨27, _⟩ => ⟨S16x1024x704, .f32⟩
  | .hbm, ⟨28, _⟩ => ⟨S16x704x49664, .f32⟩
  | .hbm, ⟨29, _⟩ => ⟨S16x49664x704, .f32⟩
  | .hbm, ⟨30, _⟩ => ⟨S16x49664x704, .f32⟩
  | .hbm, ⟨31, _⟩ => ⟨S16x49664x704, .f32⟩
  | .hbm, ⟨32, _⟩ => ⟨S_, .f32⟩
  | .hbm, ⟨33, _⟩ => ⟨S16x49664x704, .f32⟩
  | .hbm, ⟨34, _⟩ => ⟨S16x49664x704, .f32⟩
  | .hbm, ⟨35, _⟩ => ⟨S_, .f32⟩
  | .hbm, ⟨36, _⟩ => ⟨S16x49664x704, .f32⟩
  | .hbm, ⟨37, _⟩ => ⟨S16x49664x704, .f32⟩
  | .hbm, ⟨38, _⟩ => ⟨S16x49664x704, .f32⟩
  | .hbm, ⟨39, _⟩ => ⟨S1x16x1024x704, .f32⟩
  | .hbm, ⟨40, _⟩ => ⟨S16x1024x704, .f32⟩
  | .hbm, ⟨41, _⟩ => ⟨S16x704x49664, .f32⟩
  | .hbm, ⟨42, _⟩ => ⟨S16x49664x704, .f32⟩
  | .hbm, ⟨43, _⟩ => ⟨S16x49664x704, .f32⟩
  | .hbm, ⟨44, _⟩ => ⟨S1x16x704x1024, .f32⟩
  | .hbm, ⟨45, _⟩ => ⟨S16x704x1024, .f32⟩
  | .hbm, ⟨46, _⟩ => ⟨S16x49664x1024, .f32⟩
  | .hbm, ⟨47, _⟩ => ⟨S16x49664, .f32⟩
  | .hbm, ⟨48, _⟩ => ⟨S16x49664x1, .f32⟩
  | .hbm, ⟨49, _⟩ => ⟨S16x49664x1024, .f32⟩
  | .hbm, ⟨50, _⟩ => ⟨S16x49664x1024, .f32⟩
  | .hbm, ⟨51, _⟩ => ⟨S_, .f32⟩
  | .hbm, ⟨52, _⟩ => ⟨S49664x1024, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_0 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== Kernel3.lean ====
abbrev S2x256x1024 : Shape := ⟨3, ![2, 256, 1024]⟩
abbrev S2x8192x1024 : Shape := ⟨3, ![2, 8192, 1024]⟩
abbrev S3x6x1024 : Shape := ⟨3, ![3, 6, 1024]⟩
abbrev S1024 : Shape := ⟨1, ![1024]⟩
abbrev S1024x5376 : Shape := ⟨2, ![1024, 5376]⟩
abbrev S3072 : Shape := ⟨1, ![3072]⟩
abbrev S64 : Shape := ⟨1, ![64]⟩
abbrev S8448x128 : Shape := ⟨2, ![8448, 128]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S2x2 : Shape := ⟨2, ![2, 2]⟩
abbrev S2x1x2x1 : Shape := ⟨4, ![2, 1, 2, 1]⟩
abbrev S2x64x2x64 : Shape := ⟨4, ![2, 64, 2, 64]⟩
abbrev S128x128 : Shape := ⟨2, ![128, 128]⟩
abbrev S64x128 : Shape := ⟨2, ![64, 128]⟩
abbrev S1x64x1x128 : Shape := ⟨4, ![1, 64, 1, 128]⟩
abbrev S2x64x2x128 : Shape := ⟨4, ![2, 64, 2, 128]⟩
abbrev S128x256 : Shape := ⟨2, ![128, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S1x3072 : Shape := ⟨2, ![1, 3072]⟩
abbrev S2x8448x256 : Shape := ⟨3, ![2, 8448, 256]⟩
abbrev S2x8448x512 : Shape := ⟨3, ![2, 8448, 512]⟩
abbrev S2x8192x512 : Shape := ⟨3, ![2, 8192, 512]⟩
abbrev S2x8448x768 : Shape := ⟨3, ![2, 8448, 768]⟩
abbrev S2x8192x768 : Shape := ⟨3, ![2, 8192, 768]⟩
abbrev S2x8448x3072 : Shape := ⟨3, ![2, 8448, 3072]⟩
abbrev S1x256x1024 : Shape := ⟨3, ![1, 256, 1024]⟩
abbrev S1x6x1024 : Shape := ⟨3, ![1, 6, 1024]⟩
abbrev S256x128 : Shape := ⟨2, ![256, 128]⟩
abbrev S1x256x256 : Shape := ⟨3, ![1, 256, 256]⟩
abbrev S1x256x512 : Shape := ⟨3, ![1, 256, 512]⟩
abbrev S1x256x768 : Shape := ⟨3, ![1, 256, 768]⟩
abbrev S1x256x3072 : Shape := ⟨3, ![1, 256, 3072]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S256x256 : Shape := ⟨2, ![256, 256]⟩
abbrev S1024x512 : Shape := ⟨2, ![1024, 512]⟩
abbrev S256x512 : Shape := ⟨2, ![256, 512]⟩
abbrev S1024x256 : Shape := ⟨2, ![1024, 256]⟩
abbrev S1x256 : Shape := ⟨2, ![1, 256]⟩
abbrev S1024x3072 : Shape := ⟨2, ![1024, 3072]⟩
abbrev S256x3072 : Shape := ⟨2, ![256, 3072]⟩

abbrev nBuf : Space → Nat
  | .hbm => 102
  | .vmem => 39
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S3x6x1024, .f32⟩
  | .hbm, ⟨3, _⟩ => ⟨S1024, .f32⟩
  | .hbm, ⟨4, _⟩ => ⟨S1024x5376, .f32⟩
  | .hbm, ⟨5, _⟩ => ⟨S3072, .f32⟩
  | .hbm, ⟨6, _⟩ => ⟨S64, .f32⟩
  | .hbm, ⟨7, _⟩ => ⟨S64, .f32⟩
  | .hbm, ⟨8, _⟩ => ⟨S8448x128, .f32⟩
  | .hbm, ⟨9, _⟩ => ⟨S8448x128, .f32⟩
  | .hbm, ⟨10, _⟩ => ⟨S1024x5376, .bf16⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S_, .f32⟩
  | .hbm, ⟨19, _⟩ => ⟨S64x64, .f32⟩
  | .hbm, ⟨20, _⟩ => ⟨S8x1x8x1, .f32⟩
  | .hbm, ⟨21, _⟩ => ⟨S1x64x1x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S512x512, .f32⟩
  | .hbm, ⟨26, _⟩ => ⟨S512x512, .bf16⟩
  | .hbm, ⟨27, _⟩ => ⟨S2x2, .i32⟩
  | .hbm, ⟨28, _⟩ => ⟨S2x2, .i32⟩
  | .hbm, ⟨29, _⟩ => ⟨S_, .i32⟩
  | .hbm, ⟨30, _⟩ => ⟨S2x2, .i32⟩
  | .hbm, ⟨31, _⟩ => ⟨S2x2, .i32⟩
  | .hbm, ⟨32, _⟩ => ⟨S2x2, .i1⟩
  | .hbm, ⟨33, _⟩ => ⟨S2x2, .f32⟩
  | .hbm, ⟨34, _⟩ => ⟨S_, .f32⟩
  | .hbm, ⟨35, _⟩ => ⟨S64x64, .f32⟩
  | .hbm, ⟨36, _⟩ => ⟨S2x1x2x1, .f32⟩
  | .hbm, ⟨37, _⟩ => ⟨S1x64x1x64, .f32⟩
  | .hbm, ⟨38, _⟩ => ⟨S2x64x2x64, .f32⟩
  | .hbm, ⟨39, _⟩ => ⟨S2x64x2x64, .f32⟩
  | .hbm, ⟨40, _⟩ => ⟨S2x64x2x64, .f32⟩
  | .hbm, ⟨41, _⟩ => ⟨S128x128, .f32⟩
  | .hbm, ⟨42, _⟩ => ⟨S128x128, .bf16⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S64x64, .f32⟩
  | .hbm, ⟨50, _⟩ => ⟨S2x2, .i32⟩
  | .hbm, ⟨51, _⟩ => ⟨S2x2, .i32⟩
  | .hbm, ⟨52, _⟩ => ⟨S_, .i32⟩
  | .hbm, ⟨53, _⟩ => ⟨S2x2, .i32⟩
  | .hbm, ⟨54, _⟩ => ⟨S2x2, .i32⟩
  | .hbm, ⟨55, _⟩ => ⟨S2x2, .i1⟩
  | .hbm, ⟨56, _⟩ => ⟨S2x2, .f32⟩
  | .hbm, ⟨57, _⟩ => ⟨S64x128, .f32⟩
  | .hbm, ⟨58, _⟩ => ⟨S2x1x2x1, .f32⟩
  | .hbm, ⟨59, _⟩ => ⟨S1x64x1x128, .f32⟩
  | .hbm, ⟨60, _⟩ => ⟨S2x64x2x128, .f32⟩
  | .hbm, ⟨61, _⟩ => ⟨S2x64x2x128, .f32⟩
  | .hbm, ⟨62, _⟩ => ⟨S2x64x2x128, .f32⟩
  | .hbm, ⟨63, _⟩ => ⟨S128x256, .f32⟩
  | .hbm, ⟨64, _⟩ => ⟨S128x256, .bf16⟩
  | .hbm, ⟨65, _⟩ => ⟨S2x2, .i32⟩
  | .hbm, ⟨66, _⟩ => ⟨S2x2, .i32⟩
  | .hbm, ⟨67, _⟩ => ⟨S_, .i32⟩
  | .hbm, ⟨68, _⟩ => ⟨S2x2, .i32⟩
  | .hbm, ⟨69, _⟩ => ⟨S2x2, .i32⟩
  | .hbm, ⟨70, _⟩ => ⟨S2x2, .i1⟩
  | .hbm, ⟨71, _⟩ => ⟨S2x2, .f32⟩
  | .hbm, ⟨72, _⟩ => ⟨S_, .f32⟩
  | .hbm, ⟨73, _⟩ => ⟨S64x64, .f32⟩
  | .hbm, ⟨74, _⟩ => ⟨S64x128, .f32⟩
  | .hbm, ⟨75, _⟩ => ⟨S2x1x2x1, .f32⟩
  | .hbm, ⟨76, _⟩ => ⟨S1x64x1x128, .f32⟩
  | .hbm, ⟨77, _⟩ => ⟨S2x64x2x128, .f32⟩
  | .hbm, ⟨78, _⟩ => ⟨S2x64x2x128, .f32⟩
  | .hbm, ⟨79, _⟩ => ⟨S2x64x2x128, .f32⟩
  | .hbm, ⟨80, _⟩ => ⟨S128x256, .f32⟩
  | .hbm, ⟨81, _⟩ => ⟨S128x256, .bf16⟩
  | .hbm, ⟨82, _⟩ => ⟨S1x64, .f32⟩
  | .hbm, ⟨83, _⟩ => ⟨S8x64, .f32⟩
  | .hbm, ⟨84, _⟩ => ⟨S512, .f32⟩
  | .hbm, ⟨85, _⟩ => ⟨S1x512, .f32⟩
  | .hbm, ⟨86, _⟩ => ⟨S1x64, .f32⟩
  | .hbm, ⟨87, _⟩ => ⟨S2x64, .f32⟩
  | .hbm, ⟨88, _⟩ => ⟨S128, .f32⟩
  | .hbm, ⟨89, _⟩ => ⟨S1x128, .f32⟩
  | .hbm, ⟨90, _⟩ => ⟨S1x1024, .f32⟩
  | .hbm, ⟨91, _⟩ => ⟨S1x3072, .f32⟩
  | .hbm, ⟨92, _⟩ => ⟨S2x8448x256, .bf16⟩
  | .hbm, ⟨93, _⟩ => ⟨S2x8448x256, .bf16⟩
  | .hbm, ⟨94, _⟩ => ⟨S2x8448x256, .bf16⟩
  | .hbm, ⟨95, _⟩ => ⟨S2x8448x512, .bf16⟩
  | .hbm, ⟨96, _⟩ => ⟨S2x8192x512, .bf16⟩
  | .hbm, ⟨97, _⟩ => ⟨S2x8448x256, .bf16⟩
  | .hbm, ⟨98, _⟩ => ⟨S2x8448x256, .bf16⟩
  | .hbm, ⟨99, _⟩ => ⟨S2x8448x768, .f32⟩
  | .hbm, ⟨100, _⟩ => ⟨S2x8192x768, .f32⟩
  | .hbm, ⟨101, _⟩ => ⟨S2x8448x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x5376, .bf16⟩
  | .local _ .vmem, ⟨8, _⟩ => ⟨S1x3072, .f32⟩
  | .local _ .vmem, ⟨9, _⟩ => ⟨S1x512, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S512x512, .bf16⟩
  | .local _ .vmem, ⟨16, _⟩ => ⟨S128x128, .bf16⟩
  | .local _ .vmem, ⟨17, _⟩ => ⟨S128x256, .bf16⟩
  | .local _ .vmem, ⟨18, _⟩ => ⟨S128x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x256, .bf16⟩
  | .local _ .vmem, ⟨24, _⟩ => ⟨S1x256x256, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x256, .bf16⟩
  | .local _ .vmem, ⟨32, _⟩ => ⟨S1x256x256, .bf16⟩
  | .local _ .vmem, ⟨33, _⟩ => ⟨S1x256x768, .f32⟩
  | .local _ .vmem, ⟨34, _⟩ => ⟨S1x256x768, .f32⟩
  | .local _ .vmem, ⟨35, _⟩ => ⟨S1x256x768, .f32⟩
  | .local _ .vmem, ⟨36, _⟩ => ⟨S1x256x768, .f32⟩
  | .local _ .vmem, ⟨37, _⟩ => ⟨S1x256x3072, .bf16⟩
  | .local _ .vmem, ⟨38, _⟩ => ⟨S1x256x3072, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_v54_2 : Ref sig .tc := ⟨.hbm, 94, rfl⟩
abbrev main_v54_3 : Ref sig .tc := ⟨.hbm, 95, rfl⟩
abbrev main_v54_4 : Ref sig .tc := ⟨.hbm, 96, rfl⟩
abbrev main_v54_5 : Ref sig .tc := ⟨.hbm, 97, rfl⟩
abbrev main_v54_6 : Ref sig .tc := ⟨.hbm, 98, rfl⟩
abbrev main_v54_7 : Ref sig .tc := ⟨.hbm, 99, rfl⟩
abbrev main_v54_8 : Ref sig .tc := ⟨.hbm, 100, rfl⟩
abbrev main_v54_9 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x768 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x3072 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Reference3Ideal.lean ====
abbrev S2x256x1024 : Shape := ⟨3, ![2, 256, 1024]⟩
abbrev S2x8192x1024 : Shape := ⟨3, ![2, 8192, 1024]⟩
abbrev S3x6x1024 : Shape := ⟨3, ![3, 6, 1024]⟩
abbrev S1024 : Shape := ⟨1, ![1024]⟩
abbrev S1024x5376 : Shape := ⟨2, ![1024, 5376]⟩
abbrev S3072 : Shape := ⟨1, ![3072]⟩
abbrev S64 : Shape := ⟨1, ![64]⟩
abbrev S8448x128 : Shape := ⟨2, ![8448, 128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x1024 : Shape := ⟨2, ![2, 1024]⟩
abbrev S2x256 : Shape := ⟨2, ![2, 256]⟩
abbrev S2x256x1 : Shape := ⟨3, ![2, 256, 1]⟩
abbrev S2x8448x1024 : Shape := ⟨3, ![2, 8448, 1024]⟩
abbrev S2x8448x5376 : Shape := ⟨3, ![2, 8448, 5376]⟩
abbrev S2x8448x3072 : Shape := ⟨3, ![2, 8448, 3072]⟩
abbrev S1x1x3072 : Shape := ⟨3, ![1, 1, 3072]⟩
abbrev S2x8448x256 : Shape := ⟨3, ![2, 8448, 256]⟩
abbrev S2x8448x768 : Shape := ⟨3, ![2, 8448, 768]⟩
abbrev S2x8192x768 : Shape := ⟨3, ![2, 8192, 768]⟩

abbrev nBuf : Space → Nat
  | .hbm => 89
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S3x6x1024, .f32⟩
  | .hbm, ⟨3, _⟩ => ⟨S1024, .f32⟩
  | .hbm, ⟨4, _⟩ => ⟨S1024x5376, .f32⟩
  | .hbm, ⟨5, _⟩ => ⟨S3072, .f32⟩
  | .hbm, ⟨6, _⟩ => ⟨S64, .f32⟩
  | .hbm, ⟨7, _⟩ => ⟨S64, .f32⟩
  | .hbm, ⟨8, _⟩ => ⟨S8448x128, .f32⟩
  | .hbm, ⟨9, _⟩ => ⟨S8448x128, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x1x1024, .f32⟩
  | .hbm, ⟨27, _⟩ => ⟨S2x1024, .f32⟩
  | .hbm, ⟨28, _⟩ => ⟨S2x1x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x256x1024, .f32⟩
  | .hbm, ⟨40, _⟩ => ⟨S_, .f32⟩
  | .hbm, ⟨41, _⟩ => ⟨S2x256, .f32⟩
  | .hbm, ⟨42, _⟩ => ⟨S2x256x1, .f32⟩
  | .hbm, ⟨43, _⟩ => ⟨S_, .f32⟩
  | .hbm, ⟨44, _⟩ => ⟨S2x256x1, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S2x256x1, .f32⟩
  | .hbm, ⟨50, _⟩ => ⟨S2x256x1024, .f32⟩
  | .hbm, ⟨51, _⟩ => ⟨S2x256x1024, .f32⟩
  | .hbm, ⟨52, _⟩ => ⟨S1x1x1024, .f32⟩
  | .hbm, ⟨53, _⟩ => ⟨S2x256x1024, .f32⟩
  | .hbm, ⟨54, _⟩ => ⟨S2x256x1024, .f32⟩
  | .hbm, ⟨55, _⟩ => ⟨S1x1x1024, .f32⟩
  | .hbm, ⟨56, _⟩ => ⟨S1024, .f32⟩
  | .hbm, ⟨57, _⟩ => ⟨S1x1x1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1x1024, .f32⟩
  | .hbm, ⟨63, _⟩ => ⟨S2x256x1024, .f32⟩
  | .hbm, ⟨64, _⟩ => ⟨S2x256x1024, .f32⟩
  | .hbm, ⟨65, _⟩ => ⟨S1x1x1024, .f32⟩
  | .hbm, ⟨66, _⟩ => ⟨S2x256x1024, .f32⟩
  | .hbm, ⟨67, _⟩ => ⟨S2x256x1024, .f32⟩
  | .hbm, ⟨68, _⟩ => ⟨S2x8448x1024, .f32⟩
  | .hbm, ⟨69, _⟩ => ⟨S2x8448x5376, .f32⟩
  | .hbm, ⟨70, _⟩ => ⟨S2x8448x3072, .f32⟩
  | .hbm, ⟨71, _⟩ => ⟨S1x1x3072, .f32⟩
  | .hbm, ⟨72, _⟩ => ⟨S2x8448x3072, .f32⟩
  | .hbm, ⟨73, _⟩ => ⟨S2x8448x3072, .f32⟩
  | .hbm, ⟨74, _⟩ => ⟨S2x8448x3072, .f32⟩
  | .hbm, ⟨75, _⟩ => ⟨S2x8448x3072, .f32⟩
  | .hbm, ⟨76, _⟩ => ⟨S_, .f32⟩
  | .hbm, ⟨77, _⟩ => ⟨S2x8448x3072, .f32⟩
  | .hbm, ⟨78, _⟩ => ⟨S2x8448x3072, .f32⟩
  | .hbm, ⟨79, _⟩ => ⟨S_, .f32⟩
  | .hbm, ⟨80, _⟩ => ⟨S2x8448x3072, .f32⟩
  | .hbm, ⟨81, _⟩ => ⟨S2x8448x3072, .f32⟩
  | .hbm, ⟨82, _⟩ => ⟨S2x8448x256, .f32⟩
  | .hbm, ⟨83, _⟩ => ⟨S2x8448x256, .bf16⟩
  | .hbm, ⟨84, _⟩ => ⟨S2x8448x256, .f32⟩
  | .hbm, ⟨85, _⟩ => ⟨S2x8448x256, .bf16⟩
  | .hbm, ⟨86, _⟩ => ⟨S2x8448x768, .f32⟩
  | .hbm, ⟨87, _⟩ => ⟨S2x8192x768, .f32⟩
  | .hbm, ⟨88, _⟩ => ⟨S2x8448x3072, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== Kernel4.lean ====
abbrev S2x256x1024 : Shape := ⟨3, ![2, 256, 1024]⟩
abbrev S2x8192x1024 : Shape := ⟨3, ![2, 8192, 1024]⟩
abbrev S3x6x1024 : Shape := ⟨3, ![3, 6, 1024]⟩
abbrev S2x256x256 : Shape := ⟨3, ![2, 256, 256]⟩
abbrev S2x8192x256 : Shape := ⟨3, ![2, 8192, 256]⟩
abbrev S2x256x512 : Shape := ⟨3, ![2, 256, 512]⟩
abbrev S2x8192x512 : Shape := ⟨3, ![2, 8192, 512]⟩
abbrev S2x8448x3072 : Shape := ⟨3, ![2, 8448, 3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S2x8448x1024 : Shape := ⟨3, ![2, 8448, 1024]⟩
abbrev S16896x1024 : Shape := ⟨2, ![16896, 1024]⟩
abbrev S16896x128 : Shape := ⟨2, ![16896, 128]⟩
abbrev S1x256x1024 : Shape := ⟨3, ![1, 256, 1024]⟩
abbrev S1x6x1024 : Shape := ⟨3, ![1, 6, 1024]⟩
abbrev S1x256x256 : Shape := ⟨3, ![1, 256, 256]⟩
abbrev S1x256x512 : Shape := ⟨3, ![1, 256, 512]⟩
abbrev S1x256x3072 : Shape := ⟨3, ![1, 256, 3072]⟩
abbrev S256x128 : Shape := ⟨2, ![256, 128]⟩
abbrev S256x256 : Shape := ⟨2, ![256, 256]⟩
abbrev S256x512 : Shape := ⟨2, ![256, 512]⟩
abbrev S256x3072 : Shape := ⟨2, ![256, 3072]⟩
abbrev S6x1024 : Shape := ⟨2, ![6, 1024]⟩
abbrev S256 : Shape := ⟨1, ![256]⟩
abbrev S256x1 : Shape := ⟨2, ![256, 1]⟩

abbrev nBuf : Space → Nat
  | .hbm => 31
  | .vmem => 33
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S3x6x1024, .f32⟩
  | .hbm, ⟨3, _⟩ => ⟨S2x256x256, .bf16⟩
  | .hbm, ⟨4, _⟩ => ⟨S2x8192x256, .bf16⟩
  | .hbm, ⟨5, _⟩ => ⟨S2x256x512, .bf16⟩
  | .hbm, ⟨6, _⟩ => ⟨S2x8192x512, .bf16⟩
  | .hbm, ⟨7, _⟩ => ⟨S2x256x256, .f32⟩
  | .hbm, ⟨8, _⟩ => ⟨S2x8192x256, .f32⟩
  | .hbm, ⟨9, _⟩ => ⟨S2x8448x3072, .bf16⟩
  | .hbm, ⟨10, _⟩ => ⟨S256x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S1024, .f32⟩
  | .hbm, ⟨15, _⟩ => ⟨S1024x16, .f32⟩
  | .hbm, ⟨16, _⟩ => ⟨S256x1024, .bf16⟩
  | .hbm, ⟨17, _⟩ => ⟨S512x1024, .bf16⟩
  | .hbm, ⟨18, _⟩ => ⟨S256x1024, .bf16⟩
  | .hbm, ⟨19, _⟩ => ⟨S1024x1024, .bf16⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1024x128, .bf16⟩
  | .hbm, ⟨24, _⟩ => ⟨S1024x128, .f32⟩
  | .hbm, ⟨25, _⟩ => ⟨S1024x128, .f32⟩
  | .hbm, ⟨26, _⟩ => ⟨S1024x128, .bf16⟩
  | .hbm, ⟨27, _⟩ => ⟨S1x1024, .f32⟩
  | .hbm, ⟨28, _⟩ => ⟨S2x8448x1024, .f32⟩
  | .hbm, ⟨29, _⟩ => ⟨S16896x1024, .f32⟩
  | .hbm, ⟨30, _⟩ => ⟨S16896x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x3072, .bf16⟩
  | .local _ .vmem, ⟨19, _⟩ => ⟨S1x256x3072, .bf16⟩
  | .local _ .vmem, ⟨20, _⟩ => ⟨S256x1024, .bf16⟩
  | .local _ .vmem, ⟨21, _⟩ => ⟨S512x1024, .bf16⟩
  | .local _ .vmem, ⟨22, _⟩ => ⟨S256x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x128, .bf16⟩
  | .local _ .vmem, ⟨26, _⟩ => ⟨S1024x128, .bf16⟩
  | .local _ .vmem, ⟨27, _⟩ => ⟨S1x256x1024, .f32⟩
  | .local _ .vmem, ⟨28, _⟩ => ⟨S1x256x1024, .f32⟩
  | .local _ .vmem, ⟨29, _⟩ => ⟨S256x1024, .f32⟩
  | .local _ .vmem, ⟨30, _⟩ => ⟨S256x1024, .f32⟩
  | .local _ .vmem, ⟨31, _⟩ => ⟨S256x128, .f32⟩
  | .local _ .vmem, ⟨32, _⟩ => ⟨S256x128, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c2_i32 : BitVec 32 := 2#32
  let v1 : BitVec 32 := Scalar.select v0 c2_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S2x256x1024 : Shape := ⟨3, ![2, 256, 1024]⟩
abbrev S2x8192x1024 : Shape := ⟨3, ![2, 8192, 1024]⟩
abbrev S3x6x1024 : Shape := ⟨3, ![3, 6, 1024]⟩
abbrev S2x256x256 : Shape := ⟨3, ![2, 256, 256]⟩
abbrev S2x8192x256 : Shape := ⟨3, ![2, 8192, 256]⟩
abbrev S2x256x512 : Shape := ⟨3, ![2, 256, 512]⟩
abbrev S2x8192x512 : Shape := ⟨3, ![2, 8192, 512]⟩
abbrev S2x8448x3072 : Shape := ⟨3, ![2, 8448, 3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S2x1x1024 : Shape := ⟨3, ![2, 1, 1024]⟩
abbrev S2x1024 : Shape := ⟨2, ![2, 1024]⟩
abbrev S2x8192x3072 : Shape := ⟨3, ![2, 8192, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256x3072 : Shape := ⟨3, ![2, 256, 3072]⟩
abbrev S2x256 : Shape := ⟨2, ![2, 256]⟩
abbrev S2x256x1 : Shape := ⟨3, ![2, 256, 1]⟩
abbrev S2x8448x1024 : Shape := ⟨3, ![2, 8448, 1024]⟩
abbrev S16896x1024 : Shape := ⟨2, ![16896, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S3x6x1024, .f32⟩
  | .hbm, ⟨3, _⟩ => ⟨S2x256x256, .bf16⟩
  | .hbm, ⟨4, _⟩ => ⟨S2x8192x256, .bf16⟩
  | .hbm, ⟨5, _⟩ => ⟨S2x256x512, .bf16⟩
  | .hbm, ⟨6, _⟩ => ⟨S2x8192x512, .bf16⟩
  | .hbm, ⟨7, _⟩ => ⟨S2x256x256, .f32⟩
  | .hbm, ⟨8, _⟩ => ⟨S2x8192x256, .f32⟩
  | .hbm, ⟨9, _⟩ => ⟨S2x8448x3072, .bf16⟩
  | .hbm, ⟨10, _⟩ => ⟨S256x1024, .f32⟩
  | .hbm, ⟨11, _⟩ => ⟨S512x1024, .f32⟩
  | .hbm, ⟨12, _⟩ => ⟨S256x1024, .f32⟩
  | .hbm, ⟨13, _⟩ => ⟨S1024x1024, .f32⟩
  | .hbm, ⟨14, _⟩ => ⟨S1024, .f32⟩
  | .hbm, ⟨15, _⟩ => ⟨S1024x16, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x8192x3072, .bf16⟩
  | .hbm, ⟨20, _⟩ => ⟨S2x8192x3072, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x256, .f32⟩
  | .hbm, ⟨25, _⟩ => ⟨S2x8192x1024, .f32⟩
  | .hbm, ⟨26, _⟩ => ⟨S2x8192x1024, .f32⟩
  | .hbm, ⟨27, _⟩ => ⟨S2x8192x512, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x1x1024, .f32⟩
  | .hbm, ⟨55, _⟩ => ⟨S2x1024, .f32⟩
  | .hbm, ⟨56, _⟩ => ⟨S2x1x1024, .f32⟩
  | .hbm, ⟨57, _⟩ => ⟨S2x1x1024, .f32⟩
  | .hbm, ⟨58, _⟩ => ⟨S2x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S1024, .f32⟩
  | .hbm, ⟨69, _⟩ => ⟨S2x256x3072, .bf16⟩
  | .hbm, ⟨70, _⟩ => ⟨S2x256x3072, .f32⟩
  | .hbm, ⟨71, _⟩ => ⟨S2x256x1024, .f32⟩
  | .hbm, ⟨72, _⟩ => ⟨S2x256x1024, .f32⟩
  | .hbm, ⟨73, _⟩ => ⟨S2x256x1024, .f32⟩
  | .hbm, ⟨74, _⟩ => ⟨S2x256x256, .f32⟩
  | .hbm, ⟨75, _⟩ => ⟨S2x256x1024, .f32⟩
  | .hbm, ⟨76, _⟩ => ⟨S2x256x1024, .f32⟩
  | .hbm, ⟨77, _⟩ => ⟨S2x256x512, .f32⟩
  | .hbm, ⟨78, _⟩ => ⟨S2x256x1024, .f32⟩
  | .hbm, ⟨79, _⟩ => ⟨S2x256x1024, .f32⟩
  | .hbm, ⟨80, _⟩ => ⟨S2x256x1024, .f32⟩
  | .hbm, ⟨81, _⟩ => ⟨S2x256x1024, .f32⟩
  | .hbm, ⟨82, _⟩ => ⟨S2x256x1024, .f32⟩
  | .hbm, ⟨83, _⟩ => ⟨S2x256x1024, .f32⟩
  | .hbm, ⟨84, _⟩ => ⟨S2x256x1024, .f32⟩
  | .hbm, ⟨85, _⟩ => ⟨S1x1x1024, .f32⟩
  | .hbm, ⟨86, _⟩ => ⟨S2x256x1024, .f32⟩
  | .hbm, ⟨87, _⟩ => ⟨S2x256x1024, .f32⟩
  | .hbm, ⟨88, _⟩ => ⟨S2x256x1024, .f32⟩
  | .hbm, ⟨89, _⟩ => ⟨S2x256x1024, .f32⟩
  | .hbm, ⟨90, _⟩ => ⟨S_, .f32⟩
  | .hbm, ⟨91, _⟩ => ⟨S2x256, .f32⟩
  | .hbm, ⟨92, _⟩ => ⟨S2x256x1, .f32⟩
  | .hbm, ⟨93, _⟩ => ⟨S_, .f32⟩
  | .hbm, ⟨94, _⟩ => ⟨S2x256x1, .f32⟩
  | .hbm, ⟨95, _⟩ => ⟨S2x256x1, .f32⟩
  | .hbm, ⟨96, _⟩ => ⟨S_, .f32⟩
  | .hbm, ⟨97, _⟩ => ⟨S2x256x1, .f32⟩
  | .hbm, ⟨98, _⟩ => ⟨S2x256x1, .f32⟩
  | .hbm, ⟨99, _⟩ => ⟨S2x256x1, .f32⟩
  | .hbm, ⟨100, _⟩ => ⟨S2x256x1024, .f32⟩
  | .hbm, ⟨101, _⟩ => ⟨S2x256x1024, .f32⟩
  | .hbm, ⟨102, _⟩ => ⟨S1x1x1024, .f32⟩
  | .hbm, ⟨103, _⟩ => ⟨S2x256x1024, .f32⟩
  | .hbm, ⟨104, _⟩ => ⟨S2x256x1024, .f32⟩
  | .hbm, ⟨105, _⟩ => ⟨S1x1x1024, .f32⟩
  | .hbm, ⟨106, _⟩ => ⟨S1024, .f32⟩
  | .hbm, ⟨107, _⟩ => ⟨S1x1x1024, .f32⟩
  | .hbm, ⟨108, _⟩ => ⟨S1024, .f32⟩
  | .hbm, ⟨109, _⟩ => ⟨S_, .f32⟩
  | .hbm, ⟨110, _⟩ => ⟨S1024, .f32⟩
  | .hbm, ⟨111, _⟩ => ⟨S1024, .f32⟩
  | .hbm, ⟨112, _⟩ => ⟨S1x1x1024, .f32⟩
  | .hbm, ⟨113, _⟩ => ⟨S2x256x1024, .f32⟩
  | .hbm, ⟨114, _⟩ => ⟨S2x256x1024, .f32⟩
  | .hbm, ⟨115, _⟩ => ⟨S1x1x1024, .f32⟩
  | .hbm, ⟨116, _⟩ => ⟨S2x256x1024, .f32⟩
  | .hbm, ⟨117, _⟩ => ⟨S2x256x1024, .f32⟩
  | .hbm, ⟨118, _⟩ => ⟨S2x8448x1024, .f32⟩
  | .hbm, ⟨119, _⟩ => ⟨S2x8448x1024, .f32⟩
  | .hbm, ⟨120, _⟩ => ⟨S16896x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_cst_0 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_3 : Ref sig .tc := ⟨.hbm, 90, rfl⟩
abbrev main_v70 : Ref sig .tc := ⟨.hbm, 91, rfl⟩
abbrev main_v71 : Ref sig .tc := ⟨.hbm, 92, rfl⟩
abbrev main_cst_4 : Ref sig .tc := ⟨.hbm, 93, rfl⟩
abbrev main_v72 : Ref sig .tc := ⟨.hbm, 94, rfl⟩
abbrev main_v73 : Ref sig .tc := ⟨.hbm, 95, rfl⟩
abbrev main_cst_5 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_6 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩

abbrev nD : Nat := 1
abbrev τ : Topo := Topo.v7x

variable {F : FTy → Type} [FloatOps F]
-- ==== Kernel5.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S8x6144 : Shape := ⟨2, ![8, 6144]⟩
abbrev S1x1024x1536 : Shape := ⟨3, ![1, 1024, 1536]⟩
abbrev S1x1x1536 : Shape := ⟨3, ![1, 1, 1536]⟩
abbrev S8x1536 : Shape := ⟨2, ![8, 1536]⟩
abbrev S1024x1536 : Shape := ⟨2, ![1024, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel6.lean ====
abbrev S2x8192x768 : Shape := ⟨3, ![2, 8192, 768]⟩
abbrev S3x768 : Shape := ⟨2, ![3, 768]⟩
abbrev S768 : Shape := ⟨1, ![768]⟩
abbrev S1x768 : Shape := ⟨2, ![1, 768]⟩
abbrev S2x128x64x256 : Shape := ⟨4, ![2, 128, 64, 256]⟩
abbrev S1x8x768 : Shape := ⟨3, ![1, 8, 768]⟩
abbrev S1x1024x768 : Shape := ⟨3, ![1, 1024, 768]⟩
abbrev S1x128x8x256 : Shape := ⟨4, ![1, 128, 8, 256]⟩
abbrev S1024x768 : Shape := ⟨2, ![1024, 768]⟩
abbrev S1x1x768 : Shape := ⟨3, ![1, 1, 768]⟩
abbrev S128x768 : Shape := ⟨2, ![128, 768]⟩
abbrev S128x256 : Shape := ⟨2, ![128, 256]⟩
abbrev S1x128x1x256 : Shape := ⟨4, ![1, 128, 1, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x8192x768, .f32⟩
  | .hbm, ⟨1, _⟩ => ⟨S3x768, .f32⟩
  | .hbm, ⟨2, _⟩ => ⟨S768, .f32⟩
  | .hbm, ⟨3, _⟩ => ⟨S1x768, .f32⟩
  | .hbm, ⟨4, _⟩ => ⟨S2x128x64x256, .f32⟩
  | .hbm, ⟨5, _⟩ => ⟨S2x128x64x256, .f32⟩
  | .hbm, ⟨6, _⟩ => ⟨S2x128x64x256, .f32⟩
  | .local _ .vmem, ⟨0, _⟩ => ⟨S1x8x768, .f32⟩
  | .local _ .vmem, ⟨1, _⟩ => ⟨S1x8x768, .f32⟩
  | .local _ .vmem, ⟨2, _⟩ => ⟨S1x1024x768, .f32⟩
  | .local _ .vmem, ⟨3, _⟩ => ⟨S1x1024x768, .f32⟩
  | .local _ .vmem, ⟨4, _⟩ => ⟨S1x8x768, .f32⟩
  | .local _ .vmem, ⟨5, _⟩ => ⟨S1x8x768, .f32⟩
  | .local _ .vmem, ⟨6, _⟩ => ⟨S3x768, .f32⟩
  | .local _ .vmem, ⟨7, _⟩ => ⟨S1x768, .f32⟩
  | .local _ .vmem, ⟨8, _⟩ => ⟨S1x128x8x256, .f32⟩
  | .local _ .vmem, ⟨9, _⟩ => ⟨S1x128x8x256, .f32⟩
  | .local _ .vmem, ⟨10, _⟩ => ⟨S1x128x8x256, .f32⟩
  | .local _ .vmem, ⟨11, _⟩ => ⟨S1x128x8x256, .f32⟩
  | .local _ .vmem, ⟨12, _⟩ => ⟨S1x128x8x256, .f32⟩
  | .local _ .vmem, ⟨13, _⟩ => ⟨S1x128x8x256, .f32⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x8192x768 : Shape := ⟨3, ![2, 8192, 768]⟩
abbrev S3x768 : Shape := ⟨2, ![3, 768]⟩
abbrev S768 : Shape := ⟨1, ![768]⟩
abbrev S_ : Shape := ⟨0, ![]⟩
abbrev S2x8194x768 : Shape := ⟨3, ![2, 8194, 768]⟩
abbrev S1x768 : Shape := ⟨2, ![1, 768]⟩
abbrev S1x1x768 : Shape := ⟨3, ![1, 1, 768]⟩
abbrev S2x8192x256 : Shape := ⟨3, ![2, 8192, 256]⟩
abbrev S2x64x128x256 : Shape := ⟨4, ![2, 64, 128, 256]⟩
abbrev S2x128x64x256 : Shape := ⟨4, ![2, 128, 64, 256]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S3x768, .f32⟩
  | .hbm, ⟨2, _⟩ => ⟨S768, .f32⟩
  | .hbm, ⟨3, _⟩ => ⟨S_, .i32⟩
  | .hbm, ⟨4, _⟩ => ⟨S_, .f32⟩
  | .hbm, ⟨5, _⟩ => ⟨S2x8194x768, .f32⟩
  | .hbm, ⟨6, _⟩ => ⟨S2x8192x768, .f32⟩
  | .hbm, ⟨7, _⟩ => ⟨S1x768, .f32⟩
  | .hbm, ⟨8, _⟩ => ⟨S768, .f32⟩
  | .hbm, ⟨9, _⟩ => ⟨S1x1x768, .f32⟩
  | .hbm, ⟨10, _⟩ => ⟨S2x8192x768, .f32⟩
  | .hbm, ⟨11, _⟩ => ⟨S2x8192x768, .f32⟩
  | .hbm, ⟨12, _⟩ => ⟨S2x8192x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S2x8192x768, .f32⟩
  | .hbm, ⟨17, _⟩ => ⟨S2x8192x768, .f32⟩
  | .hbm, ⟨18, _⟩ => ⟨S2x8192x768, .f32⟩
  | .hbm, ⟨19, _⟩ => ⟨S2x8192x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S2x8192x768, .f32⟩
  | .hbm, ⟨24, _⟩ => ⟨S2x8192x768, .f32⟩
  | .hbm, ⟨25, _⟩ => ⟨S2x8192x768, .f32⟩
  | .hbm, ⟨26, _⟩ => ⟨S1x1x768, .f32⟩
  | .hbm, ⟨27, _⟩ => ⟨S2x8192x768, .f32⟩
  | .hbm, ⟨28, _⟩ => ⟨S2x8192x768, .f32⟩
  | .hbm, ⟨29, _⟩ => ⟨S2x8192x256, .f32⟩
  | .hbm, ⟨30, _⟩ => ⟨S2x8192x256, .f32⟩
  | .hbm, ⟨31, _⟩ => ⟨S2x8192x256, .f32⟩
  | .hbm, ⟨32, _⟩ => ⟨S2x64x128x256, .f32⟩
  | .hbm, ⟨33, _⟩ => ⟨S2x128x64x256, .f32⟩
  | .hbm, ⟨34, _⟩ => ⟨S2x64x128x256, .f32⟩
  | .hbm, ⟨35, _⟩ => ⟨S2x128x64x256, .f32⟩
  | .hbm, ⟨36, _⟩ => ⟨S2x64x128x256, .f32⟩
  | .hbm, ⟨37, _⟩ => ⟨S2x128x64x256, .f32⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Proof.Pieces.lean ====
module

public import proofs.«01_k».proof.Proof.Gen.KernelIdeal.Frame
public import Idealize.ShloMosaic.Lib.Pipeline.ValueKit

@[expose] public section

set_option maxRecDepth 65536

noncomputable section
namespace Cert.KernelIdeal.Attn
open Cert.KernelIdeal Cert.KernelIdeal.Gen Idealize.ShloMosaic Idealize.ShloMosaic.TcCoe Idealize.SL.Sem

variable {F : FTy → Type} [FloatOps F] [Named F]

/-- The scores of one stream's 512 stacked query rows against one chunk of 256 keys. -/
def scores (qq : FVec F S512x128 .bf16) (kk : FVec F S256x128 .bf16) : FVec F S512x256 .f32 :=
  matmul dot_S512x128_S256x128_S512x256_1_1_0_0_n_n none qq kk (constant S512x256 .f32 0x00000000#32)

/-- The running row maximum after one more chunk of scores. -/
def newMax (s : FVec F S512x256 .f32) (mx : FVec F S512x1 .f32) : FVec F S512x1 .f32 :=
  maximumf mx (shapeCast S512x1 (multiReduction .maximumf [1] S512 s 0xFF800000#32 reduces_S512x256_S512 (.inl rfl) rfl) shapeCasts_S512_S512x1)

/-- The accumulator after one more chunk: the old one rescaled to the new maximum, plus the chunk's weights times its values. -/
def newAcc (s : FVec F S512x256 .f32) (vv : FVec F S256x128 .bf16) (mx mx' : FVec F S512x1 .f32) (acc : FVec F S512x128 .f32) : FVec F S512x128 .f32 :=
  addf (mulf (broadcastTo S512x128 (exp2 (subf mx mx')) broadcasts_S512x1_S512x128) acc)
    (matmul dot_S512x256_S256x128_S512x128_1_0_0_1_n_n none
      (truncf .bf16 (exp2 (subf s (broadcastTo S512x256 mx' broadcasts_S512x1_S512x256))) bitsLt_bf16_f32) vv
      (constant S512x128 .f32 0x00000000#32))

/-- The running maximum after `n` chunks. -/
def maxAt (qq : FVec F S512x128 .bf16) (K : ℕ → FVec F S256x128 .bf16) : ℕ → FVec F S512x1 .f32
  | 0 => k0_pay5
  | n + 1 => newMax (scores qq (K n)) (maxAt qq K n)

/-- The accumulator after `n` chunks. -/
def accAt (qq : FVec F S512x128 .bf16) (K V : ℕ → FVec F S256x128 .bf16) : ℕ → FVec F S512x128 .f32
  | 0 => k0_pay6
  | n + 1 => newAcc (scores qq (K n)) (V n) (maxAt qq K n) (maxAt qq K (n + 1)) (accAt qq K V n)

/-- A key chunk lies within the staged keys. -/
theorem inb (n : ℕ) : ∀ d : Fin 3, (![0, 256 * (n % 33), 0] : Fin 3 → ℕ) d + S1x256x128.size d ≤ S1x8448x128.size d := by
  intro d; have := Nat.mod_lt n (by decide : 0 < 33)
  fin_cases d <;> simp [S1x256x128, S1x8448x128, Shape.size] <;> omega

/-- Chunk `n` of a staged block of 8448 rows, as the body loads it. -/
def chunk (arg : Memref sig .tc .vmem S1x8448x128 .bf16) (f : arg.view.ty.Contents (Elt F)) (n : ℕ) : FVec F S256x128 .bf16 :=
  shapeCast S256x128 (arg.view.readAt (Elt F) (Rect.unit (s := S1x8448x128) ![0, 256 * (n % 33), 0] S1x256x128.size (inb n)).toLoadRect f) shapeCasts_S1x256x128_S256x128

/-- The stored tile of one stream: both halves of its accumulator divided by their row sums (lane 64), the second rotated into the upper lanes. -/
def fin (acc : FVec F S512x128 .f32) : FVec F S1x256x128 .bf16 := k0_pay277 k0_pay2 acc

/-- The pieces the body writes: per stream of 256 query rows, the tile of its accumulator after all 33 chunks. -/
theorem pieces_eq (c : Dev nD) (i : grid0.Coords) (arg3 : Memref sig .tc .vmem S1x512x128 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x128 .bf16) (harg6 : arg6.IsWhole)
    (x0 : Vec F S1x512x128 .bf16) (x1 : Vec F S1x8448x128 .bf16) (x2 : Vec F S1x8448x128 .bf16) :
    (kernelRun0_A c i arg3 harg3 arg4 harg4 arg5 harg5 arg6 harg6 x0 x1 x2).1 =
      [⟨Rect.unit (s := S1x512x128) ![0, 256, 0] S1x256x128.size inb_S1x512x128_S1x256x128_0_256_0,
          fin (accAt (k0_pay4 (arg3.view.readAt (Elt F) (Rect.unit (s := S1x512x128) ![0, 256, 0] S1x256x128.size inb_S1x512x128_S1x256x128_0_256_0).toLoadRect (harg3.unread x0)))
            (chunk arg4 (harg4.unread x1)) (chunk arg5 (harg5.unread x2)) 33)⟩,
        ⟨Rect.unit (s := S1x512x128) ![0, 0, 0] S1x256x128.size inb_S1x512x128_S1x256x128_0_0_0,
          fin (accAt (k0_pay3 (arg3.view.readAt (Elt F) (Rect.unit (s := S1x512x128) ![0, 0, 0] S1x256x128.size inb_S1x512x128_S1x256x128_0_0_0).toLoadRect (harg3.unread x0)))
            (chunk arg4 (harg4.unread x1)) (chunk arg5 (harg5.unread x2)) 33)⟩] := by
  sl_kernel_rfl

end Cert.KernelIdeal.Attn
-- ==== Proof.Pay.lean ====
module

public import proofs.«01_k».proof.Proof.Pieces
public import Idealize.ShloMosaic.Lib.Pointwise

@[expose] public section

set_option maxRecDepth 16384

noncomputable section
namespace Cert.KernelIdeal.Attn
open Cert.KernelIdeal Cert.KernelIdeal.Gen Idealize.ShloMosaic Idealize.ShloMosaic.TcCoe Idealize.SL.Sem

/-- The bit pattern of minus infinity is the least extended real. -/
theorem ofBits_negInf : Ideal.ofBits .f32 0xFF800000#32 = ⊥ := by
  simp [Ideal.ofBits, Ideal.ieee]

/-- Comparing a lane number with 64 as words is comparing the numbers. -/
theorem lane_lt (l : Fin 128) : IntOp.cmpi CmpIPredicate.slt (BitVec.ofNat 32 ↑l) 64#32 = if (l : ℕ) < 64 then 1#1 else 0#1 := by
  revert l; decide +kernel

/-- A score is the product of a query row and a key row. -/
theorem scores_at (qq : FVec Ideal S512x128 .bf16) (kk : FVec Ideal S256x128 .bf16) (r : Fin 512) (j : Fin 256) :
    scores qq kk (ix2 r j) = ∑ k : Fin 128, qq (ix2 r k) * kk (ix2 j k) := by
  pointwise [scores]

/-- The new maximum at a row: the old one and all the row's scores. -/
theorem newMax_at (s : FVec Ideal S512x256 .f32) (mx : FVec Ideal S512x1 .f32) (r : Fin 512) :
    newMax s mx (ix2 r 0) = max (mx (ix2 r 0)) (Finset.univ.fold max ⊥ fun j : Fin 256 => s (ix2 r j)) := by
  pointwise [newMax]
  rw [ofBits_negInf]

/-- The new accumulator at a row and a lane. -/
theorem newAcc_at (s : FVec Ideal S512x256 .f32) (vv : FVec Ideal S256x128 .bf16) (mx mx' : FVec Ideal S512x1 .f32) (acc : FVec Ideal S512x128 .f32)
    (r : Fin 512) (l : Fin 128) :
    newAcc s vv mx mx' acc (ix2 r l) = Ideal.exp2 (mx (ix2 r 0) - mx' (ix2 r 0)) * acc (ix2 r l) + ∑ j : Fin 256, Ideal.exp2 (s (ix2 r j) - mx' (ix2 r 0)) * vv (ix2 j l) := by
  pointwise [newAcc]
  rfl

/-- The stored tile at a row and a lane: the lower lanes from the upper rows' accumulator, the upper lanes from the lower rows'. -/
theorem fin_at (acc : FVec Ideal S512x128 .f32) (r : Fin 256) (l : Fin 128) :
    fin acc (ix3 0 r l) = if h : (l : ℕ) < 64 then Ideal.div (acc (ix2 ⟨r, by omega⟩ l)) (acc (ix2 ⟨r, by omega⟩ 64))
      else Ideal.div (acc (ix2 ⟨256 + r, by omega⟩ ⟨l - 64, by omega⟩)) (acc (ix2 ⟨256 + r, by omega⟩ 64)) := by
  pointwise [fin, k0_pay277, k0_pay2]
  rw [lane_lt]
  by_cases h : (l : ℕ) < 64
  · rw [if_pos h, dif_pos h]; rfl
  · rw [if_neg h, dif_neg h]
    have e : ((l : ℕ) + 128 - 64) % 128 = (l : ℕ) - 64 := by omega
    simp only [e]; rfl

/-- The factor the queries are scaled by: an eighth over the natural logarithm of two. -/
def scale : EReal := (((1 / 8) * (Real.log 2)⁻¹ : ℝ) : EReal)

/-- The kernel's named constant is that factor. -/
theorem scale_named : Named.named (F := Ideal) κ "scale_log2e" (φ := .f32) 0x3E38AA3B#32 = scale :=
  IdealRules.named_const.ideal_named_scalar _ _ _ _ rfl

/-- The first stream's stacked queries: the tile with the upper lanes zeroed, over the tile with the lower lanes zeroed. -/
theorem q2_at (x : Vec Ideal S1x256x128 .bf16) (r : Fin 512) (l : Fin 128) :
    k0_pay3 (F := Ideal) x (ix2 r l) = if h : (r : ℕ) < 256 then (if (l : ℕ) < 64 then x (ix3 0 ⟨r, h⟩ l) * scale else (0 : EReal))
      else (if (l : ℕ) < 64 then (0 : EReal) else x (ix3 0 ⟨r - 256, by omega⟩ l) * scale) := by
  pointwise [k0_pay3, k0_pay2]
  rw [lane_lt, scale_named]
  by_cases h : (r : ℕ) < 256 <;> by_cases h' : (l : ℕ) < 64 <;> simp only [h, h', dif_pos, dif_neg, if_pos, if_neg, not_false_iff] <;> rfl

/-- The second stream's queries are stacked in the same way. -/
theorem q3_eq (x : Vec Ideal S1x256x128 .bf16) : k0_pay4 (F := Ideal) x = k0_pay3 x := rfl

/-- The maximum starts at minus infinity. -/
theorem m0_at (r : Fin 512) : k0_pay5 (F := Ideal) (ix2 r 0) = (⊥ : EReal) := by
  pointwise [k0_pay5]
  exact ofBits_negInf

/-- The accumulator starts at zero. -/
theorem a0_at (r : Fin 512) (l : Fin 128) : k0_pay6 (F := Ideal) (ix2 r l) = (0 : EReal) := by
  pointwise [k0_pay6]

/-- A tile of one batch read without its unit axis. -/
theorem drop_at {F : FTy → Type} [FloatOps F] (x : Vec F S1x256x128 .bf16) (j : Fin 256) (l : Fin 128) :
    shapeCast S256x128 x shapeCasts_S1x256x128_S256x128 (ix2 j l) = x (ix3 0 j l) := by
  pointwise []

/-- A chunk's row is a row of the staged block. -/
theorem chunk_at (arg : Memref sig .tc .vmem S1x8448x128 .bf16) (f : arg.view.ty.Contents (Elt Ideal)) (n : ℕ) (j : Fin 256) (l : Fin 128) :
    chunk arg f n (ix2 j l) = arg.view.read (Elt Ideal) f (ix3 0 ⟨256 * (n % 33) + j, by omega⟩ l) := by
  unfold chunk
  refine (drop_at _ j l).trans ?_
  rw [View.readAt_eq_ld]
  generalize arg.view.read (Elt Ideal) f = X
  refine congrArg X ?_
  funext a
  fin_cases a <;> exact Fin.ext (by simp [Rect.unit, ix3])
end Cert.KernelIdeal.Attn
-- ==== Proof.Online.lean ====
module

public import Idealize.ShloMosaic.PureOps.Ideal
public import Mathlib.Analysis.SpecialFunctions.Pow.Real

@[expose] public section

noncomputable section
namespace Cert.Online
open Idealize.ShloMosaic

/-- A nonnegative real factor moves into a sum of extended reals. -/
theorem coe_mul_sum {ι : Type} (S : Finset ι) (f : ι → EReal) (c : ℝ) (hc : 0 ≤ c) :
    (c : EReal) * ∑ i ∈ S, f i = ∑ i ∈ S, (c : EReal) * f i := by
  classical
  induction S using Finset.induction_on with
  | empty => simp
  | insert a S h ih =>
    rw [Finset.sum_insert h, Finset.sum_insert h, ← ih]
    exact EReal.left_distrib_of_nonneg_of_ne_top (by exact_mod_cast hc) (EReal.coe_ne_top c) _ _

/-- A sum of reals, as extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The maximum of minus infinity and finitely many reals is minus infinity or real. -/
theorem fold_max_coe {ι : Type} (S : Finset ι) (f : ι → ℝ) :
    (S = ∅ ∧ S.fold max ⊥ (fun i => (f i : EReal)) = ⊥) ∨ ∃ x : ℝ, S.fold max ⊥ (fun i => (f i : EReal)) = x := by
  classical
  induction S using Finset.induction_on with
  | empty => left; simp
  | insert a S h ih =>
    right
    rw [Finset.fold_insert h]
    rcases ih with ⟨_, e⟩ | ⟨x, e⟩
    · exact ⟨f a, by rw [e]; simp⟩
    · exact ⟨max (f a) x, by rw [e]; exact (EReal.coe_strictMono.monotone.map_max).symm⟩

/-- The maximum over a nonempty finite type of reals is real. -/
theorem fold_max_real {ι : Type} [Fintype ι] [Nonempty ι] (f : ι → ℝ) :
    ∃ x : ℝ, Finset.univ.fold max ⊥ (fun i => (f i : EReal)) = x := by
  rcases fold_max_coe Finset.univ f with ⟨e, _⟩ | h
  · exact absurd e Finset.univ_nonempty.ne_empty
  · exact h

/-- The ideal power of two of a real is the real power. -/
theorem exp2_coe (x : ℝ) : Ideal.exp2 (x : EReal) = (((2 : ℝ) ^ x : ℝ) : EReal) := rfl

/-- The ideal exponential of a real is the real exponential. -/
theorem exp_coe (x : ℝ) : Ideal.exp (x : EReal) = ((Real.exp x : ℝ) : EReal) := rfl

/-- The running maximum and the rescaled accumulator: after each further chunk the maximum is some real `x`, and the accumulator is
    the sum over all scores so far of `2` to the score less `x`, times the value. -/
theorem online {ι : Type} [Fintype ι] [Nonempty ι] (σ : ℕ → ι → ℝ) (m : ℕ → EReal) (hm0 : m 0 = ⊥)
    (hm : ∀ n, m (n + 1) = max (m n) (Finset.univ.fold max ⊥ fun j => (σ n j : EReal))) (n : ℕ) :
    ∃ x : ℝ, m (n + 1) = x ∧ ∀ (V : ℕ → ι → EReal) (a : ℕ → EReal), a 0 = 0 →
      (∀ n, a (n + 1) = Ideal.exp2 (m n - m (n + 1)) * a n + ∑ j, Ideal.exp2 ((σ n j : EReal) - m (n + 1)) * V n j) →
      a (n + 1) = ∑ k ∈ Finset.range (n + 1), ∑ j, (((2 : ℝ) ^ (σ k j - x) : ℝ) : EReal) * V k j := by
  induction n with
  | zero =>
    obtain ⟨x, hx⟩ := fold_max_real (σ 0)
    have h1 : m 1 = x := by rw [hm 0, hm0, hx]; simp
    refine ⟨x, h1, fun V a ha0 ha => ?_⟩
    rw [ha 0, ha0, mul_zero, zero_add, Finset.sum_range_one, h1]
    refine Finset.sum_congr rfl fun j _ => ?_
    rw [← EReal.coe_sub, exp2_coe]
  | succ n ih =>
    obtain ⟨x, hx, hacc⟩ := ih
    obtain ⟨y, hy⟩ := fold_max_real (σ (n + 1))
    have h1 : m (n + 1 + 1) = (max x y : ℝ) := by
      rw [hm (n + 1), hx, hy]; exact (EReal.coe_strictMono.monotone.map_max).symm
    refine ⟨max x y, h1, fun V a ha0 ha => ?_⟩
    rw [ha (n + 1), hacc V a ha0 ha, Finset.sum_range_succ _ (n + 1), hx, h1]
    congr 1
    · rw [← EReal.coe_sub, exp2_coe, coe_mul_sum _ _ _ (Real.rpow_nonneg (by norm_num) _)]
      refine Finset.sum_congr rfl fun k _ => ?_
      rw [coe_mul_sum _ _ _ (Real.rpow_nonneg (by norm_num) _)]
      refine Finset.sum_congr rfl fun j _ => ?_
      rw [← mul_assoc, ← EReal.coe_mul, ← Real.rpow_add (by norm_num)]
      congr 3; ring

/-- Dividing a weighted sum by a positive real divides the weights. -/
theorem div_sum {ι : Type} (S : Finset ι) (w : ι → ℝ) (V : ι → EReal) (L : ℝ) (hL : 0 < L) :
    Ideal.div (∑ i ∈ S, (w i : EReal) * V i) (L : EReal) = ∑ i ∈ S, ((w i / L : ℝ) : EReal) * V i := by
  rw [Ideal.div_coe hL.ne', mul_comm, coe_mul_sum _ _ _ (by positivity)]
  refine Finset.sum_congr rfl fun i _ => ?_
  rw [← mul_assoc, ← EReal.coe_mul]
  congr 2; ring

/-- The chunked softmax: the accumulator over the row sum is the sum of the values weighted by the softmax of the scores `t`,
    where the running scores are `t` over the logarithm of two. -/
theorem chunked_softmax {ι : Type} [Fintype ι] [Nonempty ι] (t : ℕ → ι → ℝ) (m : ℕ → EReal) (hm0 : m 0 = ⊥)
    (hm : ∀ n, m (n + 1) = max (m n) (Finset.univ.fold max ⊥ fun j => ((t n j / Real.log 2 : ℝ) : EReal)))
    (V : ℕ → ι → EReal) (a l : ℕ → EReal) (ha0 : a 0 = 0) (hl0 : l 0 = 0)
    (ha : ∀ n, a (n + 1) = Ideal.exp2 (m n - m (n + 1)) * a n + ∑ j, Ideal.exp2 (((t n j / Real.log 2 : ℝ) : EReal) - m (n + 1)) * V n j)
    (hl : ∀ n, l (n + 1) = Ideal.exp2 (m n - m (n + 1)) * l n + ∑ j, Ideal.exp2 (((t n j / Real.log 2 : ℝ) : EReal) - m (n + 1)) * 1) (n : ℕ) :
    Ideal.div (a (n + 1)) (l (n + 1)) =
      ∑ p ∈ Finset.range (n + 1) ×ˢ Finset.univ, ((Real.exp (t p.1 p.2) / ∑ q ∈ Finset.range (n + 1) ×ˢ Finset.univ, Real.exp (t q.1 q.2) : ℝ) : EReal) * V p.1 p.2 := by
  obtain ⟨x, _, h⟩ := online (fun n j => t n j / Real.log 2) m hm0 hm n
  have hlog : Real.log 2 ≠ 0 := (Real.log_pos (by norm_num)).ne'
  have e : ∀ k j, (2 : ℝ) ^ (t k j / Real.log 2 - x) = Real.exp (t k j) * (2 : ℝ) ^ (-x) := fun k j => by
    rw [sub_eq_add_neg, Real.rpow_add (by norm_num), Real.rpow_def_of_pos (by norm_num : (0 : ℝ) < 2), mul_div_cancel₀ _ hlog]
  have hZ : 0 < ∑ q ∈ Finset.range (n + 1) ×ˢ (Finset.univ : Finset ι), Real.exp (t q.1 q.2) :=
    Finset.sum_pos (fun _ _ => Real.exp_pos _) ⟨(0, Classical.arbitrary ι), by simp⟩
  have hc : (0 : ℝ) < (2 : ℝ) ^ (-x) := Real.rpow_pos_of_pos (by norm_num) _
  rw [h V a ha0 ha, h (fun _ _ => 1) l hl0 hl, ← Finset.sum_product', ← Finset.sum_product']
  simp only [mul_one, ← coe_sum]
  rw [div_sum]
  · refine Finset.sum_congr rfl fun p _ => ?_
    congr 2
    simp only [e, ← Finset.sum_mul]
    rw [mul_div_mul_right _ _ hc.ne']
  · exact Finset.sum_pos (fun _ _ => Real.rpow_pos_of_pos (by norm_num) _) ⟨(0, Classical.arbitrary ι), by simp⟩

/-- The plain softmax of real scores shifted by their maximum is the exponential over the sum of the exponentials. -/
theorem plain_softmax {ι : Type} [Fintype ι] [Nonempty ι] (t : ι → ℝ) (i : ι) :
    Ideal.div (Ideal.exp ((t i : EReal) - max ⊥ (Finset.univ.fold max ⊥ fun j => (t j : EReal))))
      (0 + ∑ k, Ideal.exp ((t k : EReal) - max ⊥ (Finset.univ.fold max ⊥ fun j => (t j : EReal))))
      = ((Real.exp (t i) / ∑ k, Real.exp (t k) : ℝ) : EReal) := by
  obtain ⟨x, hx⟩ := fold_max_real t
  have hZ : 0 < ∑ k, Real.exp (t k - x) := Finset.sum_pos (fun _ _ => Real.exp_pos _) Finset.univ_nonempty
  simp only [hx, bot_le, max_eq_right, ← EReal.coe_sub, exp_coe, zero_add, ← coe_sum]
  rw [Ideal.div_coe hZ.ne', ← EReal.coe_mul]
  congr 1
  simp only [Real.exp_sub, ← Finset.sum_div]
  have := (Real.exp_pos x).ne'
  have : (∑ k, Real.exp (t k)) ≠ 0 := (Finset.sum_pos (fun _ _ => Real.exp_pos _) Finset.univ_nonempty).ne'
  field_simp

end Cert.Online
-- ==== Proof.Block.lean ====
module

public import proofs.«01_k».proof.Proof.Pay
public import proofs.«01_k».proof.Proof.Online

@[expose] public section

set_option maxRecDepth 16384

noncomputable section
namespace Cert.KernelIdeal.Attn
open Cert.KernelIdeal Cert.KernelIdeal.Gen Idealize.ShloMosaic Idealize.ShloMosaic.TcCoe Idealize.SL.Sem

/-- One stacked query row after all chunks: its accumulator over its row sum (lane 64, where the values are one) is the sum of the
    values weighted by the softmax of the scores. -/
theorem stack_softmax (qq : FVec Ideal S512x128 .bf16) (K V : ℕ → FVec Ideal S256x128 .bf16) (ρ : Fin 512) (l : Fin 128) (t : ℕ → Fin 256 → ℝ)
    (hs : ∀ n j, ∑ k : Fin 128, qq (ix2 ρ k) * K n (ix2 j k) = ((t n j / Real.log 2 : ℝ) : EReal)) (h1 : ∀ n j, V n (ix2 j 64) = (1 : EReal)) :
    Ideal.div (accAt qq K V 33 (ix2 ρ l)) (accAt qq K V 33 (ix2 ρ 64)) =
      ∑ p ∈ Finset.range 33 ×ˢ Finset.univ, ((Real.exp (t p.1 p.2) / ∑ q ∈ Finset.range 33 ×ˢ Finset.univ, Real.exp (t q.1 q.2) : ℝ) : EReal) * V p.1 (ix2 p.2 l) := by
  refine Online.chunked_softmax t (fun n => maxAt qq K n (ix2 ρ 0)) (m0_at ρ) (fun n => ?_) (fun n j => V n (ix2 j l))
    (fun n => accAt qq K V n (ix2 ρ l)) (fun n => accAt qq K V n (ix2 ρ 64)) (a0_at ρ l) (a0_at ρ 64) (fun n => ?_) (fun n => ?_) 32
  · refine (newMax_at _ _ ρ).trans ?_
    simp only [scores_at, hs]
  · refine (newAcc_at _ _ _ _ _ ρ l).trans ?_
    simp only [scores_at, hs]
  · refine (newAcc_at _ _ _ _ _ ρ 64).trans ?_
    simp only [scores_at, hs, h1]

/-- A sum over 33 chunks of 256 is the sum over 8448. -/
theorem sum_chunks {M : Type} [AddCommMonoid M] (f : Fin 8448 → M) :
    ∑ p ∈ Finset.range 33 ×ˢ (Finset.univ : Finset (Fin 256)), f ⟨256 * (p.1 % 33) + p.2, by omega⟩ = ∑ s, f s := by
  rw [Finset.sum_product, Finset.sum_range, Fin.sum_univ_tiles 33 256 rfl f]
  refine Finset.sum_congr rfl fun n _ => Finset.sum_congr rfl fun j _ => congrArg f (Fin.ext ?_)
  simp only [Nat.mod_eq_of_lt n.isLt]; omega

/-- One stream's stored tile at a row and a lane: the values weighted by the softmax of that row's scores, where the row has the lanes of
    the other half zeroed and the value lane is counted within the half. -/
theorem tile_softmax (q : Vec Ideal S1x256x128 .bf16) (K V : ℕ → FVec Ideal S256x128 .bf16) (x1 x2 : Vec Ideal S1x8448x128 .bf16)
    (r : Fin 256) (l : Fin 128) (t : Fin 8448 → ℝ)
    (hK : ∀ n j k, K n (ix2 j k) = x1 (ix3 0 ⟨256 * (n % 33) + j, by omega⟩ k))
    (hV : ∀ n j k, V n (ix2 j k) = x2 (ix3 0 ⟨256 * (n % 33) + j, by omega⟩ k))
    (hs : ∀ s : Fin 8448, ∑ k : Fin 128, (if (l : ℕ) < 64 ↔ (k : ℕ) < 64 then q (ix3 0 r k) * scale else (0 : EReal)) * x1 (ix3 0 s k) = ((t s / Real.log 2 : ℝ) : EReal))
    (hone : ∀ s : Fin 8448, x2 (ix3 0 s 64) = (1 : EReal)) :
    fin (accAt (k0_pay3 q) K V 33) (ix3 0 r l) =
      ∑ s : Fin 8448, ((Real.exp (t s) / ∑ s, Real.exp (t s) : ℝ) : EReal) * x2 (ix3 0 s ⟨(l : ℕ) % 64, by omega⟩) := by
  have key : ∀ (ρ : Fin 512) (l' : Fin 128), l' = ⟨(l : ℕ) % 64, by omega⟩ →
      (∀ k : Fin 128, k0_pay3 (F := Ideal) q (ix2 ρ k) = if (l : ℕ) < 64 ↔ (k : ℕ) < 64 then q (ix3 0 r k) * scale else (0 : EReal)) →
      Ideal.div (accAt (k0_pay3 q) K V 33 (ix2 ρ l')) (accAt (k0_pay3 q) K V 33 (ix2 ρ 64)) =
        ∑ s : Fin 8448, ((Real.exp (t s) / ∑ s, Real.exp (t s) : ℝ) : EReal) * x2 (ix3 0 s ⟨(l : ℕ) % 64, by omega⟩) := by
    intro ρ l' hl hq
    rw [stack_softmax (k0_pay3 q) K V ρ l' (fun n j => t ⟨256 * (n % 33) + j, by omega⟩)
      (fun n j => by simp only [hq, hK, hs]) (fun n j => by rw [hV, hone])]
    rw [sum_chunks fun s => Real.exp (t s)]
    rw [← sum_chunks fun s => ((Real.exp (t s) / ∑ s, Real.exp (t s) : ℝ) : EReal) * x2 (ix3 0 s ⟨(l : ℕ) % 64, by omega⟩)]
    refine Finset.sum_congr rfl fun p _ => ?_
    rw [hV, hl]
  rw [fin_at]
  by_cases h : (l : ℕ) < 64
  · rw [dif_pos h]
    refine key ⟨r, by omega⟩ l (Fin.ext (by show (l : ℕ) = (l : ℕ) % 64; omega)) fun k => ?_
    rw [q2_at, dif_pos (by exact r.isLt)]
    simp only [h, true_iff]
  · rw [dif_neg h]
    refine key ⟨256 + r, by omega⟩ ⟨l - 64, by omega⟩ (Fin.ext (by show (l : ℕ) - 64 = (l : ℕ) % 64; omega)) fun k => ?_
    rw [q2_at, dif_neg (by show ¬ 256 + (r : ℕ) < 256; omega)]
    have e : (⟨256 + (r : ℕ) - 256, by omega⟩ : Fin 256) = r := Fin.ext (by show 256 + (r : ℕ) - 256 = r; omega)
    by_cases h' : (k : ℕ) < 64
    · simp [h, h']
    · simp only [h, h', if_false, if_true, iff_self]; rw [show (⟨(⟨256 + (r : ℕ), by omega⟩ : Fin 512) - 256, by simp⟩ : Fin 256) = r from e]

/-- A query tile's row is a row of the staged block. -/
theorem qtile_at (arg : Memref sig .tc .vmem S1x512x128 .bf16) (harg : arg.IsWhole) (x0 : Vec Ideal S1x512x128 .bf16) (o : ℕ)
    (ho : ∀ d : Fin 3, (![0, o, 0] : Fin 3 → ℕ) d + S1x256x128.size d ≤ S1x512x128.size d) (r : Fin 256) (k : Fin 128) (R : Fin 512) (hR : (R : ℕ) = o + r) :
    arg.view.readAt (Elt Ideal) (Rect.unit (s := S1x512x128) ![0, o, 0] S1x256x128.size ho).toLoadRect (harg.unread x0) (ix3 0 r k) = x0 (ix3 0 R k) := by
  rw [View.readAt_eq_ld, harg.read_unread]
  refine congrArg x0 ?_
  funext a
  fin_cases a <;> exact Fin.ext (by simp [Rect.unit, ix3, hR])

/-- What a query row of the block ends with at a lane: the values weighted by the softmax of its scores, the row being the block's with
    the lanes of the other half zeroed, and the value lane being counted within the half. -/
theorem block_softmax (c : Dev nD) (i : grid0.Coords) (arg3 : Memref sig .tc .vmem S1x512x128 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x128 .bf16) (harg6 : arg6.IsWhole)
    (x0 : Vec Ideal S1x512x128 .bf16) (x1 : Vec Ideal S1x8448x128 .bf16) (x2 : Vec Ideal S1x8448x128 .bf16) (r : Fin 512) (l : Fin 128) (t : Fin 8448 → ℝ)
    (hs : ∀ s : Fin 8448, ∑ k : Fin 128, (if (l : ℕ) < 64 ↔ (k : ℕ) < 64 then x0 (ix3 0 r k) * scale else 0) * x1 (ix3 0 s k) = ((t s / Real.log 2 : ℝ) : EReal))
    (hone : ∀ s : Fin 8448, x2 (ix3 0 s 64) = (1 : EReal)) :
    out0_A_3 c i arg3 harg3 arg4 harg4 arg5 harg5 arg6 harg6 x0 x1 x2 (ix3 0 r l) =
      ∑ s : Fin 8448, ((Real.exp (t s) / ∑ s, Real.exp (t s) : ℝ) : EReal) * x2 (ix3 0 s ⟨(l : ℕ) % 64, by omega⟩) := by
  have hK : ∀ n j k, chunk arg4 (harg4.unread x1) n (ix2 j k) = x1 (ix3 0 ⟨256 * (n % 33) + j, by omega⟩ k) := fun n j k => by
    rw [chunk_at, harg4.read_unread]
  have hV : ∀ n j k, chunk arg5 (harg5.unread x2) n (ix2 j k) = x2 (ix3 0 ⟨256 * (n % 33) + j, by omega⟩ k) := fun n j k => by
    rw [chunk_at, harg5.read_unread]
  unfold out0_A_3
  rw [View.read_writes_eq_canon _ _ _ (cover0_A_3 c i arg3 harg3 arg4 harg4 arg5 harg5 arg6 harg6 x0 x1 x2), pieces_eq]
  canon_tiles y e
  all_goals
    idx_vars y
    obtain rfl : l = y2 := Fin.ext e2
    obtain rfl : y0 = 0 := Subsingleton.elim _ _
    first | rw [q3_eq] | skip
    refine tile_softmax _ _ _ x1 x2 y1 l t hK hV (fun s => ?_) hone
    rw [← hs s]
    refine Finset.sum_congr rfl fun k _ => ?_
  · rw [qtile_at arg3 harg3 x0 256 _ y1 k r e1]
  · rw [qtile_at arg3 harg3 x0 0 _ y1 k r (e1.trans (Nat.zero_add _).symm)]

end Cert.KernelIdeal.Attn
-- ==== Proof.Entry.lean ====
module

public import proofs.«01_k».proof.Proof.Block
public import Idealize.ShloMosaic.Lib.Claim

@[expose] public section

set_option maxRecDepth 16384

noncomputable section
namespace Cert.KernelIdeal.Attn
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- The blocks a grid step stages and writes: batch, query tile and head pair, and for the keys and values the pair's key head. -/
theorem idx : ∀ t : Fin cfg0.N, win0_0.index t = ![t.val / 64, t.val % 16, t.val / 16 % 4] ∧ win0_1.index t = ![t.val / 64, 0, t.val / 32 % 2]
    ∧ win0_2.index t = ![t.val / 64, 0, t.val / 32 % 2] ∧ win0_3.index t = ![t.val / 64, t.val % 16, t.val / 16 % 4] :=
  (by decide +kernel : ∀ t : Fin grid0.N, _)

/-- A step's batch is one of two. -/
theorem lt64 (t : Fin cfg0.N) : t.val / 64 < 2 := by
  have := t.isLt; have : cfg0.N = 128 := by decide +kernel
  omega

/-- The staged key array: each key head twice, side by side. -/
def keys (X : FVec Ideal S2x8448x128 .f32) : FVec Ideal S2x8448x256 .bf16 :=
  shapeCast _ (broadcastInDim S2x8448x2x2x64 ![0, 1, 2, 3, 4] bcast_S2x8448x2x1x64_S2x8448x2x2x64_0_1_2_3_4
    (shapeCast _ (truncf .bf16 X bitsLt_bf16_f32 : FVec Ideal S2x8448x128 .bf16) shapeCasts_S2x8448x128_S2x8448x2x1x64 : FVec Ideal S2x8448x2x1x64 .bf16)
    : FVec Ideal S2x8448x2x2x64 .bf16) shapeCasts_S2x8448x2x2x64_S2x8448x256

/-- The staged value array: each value head followed by 64 lanes of ones. -/
def vals (X : FVec Ideal S2x8448x128 .f32) : FVec Ideal S2x8448x256 .bf16 :=
  shapeCast _ (pad S2x8448x2x128 ![0, 0, 0, 0] ![0, 0, 0, 64] ![0, 0, 0, 0]
    (shapeCast _ (truncf .bf16 X bitsLt_bf16_f32 : FVec Ideal S2x8448x128 .bf16) shapeCasts_S2x8448x128_S2x8448x2x64 : FVec Ideal S2x8448x2x64 .bf16)
    (constant S_ .bf16 0x3F80#16 : FVec Ideal S_ .bf16) pads_S2x8448x2x64_S2x8448x2x128_000_000_000_0640 h_S_ : FVec Ideal S2x8448x2x128 .bf16) shapeCasts_S2x8448x2x128_S2x8448x256

/-- The staged key array at a lane is the key head of the lane's pair, at the lane within the head. -/
theorem keys_at (X : FVec Ideal S2x8448x128 .f32) (b : Fin 2) (s : Fin 8448) (l : Fin 256) :
    keys X (ix3 b s l) = X (ix3 b s ⟨l / 128 * 64 + l % 64, by omega⟩) := by
  pointwise [keys]

/-- The staged value array at a lane: the value head's lane, or one in the upper half. -/
theorem vals_at (X : FVec Ideal S2x8448x128 .f32) (b : Fin 2) (s : Fin 8448) (l : Fin 256) :
    vals X (ix3 b s l) = if (l : ℕ) % 128 < 64 then X (ix3 b s ⟨l / 128 * 64 + l % 64, by omega⟩) else (1 : EReal) := by
  pointwise [vals]
  have h2 : (l : ℕ) / 128 < 2 := by omega
  by_cases h : (l : ℕ) % 128 < 64
  · have e : (⟨l / 128 * 64 + l % 128, by omega⟩ : Fin 128) = ⟨l / 128 * 64 + l % 64, by omega⟩ := Fin.ext (by simp only; omega)
    refine (dif_pos ⟨h2, h⟩).trans (Eq.trans ?_ (if_pos h).symm)
    exact congrArg (fun k => X (ix3 b s k)) e
  · simp only [h, and_false, dif_neg, not_false_iff, if_false]

/-- The staged queries are the argument, cast. -/
theorem V_v0 (c : Dev nD) : V m c main_v0 = (truncf .bf16 (m ((c : Thread nD τ).loc main_arg0)) bitsLt_bf16_f32 : FVec Ideal S2x8192x512 .bf16) := by
  entry_read
  rfl

/-- The staged keys are the argument's, each head twice. -/
theorem V_v4 (c : Dev nD) : V m c main_v4 = keys (m ((c : Thread nD τ).loc main_arg1)) := by
  entry_read
  rfl

/-- The staged values are the argument's, each head padded with ones. -/
theorem V_v8 (c : Dev nD) : V m c main_v8 = vals (m ((c : Thread nD τ).loc main_arg2)) := by
  entry_read
  rfl

/-- Where a step's query block lies in the query array. -/
theorem emb_q (t : Fin cfg0.N) (r : Fin 512) (k : Fin 128) :
    ((cfg0.win 0).blk t).view.emb (ix3 0 r k) = (ix3 ⟨t.val / 64, lt64 t⟩ ⟨t.val % 16 * 512 + r, by omega⟩ ⟨t.val / 16 % 4 * 128 + k, by omega⟩ : S2x8192x512.Idx) := by
  blk_ext [idx t]

/-- Where a step's key block lies in the key array. -/
theorem emb_k (t : Fin cfg0.N) (s : Fin 8448) (k : Fin 128) :
    ((cfg0.win 1).blk t).view.emb (ix3 0 s k) = (ix3 ⟨t.val / 64, lt64 t⟩ s ⟨t.val / 32 % 2 * 128 + k, by omega⟩ : S2x8448x256.Idx) := by
  blk_ext [idx t]

/-- Where a step's value block lies in the value array. -/
theorem emb_v (t : Fin cfg0.N) (s : Fin 8448) (k : Fin 128) :
    ((cfg0.win 2).blk t).view.emb (ix3 0 s k) = (ix3 ⟨t.val / 64, lt64 t⟩ s ⟨t.val / 32 % 2 * 128 + k, by omega⟩ : S2x8448x256.Idx) := by
  blk_ext [idx t]

/-- Where a step's result block lies in the result. -/
theorem emb_o (t : Fin cfg0.N) (r : Fin 512) (k : Fin 128) :
    ((cfg0.win 3).blk t).view.emb (ix3 0 r k) = (ix3 ⟨t.val / 64, lt64 t⟩ ⟨t.val % 16 * 512 + r, by omega⟩ ⟨t.val / 16 % 4 * 128 + k, by omega⟩ : S2x8192x512.Idx) := by
  blk_ext [idx t]

end Cert.KernelIdeal.Attn
-- ==== Proof.At.lean ====
module

public import proofs.«01_k».proof.Proof.Entry

@[expose] public section

set_option maxRecDepth 16384

noncomputable section
namespace Cert.KernelIdeal.Attn
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- A query the step stages is the argument's. -/
theorem q_at (c : Dev nD) (t : Fin cfg0.N) (r : Fin 512) (k : Fin 128) :
    (iblk m c 0 t (ix3 0 r k) : EReal) = m ((c : Thread nD τ).loc main_arg0) (ix3 ⟨t.val / 64, lt64 t⟩ ⟨t.val % 16 * 512 + r, by omega⟩ ⟨t.val / 16 % 4 * 128 + k, by omega⟩ : S2x8192x512.Idx) := by
  have e := emb_q t r k
  have v := V_v0 m c
  blk_simp [iblk]
  generalize V m c main_v0 = W at v ⊢
  subst v
  exact congrArg (m ((c : Thread nD τ).loc main_arg0)) e

/-- A key the step stages is the argument's, of the pair's key head. -/
theorem k_at (c : Dev nD) (t : Fin cfg0.N) (s : Fin 8448) (k : Fin 128) :
    (iblk m c 1 t (ix3 0 s k) : EReal) = m ((c : Thread nD τ).loc main_arg1) (ix3 ⟨t.val / 64, lt64 t⟩ s ⟨t.val / 32 % 2 * 64 + k % 64, by omega⟩ : S2x8448x128.Idx) := by
  have e := emb_k t s k
  have v := V_v4 m c
  have h := keys_at (m ((c : Thread nD τ).loc main_arg1)) ⟨t.val / 64, lt64 t⟩ s ⟨t.val / 32 % 2 * 128 + k, by omega⟩
  blk_simp [iblk]
  generalize V m c main_v4 = W at v ⊢
  subst v
  refine (congrArg (keys (m ((c : Thread nD τ).loc main_arg1))) e).trans (h.trans ?_)
  refine congrArg (fun j => m ((c : Thread nD τ).loc main_arg1) (ix3 ⟨t.val / 64, lt64 t⟩ s j : S2x8448x128.Idx)) (Fin.ext ?_)
  simp only; omega

/-- A staged value array's lane below 64 of a head is that head's value. -/
theorem vals_lo (X : FVec Ideal S2x8448x128 .f32) (b : Fin 2) (s : Fin 8448) (g : ℕ) (hg : g < 2) (k : Fin 128) (hk : (k : ℕ) < 64) :
    vals X (ix3 b s ⟨g * 128 + k, by omega⟩) = X (ix3 b s ⟨g * 64 + k, by omega⟩) := by
  rw [vals_at, if_pos (by simp only; omega)]
  exact congrArg (fun j => X (ix3 b s j)) (Fin.ext (by simp only; omega))

/-- Its other lanes hold one. -/
theorem vals_hi (X : FVec Ideal S2x8448x128 .f32) (b : Fin 2) (s : Fin 8448) (g : ℕ) (hg : g < 2) (k : Fin 128) (hk : ¬ (k : ℕ) < 64) :
    vals X (ix3 b s ⟨g * 128 + k, by omega⟩) = (1 : EReal) := by
  rw [vals_at, if_neg (by simp only; omega)]

/-- The value block a step stages is the value array read through the step's window. -/
theorem iblk_v (c : Dev nD) (t : Fin cfg0.N) (s : Fin 8448) (k : Fin 128) :
    (iblk m c 2 t (ix3 0 s k) : EReal) = V m c main_v8 (((cfg0.win 2).blk t).view.emb (ix3 0 s k)) := by
  unfold iblk
  generalize V m c = W
  rw [View.read_apply, cast_eq]

/-- A value the step stages is the argument's, of the pair's key head. -/
theorem v_at (c : Dev nD) (t : Fin cfg0.N) (s : Fin 8448) (k : Fin 128) (hk : (k : ℕ) < 64) :
    (iblk m c 2 t (ix3 0 s k) : EReal) = m ((c : Thread nD τ).loc main_arg2) (ix3 ⟨t.val / 64, lt64 t⟩ s ⟨t.val / 32 % 2 * 64 + k, by omega⟩ : S2x8448x128.Idx) := by
  have e := emb_v t s k
  have v := V_v8 m c
  have h := vals_lo (m ((c : Thread nD τ).loc main_arg2)) ⟨t.val / 64, lt64 t⟩ s (t.val / 32 % 2) (by omega) k hk
  refine (iblk_v m c t s k).trans ?_
  generalize V m c main_v8 = W at v ⊢
  subst v
  exact (congrArg (vals (m ((c : Thread nD τ).loc main_arg2))) e).trans h

/-- The upper lanes of a staged value are one. -/
theorem one_at (c : Dev nD) (t : Fin cfg0.N) (s : Fin 8448) (k : Fin 128) (hk : ¬ (k : ℕ) < 64) :
    (iblk m c 2 t (ix3 0 s k) : EReal) = (1 : EReal) := by
  have e := emb_v t s k
  have v := V_v8 m c
  have h := vals_hi (m ((c : Thread nD τ).loc main_arg2)) ⟨t.val / 64, lt64 t⟩ s (t.val / 32 % 2) (by omega) k hk
  refine (iblk_v m c t s k).trans ?_
  generalize V m c main_v8 = W at v ⊢
  subst v
  exact (congrArg (vals (m ((c : Thread nD τ).loc main_arg2))) e).trans h

end Cert.KernelIdeal.Attn
-- ==== Proof.Ref.lean ====
module

public import proofs.«01_k».proof.Proof.Online
public import proofs.«01_k».proof.Proof.Gen.ReferenceIdeal.Run
public import Idealize.ShloMosaic.Lib.Pointwise

@[expose] public section

set_option maxRecDepth 16384

noncomputable section
namespace Cert.ReferenceIdeal.Attn
open Cert.ReferenceIdeal Cert.ReferenceIdeal.Gen Idealize.ShloMosaic Idealize.ShloMosaic.TcCoe Idealize.SL.Sem

/-- The scores as the reference takes them: queries against keys, times an eighth. -/
def scores (Q : FVec Ideal S2x8192x512 .f32) (K : FVec Ideal S2x8448x128 .f32) : FVec Ideal S2x2x4x8192x8448 .f32 :=
  mulf (transpose S2x2x4x8192x8448 [0, 1, 4, 3, 2] (Host.dotGeneral dot_S2x8448x2x64_S2x8192x2x4x64_S2x2x8448x8192x4_3_4_1_13_02_02 none (shapeCast _ K shapeCasts_S2x8448x128_S2x8448x2x64) (shapeCast _ Q shapeCasts_S2x8192x512_S2x8192x2x4x64)) transposes_S2x2x8448x8192x4_S2x2x4x8192x8448_0_1_4_3_2) (broadcastInDim S2x2x4x8192x8448 ![] bcast_S_S2x2x4x8192x8448 (constant S_ .f32 0x3E000000#32))

/-- A row maximum, as the reference takes it. -/
def rowMax (s : FVec Ideal S2x2x4x8192x8448 .f32) : FVec Ideal S2x2x4x8192 .f32 :=
  Host.reduce FloatOps.maximumf s (constant S_ .f32 0xFF800000#32) reducesTo_S2x2x4x8192x8448_S2x2x4x8192_d4 h_S_

/-- The exponentials of the scores less their row maximum. -/
def exps (s : FVec Ideal S2x2x4x8192x8448 .f32) (M : FVec Ideal S2x2x4x8192 .f32) : FVec Ideal S2x2x4x8192x8448 .f32 :=
  Host.exp (subf s (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3
    (maximumf (broadcastInDim S2x2x4x8192 ![] bcast_S_S2x2x4x8192 (constant S_ .f32 0xFF800000#32)) M))))

/-- The weights: the exponentials over their row sums. -/
def weights (e : FVec Ideal S2x2x4x8192x8448 .f32) : FVec Ideal S2x2x4x8192x8448 .f32 :=
  Host.divf e (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3
    (Host.reduceAdd e (constant S_ .f32 0x00000000#32) reducesTo_S2x2x4x8192x8448_S2x2x4x8192_d4 h_S_)))

/-- The weighted values, heads side by side. -/
def out (p : FVec Ideal S2x2x4x8192x8448 .f32) (V : FVec Ideal S2x8448x128 .f32) : FVec Ideal S2x8192x512 .bf16 :=
  truncf .bf16 (shapeCast _ (transpose S2x8192x2x4x64 [0, 4, 1, 3, 2] (Host.dotGeneral dot_S2x8448x2x64_S2x2x4x8192x8448_S2x2x64x4x8192_1_4_3_23_02_01 none (shapeCast _ V shapeCasts_S2x8448x128_S2x8448x2x64) p) transposes_S2x2x64x4x8192_S2x8192x2x4x64_0_4_1_3_2) shapeCasts_S2x8192x2x4x64_S2x8192x512) bitsLt_bf16_f32

/-- The reference's result. -/
def REF (Q : FVec Ideal S2x8192x512 .f32) (K V : FVec Ideal S2x8448x128 .f32) : FVec Ideal S2x8192x512 .bf16 :=
  out (weights (exps (scores Q K) (rowMax (scores Q K)))) V

/-- The bit pattern of minus infinity is the least extended real. -/
theorem ofBits_negInf : Ideal.ofBits .f32 0xFF800000#32 = ⊥ := by
  simp [Ideal.ofBits, Ideal.ieee]

/-- The bit pattern of an eighth. -/
theorem ofBits_eighth : Ideal.ofBits .f32 0x3E000000#32 = ((1 / 8 : ℝ) : EReal) := by
  simp [Ideal.ofBits, Ideal.ieee, -EReal.coe_mul]; norm_num

/-- A score at an index. -/
theorem scores_at (Q : FVec Ideal S2x8192x512 .f32) (K : FVec Ideal S2x8448x128 .f32) (b : Fin 2) (g : Fin 2) (h : Fin 4) (n : Fin 8192) (s : Fin 8448) :
    scores Q K (ix5 b g h n s) = (∑ d : Fin 64, K (ix3 b s ⟨g * 64 + d, by omega⟩) * Q (ix3 b n ⟨g * 256 + h * 64 + d, by omega⟩)) * ((1 / 8 : ℝ) : EReal) := by
  rw [← ofBits_eighth]
  pointwise [scores]

/-- A maximum over the last of five axes is the fold of the maximum along it. -/
theorem hostMax_at {n0 n1 n2 n3 n4 : ℕ} {u : Shape} (h : (⟨5, ![n0, n1, n2, n3, n4]⟩ : Shape).ReducesTo [4] ⟨4, ![n0, n1, n2, n3]⟩) (hu : 0 < u.numel)
    (x : FVec Ideal ⟨5, ![n0, n1, n2, n3, n4]⟩ .f32) (init : u.Idx → EReal) (a : Fin n0) (b : Fin n1) (c : Fin n2) (d : Fin n3) :
    Host.reduce (FloatOps.maximumf (F := Ideal) (φ := .f32)) x init h hu (ix4 a b c d) = Finset.univ.fold max (init (Shape.Idx.first hu)) fun k : Fin n4 => (x (ix5 a b c d k) : EReal) := by
  pointwise []

/-- The exponentials at an index. -/
theorem exps_at (x : FVec Ideal S2x2x4x8192x8448 .f32) (M : FVec Ideal S2x2x4x8192 .f32) (b : Fin 2) (g : Fin 2) (h : Fin 4) (n : Fin 8192) (s : Fin 8448) :
    exps x M (ix5 b g h n s) = Ideal.exp (x (ix5 b g h n s) - max ⊥ (M (ix4 b g h n))) := by
  rw [← ofBits_negInf]
  pointwise [exps]

/-- The softmax weights at an index. -/
theorem weights_at (e : FVec Ideal S2x2x4x8192x8448 .f32) (b : Fin 2) (g : Fin 2) (h : Fin 4) (n : Fin 8192) (s : Fin 8448) :
    weights e (ix5 b g h n s) = Ideal.div (e (ix5 b g h n s)) (0 + ∑ s, e (ix5 b g h n s)) := by
  pointwise [weights]

/-- The weighted sum of the values at an index. -/
theorem out_at (p : FVec Ideal S2x2x4x8192x8448 .f32) (V : FVec Ideal S2x8448x128 .f32) (b : Fin 2) (n : Fin 8192) (l : Fin 512) :
    out p V (ix3 b n l) = ∑ s : Fin 8448, V (ix3 b s ⟨l / 256 * 64 + l % 64, by omega⟩) * p (ix5 b ⟨l / 256, by omega⟩ ⟨l / 64 % 4, by omega⟩ n s) := by
  pointwise [out]

/-- A row maximum at an index. -/
theorem rowMax_at (x : FVec Ideal S2x2x4x8192x8448 .f32) (b : Fin 2) (g : Fin 2) (h : Fin 4) (n : Fin 8192) :
    rowMax x (ix4 b g h n) = Finset.univ.fold max ⊥ fun s => (x (ix5 b g h n s) : EReal) := by
  refine (hostMax_at reducesTo_S2x2x4x8192x8448_S2x2x4x8192_d4 h_S_ x _ b g h n).trans ?_
  rw [show (constant S_ .f32 0xFF800000#32 : FVec Ideal S_ .f32) (Shape.Idx.first h_S_) = (⊥ : EReal) from ofBits_negInf]

/-- The reference's result at an index whose row of scores is real: the values weighted by the softmax of the scores. -/
theorem REF_at (Q : FVec Ideal S2x8192x512 .f32) (K V : FVec Ideal S2x8448x128 .f32) (b : Fin 2) (n : Fin 8192) (l : Fin 512) (t : Fin 8448 → ℝ)
    (ht : ∀ s, scores Q K (ix5 b ⟨l / 256, by omega⟩ ⟨l / 64 % 4, by omega⟩ n s) = (t s : EReal)) :
    REF Q K V (ix3 b n l) = ∑ s : Fin 8448, ((Real.exp (t s) / ∑ s, Real.exp (t s) : ℝ) : EReal) * V (ix3 b s ⟨l / 256 * 64 + l % 64, by omega⟩) := by
  rw [REF, out_at]
  refine Finset.sum_congr rfl fun s _ => ?_
  rw [weights_at]
  simp only [exps_at, rowMax_at, ht]
  rw [Online.plain_softmax t s, mul_comm]

end Cert.ReferenceIdeal.Attn
-- ==== Proof.Score.lean ====
module

public import proofs.«01_k».proof.Proof.At
public import proofs.«01_k».proof.Proof.Ref
public import proofs.«01_k».proof.Proof.Gen.KernelIdeal.Value
public import proofs.«01_k».proof.Proof.Gen.Pre_finite
public import Idealize.ShloMosaic.Lib.ReduceAll

@[expose] public section

set_option maxRecDepth 16384

noncomputable section
namespace Cert.KernelIdeal.Attn
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- An extended real whose absolute value compares below plus infinity is a real number. -/
theorem real_of_lt (x : EReal) (h : FloatOps.cmpf (F := Ideal) (φ := .f32) .olt (FloatOps.hostAbsf (F := Ideal) (φ := .f32) x) (Ideal.ofBits .f32 0x7F800000#32) = 1#1) : ∃ y : ℝ, x = y := by
  have top : Ideal.ofBits .f32 0x7F800000#32 = ⊤ := by simp [Ideal.ofBits, Ideal.ieee]
  rw [top] at h
  change Ideal.cmp .olt (max x (-x)) ⊤ = 1#1 at h
  induction x using EReal.rec with
  | bot => simp [Ideal.cmp] at h
  | coe y => exact ⟨y, rfl⟩
  | top => simp [Ideal.cmp] at h

/-- An array whose absolute values all compare below plus infinity is an array of real numbers. -/
theorem real_of_all {s : Shape} {ax : List (Fin s.rank)} [Subsingleton Cert.Pre_finite.S_.Idx] (x : FVec Ideal s .f32) (d : Fin Cert.Pre_finite.S_.rank → Fin s.rank) (hb : Cert.Pre_finite.S_.BroadcastsInDim s d)
    (init : IVec Cert.Pre_finite.S_ 1) (h : s.ReducesTo ax Cert.Pre_finite.S_) (hu : 0 < Cert.Pre_finite.S_.numel) (j : Cert.Pre_finite.S_.Idx)
    (e : Host.reduce IntOp.andi (cmpf .olt (Host.absf x) (broadcastInDim s d hb (constant Cert.Pre_finite.S_ .f32 0x7F800000#32))) init h hu j = 1#1) :
    ∃ y : s.Idx → ℝ, x = fun i => (y i : EReal) := by
  have r : ∀ i, ∃ y : ℝ, x i = y := fun i => real_of_lt (x i) (Host.reduce_andi_all _ _ _ _ _ e i)
  choose y hy using r
  exact ⟨y, funext hy⟩

/-- The precondition says the queries and the keys are real numbers. -/
theorem finite_real (a : FVec Ideal S2x8192x512 .f32) (b v : FVec Ideal S2x8448x128 .f32) (h : Cert.Pre_finite.fn (F := Ideal) a b v = fun _ => 1#1) :
    (∃ q : S2x8192x512.Idx → ℝ, a = fun i => (q i : EReal)) ∧ ∃ k : S2x8448x128.Idx → ℝ, b = fun i => (k i : EReal) := by
  have h0 := congrFun h (fun d => d.elim0)
  unfold Cert.Pre_finite.fn at h0
  obtain ⟨h1, h2⟩ := IntOp.andi_eq_one.mp h0
  have : Subsingleton Cert.Pre_finite.S_.Idx := ⟨fun i j => funext fun d => d.elim0⟩
  exact ⟨real_of_all a _ _ _ _ _ _ h1, real_of_all b _ _ _ _ _ _ h2⟩

/-- Of the two halves of 128 lanes, the one that holds lane `l` is kept: the sum of the kept terms. -/
theorem half_sum (f : Fin 128 → EReal) (l : Fin 128) :
    ∑ k : Fin 128, (if (l : ℕ) < 64 ↔ (k : ℕ) < 64 then f k else 0) = ∑ d : Fin 64, f ⟨l / 64 * 64 + d, by omega⟩ := by
  rw [Fin.sum_univ_two_halves 64 64 rfl]
  by_cases h : (l : ℕ) < 64
  · rw [Finset.sum_congr rfl fun k _ => if_pos (by simp only [h, true_iff]; exact k.isLt),
      Finset.sum_eq_zero (s := Finset.univ) (f := fun k : Fin 64 => if (l : ℕ) < 64 ↔ 64 + (k : ℕ) < 64 then f ⟨64 + k, by omega⟩ else 0)
        fun k _ => if_neg (by simp only [h, true_iff]; omega), add_zero]
    exact Finset.sum_congr rfl fun d _ => congrArg f (Fin.ext (by simp only; omega))
  · rw [Finset.sum_eq_zero (s := Finset.univ) (f := fun k : Fin 64 => if (l : ℕ) < 64 ↔ (k : ℕ) < 64 then f ⟨k, by omega⟩ else 0)
        fun k _ => if_neg (by simp only [h, false_iff, not_not]; exact k.isLt), zero_add]
    exact Finset.sum_congr rfl fun d _ => (if_pos (by simp only [h, false_iff]; omega)).trans (congrArg f (Fin.ext (by simp only; omega)))

/-- The score of a query row and a key, for real queries and keys. -/
def score (q : S2x8192x512.Idx → ℝ) (k : S2x8448x128.Idx → ℝ) (b : Fin 2) (n : Fin 8192) (l : Fin 512) (s : Fin 8448) : ℝ :=
  (∑ d : Fin 64, k (ix3 b s ⟨l / 256 * 64 + d, by omega⟩) * q (ix3 b n ⟨l / 64 * 64 + d, by omega⟩)) * (1 / 8)

/-- The reference's scores at real queries and keys. -/
theorem ref_score (q : S2x8192x512.Idx → ℝ) (k : S2x8448x128.Idx → ℝ) (b : Fin 2) (n : Fin 8192) (l : Fin 512) (s : Fin 8448) :
    Cert.ReferenceIdeal.Attn.scores (fun i => (q i : EReal)) (fun i => (k i : EReal)) (ix5 b ⟨l / 256, by omega⟩ ⟨l / 64 % 4, by omega⟩ n s) = ((score q k b n l s : ℝ) : EReal) := by
  rw [Cert.ReferenceIdeal.Attn.scores_at, score, EReal.coe_mul, Online.coe_sum]
  congr 1
  refine Finset.sum_congr rfl fun d _ => ?_
  rw [EReal.coe_mul]
  have e : (⟨(l : ℕ) / 256 * 256 + l / 64 % 4 * 64 + d, by omega⟩ : Fin 512) = ⟨l / 64 * 64 + d, by omega⟩ := Fin.ext (by simp only; omega)
  exact congrArg (fun j => ((k (ix3 b s ⟨l / 256 * 64 + d, by omega⟩) : ℝ) : EReal) * ((q (ix3 b n j) : ℝ) : EReal)) e

/-- The kernel's scores at real queries and keys: the same, over the natural logarithm of two. -/
theorem ker_score (q : S2x8192x512.Idx → ℝ) (k : S2x8448x128.Idx → ℝ) (b : Fin 2) (n : Fin 8192) (l : Fin 512) (s : Fin 8448) :
    ∑ d : Fin 64, ((q (ix3 b n ⟨l / 64 * 64 + d, by omega⟩) : ℝ) : EReal) * scale * ((k (ix3 b s ⟨l / 256 * 64 + d, by omega⟩) : ℝ) : EReal)
      = ((score q k b n l s / Real.log 2 : ℝ) : EReal) := by
  rw [score, Finset.sum_mul, Finset.sum_div, Online.coe_sum]
  refine Finset.sum_congr rfl fun d _ => ?_
  rw [scale, ← EReal.coe_mul, ← EReal.coe_mul]
  congr 1
  ring

end Cert.KernelIdeal.Attn
-- ==== Proof.Final.lean ====
module

public import proofs.«01_k».proof.Proof.At
public import proofs.«01_k».proof.Proof.Score
public import proofs.«01_k».proof.Proof.Gen.KernelIdeal.Value
public import proofs.«01_k».proof.Proof.Gen.Pre_finite
public import Idealize.ShloMosaic.Lib.ReduceAll

@[expose] public section

set_option maxRecDepth 16384

noncomputable section
namespace Cert.KernelIdeal.Attn
open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- A step's block at a row and a lane is the reference's result there, when the blocks it stages are the arguments'. -/
theorem block_pure (c : Dev nD) (i : grid0.Coords) (arg3 : Memref sig .tc .vmem S1x512x128 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S1x512x128 .bf16) (harg6 : arg6.IsWhole)
    (x0 : Vec Ideal S1x512x128 .bf16) (x1 : Vec Ideal S1x8448x128 .bf16) (x2 : Vec Ideal S1x8448x128 .bf16) (r : Fin 512) (l : Fin 128)
    (q : S2x8192x512.Idx → ℝ) (k : S2x8448x128.Idx → ℝ) (v : S2x8448x128.Idx → EReal) (b : Fin 2) (n : Fin 8192) (p : ℕ) (hp : p < 4)
    (hq : ∀ k : Fin 128, x0 (ix3 0 r k) = ((q (ix3 b n ⟨p * 128 + k, by omega⟩) : ℝ) : EReal))
    (hk : ∀ (s : Fin 8448) (j : Fin 128), x1 (ix3 0 s j) = ((k (ix3 b s ⟨p / 2 * 64 + j % 64, by omega⟩) : ℝ) : EReal))
    (hv : ∀ (s : Fin 8448) (j : Fin 128), (hj : (j : ℕ) < 64) → x2 (ix3 0 s j) = v (ix3 b s ⟨p / 2 * 64 + j, by omega⟩))
    (hone : ∀ s : Fin 8448, x2 (ix3 0 s 64) = (1 : EReal)) (L : Fin 512) (hL : (L : ℕ) = p * 128 + l) :
    out0_A_3 c i arg3 harg3 arg4 harg4 arg5 harg5 arg6 harg6 x0 x1 x2 (ix3 0 r l) =
      Cert.ReferenceIdeal.Attn.REF (fun i => (q i : EReal)) (fun i => (k i : EReal)) v (ix3 b n L) := by
  rw [Cert.ReferenceIdeal.Attn.REF_at _ _ _ _ _ L _ (ref_score q k _ _ L)]
  rw [block_softmax c i arg3 harg3 arg4 harg4 arg5 harg5 arg6 harg6 x0 x1 x2 r l (score q k b n L) (fun s => ?_) hone]
  · refine Finset.sum_congr rfl fun s _ => ?_
    rw [hv s ⟨(l : ℕ) % 64, by omega⟩ (by simp only; omega)]
    exact congrArg (fun j => _ * v (ix3 b s j)) (Fin.ext (by simp only; omega))
  · rw [← ker_score]
    simp only [ite_mul, zero_mul]
    rw [half_sum]
    refine Finset.sum_congr rfl fun d _ => ?_
    rw [hq, hk]
    have e1 : (⟨p * 128 + (⟨l / 64 * 64 + d, by omega⟩ : Fin 128), by simp only; omega⟩ : Fin 512) = ⟨L / 64 * 64 + d, by omega⟩ := Fin.ext (by simp only; omega)
    have e2 : (⟨p / 2 * 64 + (⟨l / 64 * 64 + d, by omega⟩ : Fin 128) % 64, by simp only; omega⟩ : Fin 128) = ⟨L / 256 * 64 + d, by omega⟩ := Fin.ext (by simp only; omega)
    rw [← e1, ← e2]

/-- A step's block at a row and a lane is the reference's result there. -/
theorem block_at (c : Dev nD) (t : Fin cfg0.N) (r : Fin 512) (l : Fin 128) (q : S2x8192x512.Idx → ℝ) (k : S2x8448x128.Idx → ℝ)
    (hq : m ((c : Thread nD τ).loc main_arg0) = fun i => (q i : EReal)) (hk : m ((c : Thread nD τ).loc main_arg1) = fun i => (k i : EReal)) :
    (outsAt0 m c t (ix3 0 r l) : EReal) = Cert.ReferenceIdeal.Attn.REF (fun i => (q i : EReal)) (fun i => (k i : EReal)) (m ((c : Thread nD τ).loc main_arg2))
      (ix3 ⟨t.val / 64, lt64 t⟩ ⟨t.val % 16 * 512 + r, by omega⟩ ⟨t.val / 16 % 4 * 128 + l, by omega⟩) := by
  have h2 : t.val / 32 % 2 = t.val / 16 % 4 / 2 := by omega
  unfold outsAt0
  refine block_pure c _ _ _ _ _ _ _ _ _ _ _ _ r l q k _ ⟨t.val / 64, lt64 t⟩ ⟨t.val % 16 * 512 + r, by omega⟩ (t.val / 16 % 4) (by omega)
    (fun k => (q_at m c t r k).trans (congrFun hq _)) (fun s j => (k_at m c t s j).trans ((congrFun hk _).trans ?_))
    (fun s j hj => (v_at m c t s j hj).trans ?_) (fun s => one_at m c t s 64 (by decide)) _ rfl
  · exact congrArg (fun j => ((k (ix3 ⟨t.val / 64, lt64 t⟩ s j) : ℝ) : EReal)) (Fin.ext (by simp only; omega))
  · exact congrArg (fun j => m ((c : Thread nD τ).loc main_arg2) (ix3 ⟨t.val / 64, lt64 t⟩ s j : S2x8448x128.Idx)) (Fin.ext (by simp only; omega))

/-- The array the kernel leaves is the reference's result. -/
theorem final (c : Dev nD) (q : S2x8192x512.Idx → ℝ) (k : S2x8448x128.Idx → ℝ)
    (hq : m ((c : Thread nD τ).loc main_arg0) = fun i => (q i : EReal)) (hk : m ((c : Thread nD τ).loc main_arg1) = fun i => (k i : EReal)) :
    (dats m 0 c).arrAt 3 cfg0.N = Cert.ReferenceIdeal.Attn.REF (fun i => (q i : EReal)) (fun i => (k i : EReal)) (m ((c : Thread nD τ).loc main_arg2)) := by
  refine (dats m 0 c).arrAt_eq_of_covers 3 _ (by decide +kernel) fun t hf y => ?_
  have B := fun r l => block_at m c t r l q k hq hk
  have e := fun r l => emb_o t r l
  rw [after0_3]
  generalize Cert.ReferenceIdeal.Attn.REF (fun i => (q i : EReal)) (fun i => (k i : EReal)) (m ((c : Thread nD τ).loc main_arg2)) = G at B ⊢
  generalize outsAt0 m c t = O at B ⊢
  have key : ∀ (a : Fin 1) (r : Fin 512) (l : Fin 128), O (ix3 a r l) = G (((cfg0.win 3).blk t).view.emb (ix3 a r l)) := fun a r l => by
    obtain rfl : a = 0 := Subsingleton.elim _ _
    exact (B _ _).trans (congrArg G (e _ _)).symm
  have all : ∀ y : S1x512x128.Idx, O y = G (((cfg0.win 3).blk t).view.emb y) := fun y => by
    rw [eq_ix3 y]
    exact key _ _ _
  exact (cast_eq _ _).trans (all y)

end Cert.KernelIdeal.Attn
-- ==== Proof.Ffn.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

/-- The table of experts, as the body is handed it. -/
abbrev te : Memref sig .tc .smem S97 .i32 := Memref.whole main_arg0

/-- The count of used tiles, as the body is handed it. -/
abbrev nu : Memref sig .tc .smem S1 .i32 := Memref.whole main_arg1

/-- A table's contents on core `c`. -/
abbrev TabBuf (c : Dev nD) {S : Shape} {e : EltTy} (M : Memref sig .tc .smem S e) : Type := Buf (Elt F) (M.view.loc (c : Thread nD τ))

/-- The half of a table that the body may read. -/
abbrev tab (c : Dev nD) {S : Shape} {e : EltTy} (M : Memref sig .tc .smem S e) (f : TabBuf (F := F) c M) : sProp (MT nD τ sig Unit (Elt F) ℕ (UR sig nD τ) ℕ) :=
  M.view.loc (c : Thread nD τ) ↦{fullShare.right} f

/-- The count of used tiles, as the body reads it. -/
def word (c : Dev nD) (n : TabBuf (F := F) c nu) : BitVec 32 :=
  View.readAt (Elt F) nu.view (Rect.unit ![0] S1.size inb_S1_S1_0).toLoadRect n (Shape.Idx.first (by decide))

/-- The first condition of the body: the point is below the count. -/
theorem cond1_iff (i : grid0.Coords) (w : BitVec 32) : k0_cond1 i w = 1#1 ↔ (BitVec.ofNat 32 (i 0).val).toInt < w.toInt := by
  unfold k0_cond1
  generalize BitVec.ofNat 32 (i 0).val = a
  by_cases h : a.toInt < w.toInt <;> simp [Scalar.cmpi, Scalar.extui, IntOp.cmpi, BitVec.slt, h]

/-- The second condition of the body is the negation of the first. -/
theorem cond2_iff (i : grid0.Coords) (w : BitVec 32) : k0_cond2 i w = 1#1 ↔ ¬ k0_cond1 i w = 1#1 := by
  rw [cond1_iff, not_lt]
  unfold k0_cond2
  generalize BitVec.ofNat 32 (i 0).val = a
  by_cases h : w.toInt ≤ a.toInt <;> simp [Scalar.cmpi, Scalar.extui, IntOp.cmpi, BitVec.sle, h]

/-- What the body leaves in its output block: the feed-forward of the block for a used tile, zero past them. -/
def out (i : grid0.Coords) (w : BitVec 32) (x0 : Vec F S512x1024 .f32) (x1 x2 x3 : Vec F S1x1x704x1024 .f32) : Vec F S512x1024 .f32 :=
  if k0_cond1 i w = 1#1 then k0_pay1 x0 x1 x2 x3 else k0_pay2

/-- The output block read after the body's two conditional stores. -/
theorem result_read (M : Memref sig .tc .vmem S512x1024 .f32) (f : M.view.ty.Contents (Elt F)) (i : grid0.Coords) (w : BitVec 32)
    {y0 x0 : Vec F S512x1024 .f32} {y1 y2 y3 x1 x2 x3 : Vec F S1x1x704x1024 .f32} (inb inb') (h0 : y0 = x0) (h1 : y1 = x1) (h2 : y2 = x2) (h3 : y3 = x3) :
    View.read (Elt F) M.view (if hc : k0_cond2 i w = 1#1 then
        M.view.writes (Elt F) (if hc : k0_cond1 i w = 1#1 then M.view.writes (Elt F) f [⟨Rect.unit ![0, 0] S512x1024.size inb, k0_pay1 y0 y1 y2 y3⟩] else f)
          [⟨Rect.unit ![0, 0] S512x1024.size inb', k0_pay2⟩]
      else if hc : k0_cond1 i w = 1#1 then M.view.writes (Elt F) f [⟨Rect.unit ![0, 0] S512x1024.size inb, k0_pay1 y0 y1 y2 y3⟩] else f)
      = out i w x0 x1 x2 x3 := by
  subst h0 h1 h2 h3
  unfold out
  by_cases h : k0_cond1 i w = 1#1
  · rw [dif_neg ((cond2_iff i w).not.mpr (not_not.mpr h)), dif_pos h, if_pos h]
    exact View.read_writes_full _ _ _ _ _
  · rw [dif_pos ((cond2_iff i w).mpr h), if_neg h]
    exact View.read_writes_full _ _ _ _ _

set_option maxHeartbeats 1000000 in

/-- The body at a grid point: it keeps its input blocks and the tables and leaves `out` in the output block. -/
theorem body (c : Dev nD) (i : grid0.Coords) (arg3 : Memref sig .tc .vmem S512x1024 .f32) (harg3 : arg3.IsWhole) (arg4 : Memref sig .tc .vmem S1x1x704x1024 .f32) (harg4 : arg4.IsWhole) (arg5 : Memref sig .tc .vmem S1x1x704x1024 .f32) (harg5 : arg5.IsWhole) (arg6 : Memref sig .tc .vmem S1x1x704x1024 .f32) (harg6 : arg6.IsWhole) (arg7 : Memref sig .tc .vmem S512x1024 .f32) (harg7 : arg7.IsWhole)
    (x0 : Vec F S512x1024 .f32) (x1 x2 x3 : Vec F S1x1x704x1024 .f32) (a : TabBuf (F := F) c te) (n : TabBuf (F := F) c nu) (E : Set ℕ) (K : PUnit → sProp (MT nD τ sig Unit (Elt F) ℕ (UR sig nD τ) ℕ)) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tab c te a ∗ tab c nu n
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out i (word c n) x0 x1 x2 x3) ∗ tab c te a ∗ tab c nu n) -∗ K ⟨⟩))
          ⊢ wp frame (wpE (defs₀ (F := F)) Variants.none c none) E (cc0_moe_grouped_ffn i te (Memref.isWhole_whole _) nu (Memref.isWhole_whole _) arg3 harg3 arg4 harg4 arg5 harg5 arg6 harg6 arg7 harg7) K := by
    simp only [cc0_moe_grouped_ffn_eq_skeleton]; unfold cc0_moe_grouped_ffn_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      rw [show body.sl.r c n = word c n from rfl]
      exact result_read arg7 f4 i _ _ _ ((View.readAt_full _ _ _).trans hf0) ((View.readAt_full _ _ _).trans hf1) ((View.readAt_full _ _ _).trans hf2) ((View.readAt_full _ _ _).trans hf3)
    isplitl [HT0]; · iexact HT0
    iexact HT1

variable (m : (ℓ : Loc nD τ sig) → Buf (Elt F) ℓ) (ρ : Dev nD → PrngReg)

/-! ## The program up to the kernel call -/

/-- Core `c`'s buffers when the call is entered: the two transposes done. -/
abbrev V (c : Dev nD) (b : Ref sig .tc) : Buf (Elt F) ((c : Thread nD τ).loc b) := StableHlo.after hostOps0 (fun b => m (c, b)) b

/-- The two transposes take no buffer of their own. -/
theorem fresh : (hostOps0 : List (HloOp τ sig (Elt F))).Forall fun op => op.fresh = ∅ := by
  simp only [List.Forall]; repeat' constructor

set_option maxHeartbeats 800000 in

/-- The program is the two transposes and then the call, entered with the buffers `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh main_chain

/-- A buffer other than the two transposed arrays is as launched. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The two tables -/

/-- The tables' contents at the call. -/
def tbl : pre0.Contents (Elt F) := fun j => V m (0 : Dev nD) (pre0.ref j)

/-- The call finds the tables `tbl` on every core. -/
theorem V_pre (c : Dev nD) (j : Fin 2) : V m c (pre0.ref j) = tbl m j := by
  obtain rfl : c = 0 := Subsingleton.elim _ _; rfl

/-- The tables name blocks inside their arrays. -/
abbrev Ok : Prop := ok0 (F := F) (tbl m)

/-- The tables, with the fact that their blocks lie inside. -/
abbrev adm (hO : Ok m) : (pcfg0 (F := F)).Adm := ⟨tbl m, hO⟩

/-- The pipeline of the call at these tables. -/
abbrev cfgM (hO : Ok m) : Pipeline.Cfg sig Λ₀ := cfg0 (adm m hO)

/-- What the call holds of its tables: a half of each. -/
theorem tables_eq (c : Dev nD) : (Pipeline.ΦT pre0 (tbl m) c : sProp (MT nD τ sig Unit (Elt F) ℕ (UR sig nD τ) ℕ)) = iprop(tab c te (tbl m 0) ∗ tab c nu (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks and the proof data -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output block after point `t`. -/
def outAt (hO : Ok m) (c : Dev nD) (t : Fin (cfgM m hO).N) : Vec F S512x1024 .f32 :=
  out (grid0.coords t) (word c (tbl m 1)) (iblk m hO c 0 t) (iblk m hO c 1 t) (iblk m hO c 2 t) (iblk m hO c 3 t)

/-- The proof data: each input buffer keeps its block, the output buffer is left at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tbl m) c)
  q _ := fullShare
  owed _ := 0

/-- The proof data starts from the arrays as the call finds them. -/
theorem A_eq (hO : Ok m) (c : Dev nD) (w : Fin (cfgM m hO).W) : (dats m hO 0 c).A w = V m c (Pipeline.arrRef spec0 w) := by
  dsimp only [dats]

/-- The body keeps the block of tokens. -/
theorem after_0 (hO : Ok m) (c : Dev nD) (t : Fin (cfgM m hO).N) : (dats m hO 0 c).after 0 t = iblk m hO c 0 t := by dsimp only [dats]; try rfl

/-- The body keeps the block of gate weights. -/
theorem after_1 (hO : Ok m) (c : Dev nD) (t : Fin (cfgM m hO).N) : (dats m hO 0 c).after 1 t = iblk m hO c 1 t := by dsimp only [dats]; try rfl

/-- The body keeps the block of up weights. -/
theorem after_2 (hO : Ok m) (c : Dev nD) (t : Fin (cfgM m hO).N) : (dats m hO 0 c).after 2 t = iblk m hO c 2 t := by dsimp only [dats]; try rfl

/-- The body keeps the block of down weights. -/
theorem after_3 (hO : Ok m) (c : Dev nD) (t : Fin (cfgM m hO).N) : (dats m hO 0 c).after 3 t = iblk m hO c 3 t := by dsimp only [dats]; try rfl

/-- The body leaves `outAt` in the output block. -/
theorem after_4 (hO : Ok m) (c : Dev nD) (t : Fin (cfgM m hO).N) : (dats m hO 0 c).after 4 t = outAt m hO c t := by dsimp only [dats]; try rfl

/-- The tokens' buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- The gate's buffer holds its block at every point, fetched there or not. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- The up weights' buffer holds its block at every point, fetched there or not. -/
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The down weights' buffer holds its block at every point, fetched there or not. -/
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output window is idle at no point: exactly one of the body's two conditions holds. -/
theorem idle_of (i : grid0.Coords) (w : BitVec 32) : (!(k0_cond1 i w == 1#1) && !(k0_cond2 i w == 1#1)) = false := by
  have h := cond2_iff i w
  by_cases h1 : k0_cond1 i w = 1#1
  · simp [h1]
  · simp [h.mpr h1]

/-- The output window is written at every point, whatever the tables say. -/
theorem idle_4 (a : (pcfg0 (F := F)).Adm) (i : grid0.Coords) : (cfg0 a).idle 4 i = false :=
  idle_of i (a.1.atD 1 ![0])

/-! ## The body obligation -/

/-- Each window's buffer at point `t`. -/
abbrev st (hO : Ok m) (w : Fin 5) (t : Fin (cfgM m hO).N) := ((cfgM m hO).win w).stage ((cfgM m hO).slots t w)

/-- The body at point `t`. -/
abbrev bodyAt (hO : Ok m) (t : Fin (cfgM m hO).N) : Prog (TpuEff nD τ sig (Elt F) Λ₀ .tc) PUnit :=
  defs₀ (F := F) .tc (cfgM m hO).body ((cfgM m hO).bodyArgs t ((cfgM m hO).slots t))

/-- The body at point `t`, in the terms of the proof data. -/
theorem sound_body (hO : Ok m) (c : Dev nD) (t : Fin (cfgM m hO).N) :
    iprop((dats m hO 0 c).Φ t.castSucc ∗ (dats m hO 0 c).owesAt () t.castSucc
        ∗ (∃ d, owns (c : Thread nD τ) (st m hO 0 t) fullShare ((dats m hO 0 c).before 0 t d))
        ∗ (∃ d, owns (c : Thread nD τ) (st m hO 1 t) fullShare ((dats m hO 0 c).before 1 t d))
        ∗ (∃ d, owns (c : Thread nD τ) (st m hO 2 t) fullShare ((dats m hO 0 c).before 2 t d))
        ∗ (∃ d, owns (c : Thread nD τ) (st m hO 3 t) fullShare ((dats m hO 0 c).before 3 t d))
        ∗ (∃ d, owns (c : Thread nD τ) (st m hO 4 t) fullShare ((dats m hO 0 c).before 4 t d)))
      ⊢ wp frame (wpE (defs₀ (F := F)) Variants.none c none) Set.univ (bodyAt m hO t) fun _ =>
        iprop((dats m hO 0 c).Φ t.succ ∗ (dats m hO 0 c).owesAt () t.succ
          ∗ owns (c : Thread nD τ) (st m hO 0 t) fullShare ((dats m hO 0 c).after 0 t)
          ∗ owns (c : Thread nD τ) (st m hO 1 t) fullShare ((dats m hO 0 c).after 1 t)
          ∗ owns (c : Thread nD τ) (st m hO 2 t) fullShare ((dats m hO 0 c).after 2 t)
          ∗ owns (c : Thread nD τ) (st m hO 3 t) fullShare ((dats m hO 0 c).after 3 t)
          ∗ owns (c : Thread nD τ) (st m hO 4 t) fullShare ((dats m hO 0 c).after 4 t)) := by
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  unfold outAt bodyAt
  unfold defs₀; rw [Defs.onTc_tc]
  iintro ⟨⟨HΦ, ⟨HT0, HT1⟩⟩, Ho, ⟨%d0, H0⟩, ⟨%d1, H1⟩, ⟨%d2, H2⟩, ⟨%d3, H3⟩, ⟨%d4, H4⟩⟩
  iapply (body c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- At a point where window `w` is not idle, what the obligation asks of its buffer is what the body leaves. -/
theorem live_leaves {cfg : Cfg sig Λ₀} {c : Dev nD} (dat : Dat τ (Elt F) Unit ℕ (UR sig nD τ) ℕ cfg c) (w : Fin cfg.W) (t : Fin cfg.N)
    (h : cfg.idle w (cfg.grid.coords t) = false) :
    owns (c : Thread nD τ) ((cfg.win w).stage (cfg.slots t w)) fullShare (dat.after w t) ⊢ (dat.leavesExact w t : sProp (MT nD τ sig Unit (Elt F) ℕ (UR sig nD τ) ℕ)) := by
  unfold Dat.leavesExact; rw [h]

/-- What the body leaves in the output's buffer is what the obligation asks there. -/
theorem live_4 (a : (pcfg0 (F := F)).Adm) (c : Dev nD) (dat : Dat τ (Elt F) Unit ℕ (UR sig nD τ) ℕ (cfg0 a) c) (t : Fin (cfg0 a).N) :
    owns (c : Thread nD τ) (((cfg0 a).win 4).stage ((cfg0 a).slots t 4)) fullShare (dat.after 4 t) ⊢ (dat.leavesExact 4 t : sProp (MT nD τ sig Unit (Elt F) ℕ (UR sig nD τ) ℕ)) :=
  live_leaves dat 4 t (idle_4 a (grid0.coords t))

/-- The body meets the pipeline's obligation at every point. -/
theorem body_obligation (hO : Ok m) (c : Dev nD) : BodyObligation (dats (F := F) m hO 0 c) (defs₀ (F := F)) Variants.none () Set.univ := fun t => by
  rw [bigSep_W0, bigSep_W0]
  refine triple_restated (sound_body m hO c t) rfl .rfl fun _ =>
    sep_mono .rfl (sep_mono .rfl (sep_mono .rfl (sep_mono .rfl (sep_mono .rfl (sep_mono .rfl (live_4 (adm m hO) c (dats m hO 0 c) t))))))

/-! ## The run -/

set_option backward.isDefEq.respectTransparency.types false in

/-- The whole program runs: at the end every array of the call is what the proof data computes, every other buffer is
as the call found it, and every semaphore counter is zero. -/
theorem run (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arguments end unchanged and the counters at zero, with the result at the call's output array. -/
theorem run_result (hO : Ok m) : θ_run defs (onTc (τ := τ) (main (F := F))) ⟨m, fun _ => 0, ρ⟩ (fun r => (∀ c : Dev nD,
      r.2.mem ((c.tc : Thread nD τ).loc main_v2) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 4,
      ((h.1 c).2 main_arg0 (by decide : main_arg0 ∈ Pipeline.restRefs sig spec0)).trans (V_arg m c _ (by decide) (by decide)),
      ((h.1 c).2 main_arg1 (by decide : main_arg1 ∈ Pipeline.restRefs sig spec0)).trans (V_arg m c _ (by decide) (by decide)),
      ((h.1 c).1 0).trans (((dats m hO 0 c).arrAt_in 0 rfl _).trans ((A_eq m hO c 0).trans (V_arg m c main_arg2 (by decide) (by decide)))),
      ((h.1 c).2 main_arg3 (by decide : main_arg3 ∈ Pipeline.restRefs sig spec0)).trans (V_arg m c _ (by decide) (by decide)),
      ((h.1 c).2 main_arg4 (by decide : main_arg4 ∈ Pipeline.restRefs sig spec0)).trans (V_arg m c _ (by decide) (by decide)),
      ((h.1 c).1 3).trans (((dats m hO 0 c).arrAt_in 3 rfl _).trans ((A_eq m hO c 3).trans (V_arg m c main_arg5 (by decide) (by decide))))⟩, h.2⟩)
    (run m ρ hO)

end Cert.Kernel2Ideal.Ffn

end
-- ==== Proof.FfnBits.lean ====
module

public import proofs.«01_k».proof.Proof.Ffn
public import proofs.«01_k».proof.Proof.Gen.Kernel2

@[expose] public section

set_option maxRecDepth 16384

noncomputable section

namespace Cert.Kernel2.Ffn

open Idealize.ShloMosaic Idealize.ShloMosaic.TcCoe Idealize.SL.Sem
open Cert.Kernel2.Gen Cert.Kernel2Ideal.Gen

variable {F : FTy → Type} [FloatOps F]

/-- The kernel's program and the idealized one are the same at any floats. -/
theorem main_eq : Cert.Kernel2.main (F := F) = Cert.Kernel2Ideal.main := rfl

/-- So are their bodies. -/
theorem defs0_eq : Cert.Kernel2.defs₀ (F := F) = Cert.Kernel2Ideal.defs₀ := by
  unfold Cert.Kernel2.defs₀ Cert.Kernel2Ideal.defs₀
  congr 1
  funext l a
  match l, a with
  | 0, (t, s) => rfl
  | ⟨_ + 1, h⟩, _ => exact absurd h (Nat.not_lt.2 (Nat.le_add_left _ _))

/-- So are the definitions their launches run. -/
theorem defs_eq : Cert.Kernel2.defs (F := F) = Cert.Kernel2Ideal.defs := by
  unfold Cert.Kernel2.defs Cert.Kernel2Ideal.defs
  exact congrArg (Pipeline.defs Cert.Kernel2Ideal.pcfgs) defs0_eq

/-- The arguments end unchanged and the counters at zero: the idealized program's run, read for the kernel's. -/
theorem frame (m : (ℓ : Loc nD τ sig) → Buf (Elt F) ℓ) (ρ : Dev nD → PrngReg) (hO : Cert.Kernel2Ideal.Ffn.Ok (F := F) m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact (θ_run Cert.Kernel2Ideal.defs _ _).mono (fun _ h => ⟨fun c => (h.1 c).2, h.2⟩) (Cert.Kernel2Ideal.Ffn.run_result m ρ hO)

end Cert.Kernel2.Ffn

end
-- ==== Proof.FfnRef.lean ====
module

public import proofs.«01_k».proof.Proof.Gen.Reference2Ideal.Run
public import Idealize.ShloMosaic.Lib.Pointwise
public import Idealize.ShloMosaic.Lib.StableHlo.Predicate

@[expose] public section

set_option maxRecDepth 16384

noncomputable section
namespace Cert.Reference2Ideal.Ffn
open Cert.Reference2Ideal Cert.Reference2Ideal.Gen Idealize.ShloMosaic Idealize.ShloMosaic.TcCoe Idealize.SL.Sem

/-- Every token against every expert's projection, as the reference takes it. -/
def proj (W : FVec Ideal S2x16x1024x704 .f32) (X : FVec Ideal S49664x1024 .f32) : FVec Ideal S16x49664x704 .f32 :=
  transpose S16x49664x704 [0, 2, 1] (Host.dotGeneral dot_S16x1024x704_S49664x1024_S16x704x49664_1_1_02_0_n_n none (shapeCast _ (extractStridedSlice S1x16x1024x704 ![0, 0, 0, 0] W slices_S2x16x1024x704_S1x16x1024x704_0_0_0_0) shapeCasts_S1x16x1024x704_S16x1024x704) X) transposes_S16x704x49664_S16x49664x704_0_2_1

/-- The gated hidden layer. -/
def hidden (g u : FVec Ideal S16x49664x704 .f32) : FVec Ideal S16x49664x704 .f32 :=
  mulf (mulf g (Host.divf (broadcastInDim S16x49664x704 ![] bcast_S_S16x49664x704 (constant S_ .f32 0x3F800000#32)) (addf (broadcastInDim S16x49664x704 ![] bcast_S_S16x49664x704 (constant S_ .f32 0x3F800000#32)) (Host.exp (Host.negf g))))) u

/-- Every expert's output for every token. -/
def each (h : FVec Ideal S16x49664x704 .f32) (D : FVec Ideal S2x16x704x1024 .f32) : FVec Ideal S16x49664x1024 .f32 :=
  Host.dotGeneral dot_S16x49664x704_S16x704x1024_S16x49664x1024_2_1_1_2_0_0 none h (shapeCast _ (extractStridedSlice S1x16x704x1024 ![0, 0, 0, 0] D slices_S2x16x704x1024_S1x16x704x1024_0_0_0_0) shapeCasts_S1x16x704x1024_S16x704x1024)

/-- Whether a token lies in a used tile. -/
def inUse (n : IVec S1 32) : IVec S49664 1 :=
  cmpi .slt (iotaInDim S49664 32 0) (broadcastInDim S49664 ![] bcast_S_S49664 (muli (shapeCast _ n shapeCasts_S1_S_) (constantI S_ 32 512#32)))

/-- Whether a token's tile is an expert's. -/
def isFor (a : IVec S97 32) : IVec S49664x16 1 :=
  cmpi .eq (broadcastInDim S49664x16 ![0, 1] bcast_S49664x1_S49664x16_0_1 (broadcastInDim S49664x1 ![0] bcast_S49664_S49664x1_0 (shapeCast _ (broadcastInDim S97x512 ![0] bcast_S97_S97x512_0 a) shapeCasts_S97x512_S49664))) (broadcastInDim S49664x16 ![0, 1] bcast_S1x16_S49664x16_0_1 (iotaInDim S1x16 32 1))

/-- The weight an expert's output has in a token's result: one for its own expert, zero otherwise and past the used tiles. -/
def weight (v : IVec S49664 1) (o : IVec S49664x16 1) : FVec Ideal S16x49664 .f32 :=
  transpose S16x49664 [1, 0] (select (broadcastInDim S49664x16 ![0, 1] bcast_S49664x1_S49664x16_0_1 (broadcastInDim S49664x1 ![0] bcast_S49664_S49664x1_0 v)) (uitofp .f32 o) (broadcastInDim S49664x16 ![] bcast_S_S49664x16 (id (constant S_ .f32 0x00000000#32)))) transposes_S49664x16_S16x49664_1_0

/-- The weighted sum of the experts' outputs. -/
def total (w : FVec Ideal S16x49664 .f32) (y : FVec Ideal S16x49664x1024 .f32) : FVec Ideal S49664x1024 .f32 :=
  Host.reduceAdd (mulf (broadcastInDim S16x49664x1024 ![0, 1, 2] bcast_S16x49664x1_S16x49664x1024_0_1_2 (broadcastInDim S16x49664x1 ![0, 1] bcast_S16x49664_S16x49664x1_0_1 w)) y) (constant S_ .f32 0x00000000#32) reducesTo_S16x49664x1024_S49664x1024_d0 h_S_

/-- The reference's result. -/
def REF (a : IVec S97 32) (n : IVec S1 32) (X : FVec Ideal S49664x1024 .f32) (G U : FVec Ideal S2x16x1024x704 .f32) (D : FVec Ideal S2x16x704x1024 .f32) : FVec Ideal S49664x1024 .f32 :=
  total (weight (inUse n) (isFor a)) (each (hidden (proj G X) (proj U X)) D)

/-- A projection at an element. -/
theorem proj_at (W : FVec Ideal S2x16x1024x704 .f32) (X : FVec Ideal S49664x1024 .f32) (e : Fin 16) (t : Fin 49664) (f : Fin 704) :
    proj W X (ix3 e t f) = ∑ k : Fin 1024, W (ix4 0 e k f) * X (ix2 t k) := by
  pointwise [proj]

/-- The hidden layer at an element. -/
theorem hidden_at (g u : FVec Ideal S16x49664x704 .f32) (e : Fin 16) (t : Fin 49664) (f : Fin 704) :
    hidden g u (ix3 e t f) = g (ix3 e t f) * Ideal.div 1 (1 + Ideal.exp (- g (ix3 e t f))) * u (ix3 e t f) := by
  pointwise [hidden]

/-- An expert's output at an element. -/
theorem each_at (h : FVec Ideal S16x49664x704 .f32) (D : FVec Ideal S2x16x704x1024 .f32) (e : Fin 16) (t : Fin 49664) (d : Fin 1024) :
    each h D (ix3 e t d) = ∑ f : Fin 704, h (ix3 e t f) * D (ix4 0 e f d) := by
  pointwise [each]

/-- Whether a token lies in a used tile, as a comparison of words. -/
theorem inUse_at (n : IVec S1 32) (t : Fin 49664) :
    inUse n (ix1 t) = IntOp.cmpi .slt (BitVec.ofNat 32 t) (n (ix1 0) * 512#32) := by
  pointwise [inUse]
  rfl

/-- Whether a token's tile, 512 tokens long, is an expert's, as a comparison of words. -/
theorem isFor_at (a : IVec S97 32) (t : Fin 49664) (e : Fin 16) :
    isFor a (ix2 t e) = IntOp.cmpi .eq (a (ix1 ⟨t / 512, by omega⟩)) (BitVec.ofNat 32 e) := by
  pointwise [isFor]

/-- The weight at an element: one or zero. -/
theorem weight_at (v : IVec S49664 1) (o : IVec S49664x16 1) (e : Fin 16) (t : Fin 49664) :
    weight v o (ix2 e t) = if v (ix1 t) = 1#1 then if o (ix2 t e) = 1#1 then (1 : EReal) else 0 else 0 := by
  pointwise [weight]
  have z : (id (constant S_ FTy.f32 0#32 : FVec Ideal S_ .f32) ix0 : EReal) = 0 := by
    show Ideal.ofBits .f32 0#32 = 0
    simp [Ideal.ofBits, Ideal.ieee]
  rw [z]
  unfold Scalar.select
  generalize o (ix2 t e) = b
  have hb : (FloatOps.uitofp (F := Ideal) FTy.f32 b : EReal) = if b = 1#1 then 1 else 0 := by
    have : b = 0#1 ∨ b = 1#1 := by revert b; decide
    rcases this with rfl | rfl <;> simp [FloatOps.uitofp]
  rw [hb]
  rfl

/-- The weighted sum at an element. -/
theorem total_at (w : FVec Ideal S16x49664 .f32) (y : FVec Ideal S16x49664x1024 .f32) (t : Fin 49664) (d : Fin 1024) :
    total w y (ix2 t d) = ∑ e : Fin 16, w (ix2 e t) * y (ix3 e t d) := by
  pointwise [total]

/-- One expert's feed-forward of one token, at one feature. -/
def ffn (X : FVec Ideal S49664x1024 .f32) (G U : FVec Ideal S2x16x1024x704 .f32) (D : FVec Ideal S2x16x704x1024 .f32) (e : Fin 16) (t : Fin 49664) (d : Fin 1024) : EReal :=
  ∑ f : Fin 704, (∑ k : Fin 1024, G (ix4 0 e k f) * X (ix2 t k)) * Ideal.div 1 (1 + Ideal.exp (-∑ k : Fin 1024, G (ix4 0 e k f) * X (ix2 t k)))
    * (∑ k : Fin 1024, U (ix4 0 e k f) * X (ix2 t k)) * D (ix4 0 e f d)

/-- The reference's result at an element: for a token of a used tile the tile's expert's feed-forward, zero past the used tiles. -/
theorem REF_at (a : IVec S97 32) (n : IVec S1 32) (X : FVec Ideal S49664x1024 .f32) (G U : FVec Ideal S2x16x1024x704 .f32) (D : FVec Ideal S2x16x704x1024 .f32)
    (ha : ∀ i, (a i).toNat < 16) (hn : (n (ix1 0)).toNat ≤ 97) (t : Fin 49664) (d : Fin 1024) :
    REF a n X G U D (ix2 t d) = if (t : ℕ) / 512 < (n (ix1 0)).toNat then ffn X G U D ⟨(a (ix1 ⟨t / 512, by omega⟩)).toNat, ha _⟩ t d else 0 := by
  have hu : inUse n (ix1 t) = 1#1 ↔ (t : ℕ) / 512 < (n (ix1 0)).toNat := by
    have h1 : (BitVec.ofNat 32 (t : ℕ)).toNat = t := by rw [BitVec.toNat_ofNat]; omega
    have h2 : (n (ix1 0) * 512#32).toNat = (n (ix1 0)).toNat * 512 := by rw [BitVec.toNat_mul]; simp; omega
    rw [inUse_at, StableHlo.Predicate.slt_iff_toNat (by omega) (by omega), h1, h2]
    omega
  have hf : ∀ e : Fin 16, isFor a (ix2 t e) = 1#1 ↔ e = ⟨(a (ix1 ⟨t / 512, by omega⟩)).toNat, ha _⟩ := fun e => by
    rw [isFor_at, StableHlo.Predicate.cmpi_eq_iff]
    have h1 : (BitVec.ofNat 32 (e : ℕ)).toNat = e := by rw [BitVec.toNat_ofNat]; omega
    constructor
    · intro h; exact Fin.ext (by show (e : ℕ) = BitVec.toNat _; rw [h, h1])
    · intro h; rw [h]; exact (BitVec.ofNat_toNat _ _).symm ▸ (by simp)
  rw [REF, total_at]
  simp only [weight_at, hu, hf]
  split
  · simp only [ite_mul, one_mul, zero_mul, Finset.sum_ite_eq', Finset.mem_univ, if_true]
    simp only [each_at, hidden_at, proj_at, ffn]
  · simp only [zero_mul, Finset.sum_const_zero]

end Cert.Reference2Ideal.Ffn

end
-- ==== Proof.FfnPre.lean ====
module

public import proofs.«01_k».proof.Proof.Ffn
public import proofs.«01_k».proof.Proof.Gen.Pre_tiles
public import Idealize.ShloMosaic.Lib.StableHlo.Predicate
public import Idealize.ShloMosaic.Lib.ReduceAll
public import Idealize.ShloMosaic.Lib.WordArith
public import Idealize.ShloMosaic.Lib.Claim
public import Idealize.ShloMosaic.Lib.Pointwise

@[expose] public section

set_option maxRecDepth 16384

noncomputable section

namespace Cert.Kernel2Ideal.Ffn

open Idealize.ShloMosaic Idealize.ShloMosaic.TcCoe
open Cert.Kernel2Ideal.Gen Idealize.ShloMosaic.StableHlo.Predicate

variable {F : FTy → Type} [FloatOps F]

/-- A signed word at least zero is below two to the thirty-first. -/
theorem small_of_sge {a b : BitVec 32} (hb : b.toNat < 2 ^ 31) (h : IntOp.cmpi .sge a b = 1#1) : a.toNat < 2 ^ 31 ∧ b.toNat ≤ a.toNat := by
  have ha : a.toNat < 2 ^ 31 := by
    by_contra hc
    have h' : b.toInt ≤ a.toInt := by simpa [IntOp.cmpi, BitVec.sle, ofBool_eq_one_iff] using h
    rw [BitVec.toInt_eq_toNat_cond, BitVec.toInt_eq_toNat_cond] at h'
    have := a.isLt
    split at h' <;> split at h' <;> omega
  exact ⟨ha, (sge_iff_toNat ha hb).mp h⟩

/-- The precondition in numbers: every expert is below sixteen, and between one and ninety-seven tiles are used. -/
theorem tiles_ranges (a : IVec Cert.Pre_tiles.S97 32) (n : IVec Cert.Pre_tiles.S1 32) (x : FVec F Cert.Pre_tiles.S49664x1024 .f32)
    (g u : FVec F Cert.Pre_tiles.S2x16x1024x704 .f32) (d : FVec F Cert.Pre_tiles.S2x16x704x1024 .f32) (h : Cert.Pre_tiles.fn a n x g u d = fun _ => 1#1) :
    (∀ i, (a i).toNat < 16) ∧ ∀ i, 1 ≤ (n i).toNat ∧ (n i).toNat ≤ 97 := by
  have h0 := congrFun h (fun d => d.elim0)
  unfold Cert.Pre_tiles.fn at h0
  have : Subsingleton Cert.Pre_tiles.S_.Idx := ⟨fun i j => funext fun d => d.elim0⟩
  obtain ⟨h123, h4⟩ := IntOp.andi_eq_one.mp h0
  obtain ⟨h12, h3⟩ := IntOp.andi_eq_one.mp h123
  obtain ⟨h1, h2⟩ := IntOp.andi_eq_one.mp h12
  refine ⟨fun i => ?_, fun i => ?_⟩
  · obtain ⟨s, -⟩ := small_of_sge (b := 0#32) (by decide) (Host.reduce_andi_all _ _ _ _ _ h1 i)
    exact (slt_iff_toNat (b := 16#32) s (by decide)).mp (Host.reduce_andi_all _ _ _ _ _ h2 i)
  · obtain ⟨s, l⟩ := small_of_sge (b := 1#32) (by decide) (Host.reduce_andi_all _ _ _ _ _ h3 i)
    exact ⟨l, (sle_iff_toNat (b := 97#32) s (by decide)).mp (Host.reduce_andi_all _ _ _ _ _ h4 i)⟩

/-- The expert of tile `j`, and the number of used tiles. -/
abbrev expert (pf : pre0.Contents (Elt F)) (j : Fin 97) : BitVec 32 := pf 0 (ix1 j : S97.Idx)
abbrev used (pf : pre0.Contents (Elt F)) : BitVec 32 := pf 1 (ix1 0 : S1.Idx)

/-- What is asked of the tables: experts below sixteen, one to ninety-seven used tiles. -/
def Ranges (pf : pre0.Contents (Elt F)) : Prop := (∀ j, (expert pf j).toNat < 16) ∧ 1 ≤ (used pf).toNat ∧ (used pf).toNat ≤ 97

/-- The block row of the tokens' window: the point, held at the last used tile. -/
theorem ix_x (pf : pre0.Contents (Elt F)) (h : Ranges pf) (i : grid0.Coords) :
    cc0_transform_0 inb_S1_S1_0 numel1_S1 pf i = ![min (i 0).val ((used pf).toNat - 1), 0] := by
  have e : (Rect.unit (s := S1) ![0] S1.size inb_S1_S1_0).emb (Shape.Idx.first (numel1_S1.symm ▸ Nat.one_pos)) = (ix1 0 : S1.Idx) := by
    funext d
    change Fin 1 at d
    obtain rfl : d = 0 := Subsingleton.elim _ _
    rfl
  obtain ⟨-, h1, h2⟩ := h
  have hi : (i 0).val < 97 := (i 0).isLt
  have k : cc0_transform_0 inb_S1_S1_0 numel1_S1 pf i = ![(Scalar.minsi (BitVec.ofNat 32 (i 0).val) (Scalar.subi (used pf) 1#32)).toNat, 0] := by
    unfold cc0_transform_0
    rw [show pf.at 1 (Rect.unit (s := S1) ![0] S1.size inb_S1_S1_0) numel1_S1 = used pf from congrArg (pf 1) e]
    rfl
  rw [k]
  have hs : (Scalar.subi (used pf) 1#32).toNat = (used pf).toNat - 1 := by
    show (used pf - 1#32).toNat = _
    rw [BitVec.toNat_sub]; have := (used pf).isLt; simp; omega
  have hn : (BitVec.ofNat 32 (i 0).val).toNat = (i 0).val := by rw [BitVec.toNat_ofNat]; omega
  rw [show Scalar.minsi = IntOp.minsi from rfl, WordArith.toNat_minsi_of_lt _ _ (by omega) (by omega), hs, hn]

/-- The word of the expert table a point reads is its tile's. -/
theorem expert_at (pf : pre0.Contents (Elt F)) (i : grid0.Coords) (inb) :
    pf.at 0 (Rect.unit (s := S97) ![(Scalar.indexCast (BitVec.ofNat 32 (i 0).val)).toNat] S1.size inb) numel1_S1 = expert pf (i 0) := by
  refine congrArg (pf 0) ?_
  have hi : (i 0).val < 97 := (i 0).isLt
  funext d
  change Fin 1 at d
  obtain rfl : d = 0 := Subsingleton.elim _ _
  refine Fin.ext ?_
  show (BitVec.ofNat 32 (i 0).val).toNat + _ = (i 0).val
  rw [BitVec.toNat_ofNat]
  simp
  omega

/-- The block of a weight's window: the tile's expert, whole. -/
theorem ix_w1 (pf : pre0.Contents (Elt F)) (i : grid0.Coords) : cc0_transform_1 k0_off1_inb numel1_S1 pf i = ![0, (expert pf (i 0)).toNat, 0, 0] := by
  unfold cc0_transform_1
  rw [← expert_at pf i (k0_off1_inb i)]
  rfl

/-- The up weights' index map names the tile's expert. -/
theorem ix_w2 (pf : pre0.Contents (Elt F)) (i : grid0.Coords) : cc0_transform_2 k0_off1_inb numel1_S1 pf i = ![0, (expert pf (i 0)).toNat, 0, 0] := ix_w1 pf i

/-- The down weights' index map names the tile's expert. -/
theorem ix_w3 (pf : pre0.Contents (Elt F)) (i : grid0.Coords) : cc0_transform_3 k0_off1_inb numel1_S1 pf i = ![0, (expert pf (i 0)).toNat, 0, 0] := ix_w1 pf i

/-- A weight's block lies inside the weights. -/
theorem w_inb (n : ℕ) (h : n < 16) : ∀ a, ((![0, n, 0, 0] : Fin 4 → ℕ) a + 1) * S1x1x704x1024.size a ≤ S2x16x704x1024.size a := by
  intro a; fin_cases a <;> simp <;> omega

/-- Tables in range name blocks inside their arrays. -/
theorem ok_of_ranges (pf : pre0.Contents (Elt F)) (h : Ranges pf) : ok0 pf := by
  refine ⟨fun i => ⟨?_, Or.inl rfl⟩, fun i => ⟨?_, Or.inl rfl⟩, fun i => ⟨?_, Or.inl rfl⟩, fun i => ⟨?_, Or.inl rfl⟩⟩
  · rw [ix_x pf h]
    have hi : (i 0).val < 97 := (i 0).isLt
    intro a; fin_cases a <;> simp; omega
  · rw [ix_w1]; exact w_inb _ (h.1 _)
  · rw [ix_w2]; exact w_inb _ (h.1 _)
  · rw [ix_w3]; exact w_inb _ (h.1 _)

variable (m : (ℓ : Loc nD τ sig) → Buf (Elt F) ℓ)

/-- The table of experts and the count at the call are the arguments. -/
theorem tbl_0 : tbl m 0 = m (((0 : Dev nD) : Thread nD τ).loc main_arg0) := V_arg m 0 main_arg0 (by decide) (by decide)

/-- The count of used tiles is the second argument. -/
theorem tbl_1 : tbl m 1 = m (((0 : Dev nD) : Thread nD τ).loc main_arg1) := V_arg m 0 main_arg1 (by decide) (by decide)

/-- The precondition puts the tables in range. -/
theorem ranges (a : IVec Cert.Pre_tiles.S97 32) (n : IVec Cert.Pre_tiles.S1 32) (ha : m (((0 : Dev nD) : Thread nD τ).loc main_arg0) = a)
    (hn : m (((0 : Dev nD) : Thread nD τ).loc main_arg1) = n) (x : FVec F Cert.Pre_tiles.S49664x1024 .f32)
    (g u : FVec F Cert.Pre_tiles.S2x16x1024x704 .f32) (d : FVec F Cert.Pre_tiles.S2x16x704x1024 .f32) (h : Cert.Pre_tiles.fn a n x g u d = fun _ => 1#1) :
    Ranges (tbl m) := by
  obtain ⟨h1, h2⟩ := tiles_ranges a n x g u d h
  unfold Ranges expert used
  rw [tbl_0, tbl_1, ha, hn]
  exact ⟨fun j => h1 _, h2 _⟩

end Cert.Kernel2Ideal.Ffn

end
-- ==== Proof.FfnPay.lean ====
module

public import proofs.«01_k».proof.Proof.FfnRef
public import proofs.«01_k».proof.Proof.FfnPre

@[expose] public section

set_option maxRecDepth 16384

noncomputable section
namespace Cert.Kernel2Ideal.Ffn
open Cert.Kernel2Ideal Cert.Kernel2Ideal.Gen Idealize.ShloMosaic Idealize.ShloMosaic.TcCoe Idealize.SL.Sem

/-- What the body stores for a used tile, at an element. -/
theorem pay1_at (x : Vec Ideal S512x1024 .f32) (g u d : Vec Ideal S1x1x704x1024 .f32) (p : Fin 512) (q : Fin 1024) :
    k0_pay1 (F := Ideal) x g u d (ix2 p q) = ∑ f : Fin 704, (∑ k : Fin 1024, x (ix2 p k) * g (ix4 0 0 f k)) * Ideal.div 1 (1 + Ideal.exp (-∑ k : Fin 1024, x (ix2 p k) * g (ix4 0 0 f k)))
    * (∑ k : Fin 1024, x (ix2 p k) * u (ix4 0 0 f k)) * d (ix4 0 0 f q) := by
  pointwise [k0_pay1]
  rfl

/-- What it stores past the used tiles. -/
theorem pay2_at (p : Fin 512) (q : Fin 1024) : k0_pay2 (F := Ideal) (ix2 p q) = (0 : EReal) := by
  pointwise [k0_pay2]

/-- A point's coordinate is its number. -/
theorem coords_val : ∀ t : Fin grid0.N, (grid0.coords t 0).val = t.val := by decide +kernel

variable (a : (pcfg0 (F := Ideal)).Adm)

/-- The tile of a point. -/
abbrev tile (t : Fin (cfg0 a).N) : Fin 97 := grid0.coords t 0

/-- Where a point's block of tokens lies. -/
theorem emb_x (h : Ranges a.1) (t : Fin (cfg0 a).N) (p : Fin 512) (k : Fin 1024) (r : Fin 49664)
    (hr : (r : ℕ) = min (tile a t).val ((used a.1).toNat - 1) * 512 + p) :
    (((cfg0 a).win 0).blk t).view.emb (ix2 p k : S512x1024.Idx) = (ix2 r k : S49664x1024.Idx) := by
  have e := ix_x a.1 h (grid0.coords t)
  have v := fun ax => Pipeline.Window.rect_emb_val ((cfg0 a).win 0) t (ix2 p k : S512x1024.Idx) ax rfl
  have w : ((cfg0 a).win 0).index t = cc0_transform_0 inb_S1_S1_0 numel1_S1 a.1 (grid0.coords t) := rfl
  rw [w, e] at v
  funext ax
  refine Fin.ext ((v ax).trans ?_)
  change Fin 2 at ax
  fin_cases ax
  · exact hr.symm
  · show 0 * 1024 + (k : ℕ) = k
    omega

/-- An index of the weights, from its four coordinates. -/
theorem w_idx (e : Fin 16) (f : Fin 704) (k : Fin 1024) (x : S2x16x704x1024.Idx)
    (h : ∀ ax : Fin 4, (x ax).val = (![0, (e : ℕ), 0, 0] : Fin 4 → ℕ) ax * S1x1x704x1024.size ax + ((ix4 0 0 f k : S1x1x704x1024.Idx) ax).val) :
    x = (ix4 0 e f k : S2x16x704x1024.Idx) := by
  funext ax
  refine Fin.ext ((h ax).trans ?_)
  fin_cases ax
  · rfl
  · show (e : ℕ) * 1 + 0 = e; omega
  · show 0 * 704 + (f : ℕ) = f; omega
  · show 0 * 1024 + (k : ℕ) = k; omega

/-- Where a point's blocks of weights lie: the tile's expert, in the first layer. -/
theorem emb_w1 (t : Fin (cfg0 a).N) (f : Fin 704) (k : Fin 1024) (e : Fin 16) (he : (e : ℕ) = (expert a.1 (tile a t)).toNat) :
    (((cfg0 a).win 1).blk t).view.emb (ix4 0 0 f k : S1x1x704x1024.Idx) = (ix4 0 e f k : S2x16x704x1024.Idx) :=
  w_idx e f k _ fun ax => (Pipeline.Window.rect_emb_val ((cfg0 a).win 1) t (ix4 0 0 f k : S1x1x704x1024.Idx) ax rfl).trans
    (by rw [show ((cfg0 a).win 1).index t = _ from ix_w1 a.1 (grid0.coords t), ← he]; rfl)

/-- Where an element of the up weights' block lies in its array. -/
theorem emb_w2 (t : Fin (cfg0 a).N) (f : Fin 704) (k : Fin 1024) (e : Fin 16) (he : (e : ℕ) = (expert a.1 (tile a t)).toNat) :
    (((cfg0 a).win 2).blk t).view.emb (ix4 0 0 f k : S1x1x704x1024.Idx) = (ix4 0 e f k : S2x16x704x1024.Idx) :=
  w_idx e f k _ fun ax => (Pipeline.Window.rect_emb_val ((cfg0 a).win 2) t (ix4 0 0 f k : S1x1x704x1024.Idx) ax rfl).trans
    (by rw [show ((cfg0 a).win 2).index t = _ from ix_w2 a.1 (grid0.coords t), ← he]; rfl)

/-- Where an element of the down weights' block lies in its array. -/
theorem emb_w3 (t : Fin (cfg0 a).N) (f : Fin 704) (k : Fin 1024) (e : Fin 16) (he : (e : ℕ) = (expert a.1 (tile a t)).toNat) :
    (((cfg0 a).win 3).blk t).view.emb (ix4 0 0 f k : S1x1x704x1024.Idx) = (ix4 0 e f k : S2x16x704x1024.Idx) :=
  w_idx e f k _ fun ax => (Pipeline.Window.rect_emb_val ((cfg0 a).win 3) t (ix4 0 0 f k : S1x1x704x1024.Idx) ax rfl).trans
    (by rw [show ((cfg0 a).win 3).index t = _ from ix_w3 a.1 (grid0.coords t), ← he]; rfl)

/-- Where a point's block of the result lies. -/
theorem emb_o (t : Fin (cfg0 a).N) (p : Fin 512) (k : Fin 1024) (r : Fin 49664) (hr : (r : ℕ) = (tile a t).val * 512 + p) :
    (((cfg0 a).win 4).blk t).view.emb (ix2 p k : S512x1024.Idx) = (ix2 r k : S49664x1024.Idx) := by
  have v := fun ax => Pipeline.Window.rect_emb_val ((cfg0 a).win 4) t (ix2 p k : S512x1024.Idx) ax rfl
  have w : ((cfg0 a).win 4).index t = ![(BitVec.ofNat 32 (tile a t).val).toNat, 0] := rfl
  have hb : (BitVec.ofNat 32 (tile a t).val).toNat = (tile a t).val := by rw [BitVec.toNat_ofNat]; have := (tile a t).isLt; omega
  rw [w, hb] at v
  funext ax
  refine Fin.ext ((v ax).trans ?_)
  change Fin 2 at ax
  fin_cases ax
  · exact hr.symm
  · show 0 * 1024 + (k : ℕ) = k
    omega

variable (m : (ℓ : Loc nD τ sig) → Buf (Elt Ideal) ℓ)

/-- The staged projections are the arguments', transposed. -/
theorem V_v0 (c : Dev nD) : V m c main_v0 = (transpose S2x16x704x1024 [0, 1, 3, 2] (m ((c : Thread nD τ).loc main_arg3)) transposes_S2x16x1024x704_S2x16x704x1024_0_1_3_2 : FVec Ideal S2x16x704x1024 .f32) := by
  entry_read
  rfl

/-- The up weights as the call finds them: transposed. -/
theorem V_v1 (c : Dev nD) : V m c main_v1 = (transpose S2x16x704x1024 [0, 1, 3, 2] (m ((c : Thread nD τ).loc main_arg4)) transposes_S2x16x1024x704_S2x16x704x1024_0_1_3_2 : FVec Ideal S2x16x704x1024 .f32) := by
  entry_read
  rfl

/-- The transposed weights at an index. -/
theorem swap_at (W : FVec Ideal S2x16x1024x704 .f32) (e : Fin 16) (f : Fin 704) (k : Fin 1024) :
    (transpose S2x16x704x1024 [0, 1, 3, 2] W transposes_S2x16x1024x704_S2x16x704x1024_0_1_3_2 : FVec Ideal S2x16x704x1024 .f32) (ix4 0 e f k) = W (ix4 0 e k f) := by
  pointwise

end Cert.Kernel2Ideal.Ffn

end
-- ==== Proof.FfnFinal.lean ====
module

public import proofs.«01_k».proof.Proof.FfnPay
public import Idealize.ShloMosaic.Lib.Pipeline.ValueKit

@[expose] public section

set_option maxRecDepth 16384

noncomputable section
namespace Cert.Kernel2Ideal.Ffn
open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (hO : Ok m) (c : Dev nD) (t : Fin (cfgM m hO).N)

/-- A block the point stages is its array read through the point's window. -/
theorem iblk_0 (y : S512x1024.Idx) : (iblk m hO c 0 t y : EReal) = V m c main_arg2 ((((cfgM m hO).win 0).blk t).view.emb y) := by
  unfold iblk
  generalize V m c = W
  exact (View.read_apply _ _).trans (cast_eq _ _)

/-- The gate's block at an element. -/
theorem iblk_1 (y : S1x1x704x1024.Idx) : (iblk m hO c 1 t y : EReal) = V m c main_v0 ((((cfgM m hO).win 1).blk t).view.emb y) := by
  unfold iblk
  generalize V m c = W
  exact (View.read_apply _ _).trans (cast_eq _ _)

/-- The up weights' block at an element. -/
theorem iblk_2 (y : S1x1x704x1024.Idx) : (iblk m hO c 2 t y : EReal) = V m c main_v1 ((((cfgM m hO).win 2).blk t).view.emb y) := by
  unfold iblk
  generalize V m c = W
  exact (View.read_apply _ _).trans (cast_eq _ _)

/-- The down weights' block at an element. -/
theorem iblk_3 (y : S1x1x704x1024.Idx) : (iblk m hO c 3 t y : EReal) = V m c main_arg5 ((((cfgM m hO).win 3).blk t).view.emb y) := by
  unfold iblk
  generalize V m c = W
  exact (View.read_apply _ _).trans (cast_eq _ _)

/-- A token the point stages is the argument's. -/
theorem x_at (h : Ranges (tbl m)) (p : Fin 512) (k : Fin 1024) (r : Fin 49664)
    (hr : (r : ℕ) = min (tile (adm m hO) t).val ((used (tbl m)).toNat - 1) * 512 + p) :
    (iblk m hO c 0 t (ix2 p k : S512x1024.Idx) : EReal) = m ((c : Thread nD τ).loc main_arg2) (ix2 r k : S49664x1024.Idx) := by
  have e := emb_x (adm m hO) h t p k r hr
  have v := V_arg m c main_arg2 (by decide) (by decide)
  exact (iblk_0 m hO c t _).trans ((congrArg (V m c main_arg2) e).trans (congrFun v _))

/-- A weight of the gate the point stages is the argument's, its axes swapped. -/
theorem g_at (f : Fin 704) (k : Fin 1024) (e : Fin 16) (he : (e : ℕ) = (expert (tbl m) (tile (adm m hO) t)).toNat) :
    (iblk m hO c 1 t (ix4 0 0 f k : S1x1x704x1024.Idx) : EReal) = m ((c : Thread nD τ).loc main_arg3) (ix4 0 e k f : S2x16x1024x704.Idx) := by
  have e := emb_w1 (adm m hO) t f k e he
  have v := V_v0 m c
  exact (iblk_1 m hO c t _).trans ((congrArg (V m c main_v0) e).trans ((congrFun v _).trans (swap_at (m ((c : Thread nD τ).loc main_arg3)) _ f k)))

/-- A weight of the up projection likewise. -/
theorem u_at (f : Fin 704) (k : Fin 1024) (e : Fin 16) (he : (e : ℕ) = (expert (tbl m) (tile (adm m hO) t)).toNat) :
    (iblk m hO c 2 t (ix4 0 0 f k : S1x1x704x1024.Idx) : EReal) = m ((c : Thread nD τ).loc main_arg4) (ix4 0 e k f : S2x16x1024x704.Idx) := by
  have e := emb_w2 (adm m hO) t f k e he
  have v := V_v1 m c
  exact (iblk_2 m hO c t _).trans ((congrArg (V m c main_v1) e).trans ((congrFun v _).trans (swap_at (m ((c : Thread nD τ).loc main_arg4)) _ f k)))

/-- A weight of the down projection is the argument's. -/
theorem d_at (f : Fin 704) (k : Fin 1024) (e : Fin 16) (he : (e : ℕ) = (expert (tbl m) (tile (adm m hO) t)).toNat) :
    (iblk m hO c 3 t (ix4 0 0 f k : S1x1x704x1024.Idx) : EReal) = m ((c : Thread nD τ).loc main_arg5) (ix4 0 e f k : S2x16x704x1024.Idx) := by
  have e := emb_w3 (adm m hO) t f k e he
  have v := V_arg m c main_arg5 (by decide) (by decide)
  exact (iblk_3 m hO c t _).trans ((congrArg (V m c main_arg5) e).trans (congrFun v _))

/-- The count the body reads is the table's. -/
theorem word_at (n : TabBuf (F := Ideal) c nu) : word c n = (n (ix1 0 : S1.Idx) : BitVec 32) := by
  unfold word
  refine congrArg n ?_
  funext d
  change Fin 1 at d
  obtain rfl : d = 0 := Subsingleton.elim _ _
  rfl

/-- The count that the body reads is the table's. -/
theorem word_eq : word c (tbl m 1) = used (tbl m) := word_at c (tbl m 1)

/-- The body's first condition, as numbers. -/
theorem cond_nat (i : grid0.Coords) (w : BitVec 32) (hw : w.toNat ≤ 97) : k0_cond1 i w = 1#1 ↔ (i 0).val < w.toNat := by
  have hi : (i 0).val < 97 := (i 0).isLt
  rw [cond1_iff, StableHlo.Predicate.toInt_ofNat_small _ (by omega), StableHlo.Predicate.toInt_eq_toNat_of_lt (by omega)]
  omega

/-- What a point stores, at an element: with the blocks it stages read from the arguments, the tile's expert's feed-forward of the
    token, or zero past the used tiles. -/
theorem out_pure (i : grid0.Coords) (w : BitVec 32) (hw : w.toNat ≤ 97) (x0 : Vec Ideal S512x1024 .f32) (x1 x2 x3 : Vec Ideal S1x1x704x1024 .f32) (p : Fin 512) (q : Fin 1024)
    (X : FVec Ideal S49664x1024 .f32) (G U : FVec Ideal S2x16x1024x704 .f32) (D : FVec Ideal S2x16x704x1024 .f32) (e : Fin 16) (r : Fin 49664)
    (hx : (i 0).val < w.toNat → ∀ k, x0 (ix2 p k) = X (ix2 r k)) (h1 : ∀ f k, x1 (ix4 0 0 f k) = G (ix4 0 e k f)) (h2 : ∀ f k, x2 (ix4 0 0 f k) = U (ix4 0 e k f))
    (h3 : ∀ f k, x3 (ix4 0 0 f k) = D (ix4 0 e f k)) :
    (out i w x0 x1 x2 x3 (ix2 p q) : EReal) = if (i 0).val < w.toNat then Cert.Reference2Ideal.Ffn.ffn X G U D e r q else 0 := by
  unfold out
  by_cases h : (i 0).val < w.toNat
  · rw [if_pos ((cond_nat i w hw).mpr h), if_pos h, pay1_at]
    unfold Cert.Reference2Ideal.Ffn.ffn
    simp only [hx h, h1, h2, h3, mul_comm (X _)]
  · rw [if_neg (fun hc => h ((cond_nat i w hw).mp hc)), if_neg h, pay2_at]

/-- The reference's result at the program's arguments. -/
abbrev REF : FVec Ideal S49664x1024 .f32 :=
  Cert.Reference2Ideal.Ffn.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a point stores is the reference's result at the rows of its tile. -/
theorem out_at (h : Ranges (tbl m)) (ha : ∀ i : S97.Idx, (m ((c : Thread nD τ).loc main_arg0) i : BitVec 32).toNat < 16) (p : Fin 512) (q : Fin 1024) (r : Fin 49664)
    (hr : (r : ℕ) = (tile (adm m hO) t).val * 512 + p) :
    (outAt m hO c t (ix2 p q : S512x1024.Idx) : EReal) = REF m c (ix2 r q) := by
  obtain rfl : c = 0 := Subsingleton.elim _ _
  have hn : (m (((0 : Dev nD) : Thread nD τ).loc main_arg1) (ix1 0 : S1.Idx) : BitVec 32) = used (tbl m) := (congrFun (tbl_1 m) _).symm
  have he : (m (((0 : Dev nD) : Thread nD τ).loc main_arg0) (ix1 (tile (adm m hO) t) : S97.Idx) : BitVec 32) = expert (tbl m) (tile (adm m hO) t) := (congrFun (tbl_0 m) _).symm
  have hd : (⟨(r : ℕ) / 512, by omega⟩ : Fin 97) = tile (adm m hO) t := Fin.ext (by show (r : ℕ) / 512 = _; omega)
  refine (out_pure (grid0.coords t) _ (by rw [word_eq]; exact h.2.2) _ _ _ _ p q (m (((0 : Dev nD) : Thread nD τ).loc main_arg2)) (m (((0 : Dev nD) : Thread nD τ).loc main_arg3)) (m (((0 : Dev nD) : Thread nD τ).loc main_arg4)) (m (((0 : Dev nD) : Thread nD τ).loc main_arg5))
    ⟨(expert (tbl m) (tile (adm m hO) t)).toNat, h.1 _⟩ r ?_ (fun f k => g_at m hO 0 t f k _ rfl) (fun f k => u_at m hO 0 t f k _ rfl) (fun f k => d_at m hO 0 t f k _ rfl)).trans ?_
  · intro hlt k
    rw [word_eq] at hlt
    refine x_at m hO 0 t h p k r (hr.trans ?_)
    rw [Nat.min_eq_left]
    show (grid0.coords t 0).val ≤ _
    omega
  · refine Eq.trans ?_ (Cert.Reference2Ideal.Ffn.REF_at (m (((0 : Dev nD) : Thread nD τ).loc main_arg0)) (m (((0 : Dev nD) : Thread nD τ).loc main_arg1)) _ _ _ _ ha (by rw [hn]; exact h.2.2) r q).symm
    rw [word_eq]
    have h1 : (grid0.coords t 0).val = (r : ℕ) / 512 := (congrArg Fin.val hd).symm
    rw [h1]
    refine if_congr (by rw [hn]) ?_ rfl
    refine congrArg (fun e => Cert.Reference2Ideal.Ffn.ffn _ _ _ _ e r q) (Fin.ext ?_)
    show (expert (tbl m) (tile (adm m hO) t)).toNat = _
    rw [← he, ← hd]

/-- The result's window is written back at every point. -/
theorem flush_4 (a : (pcfg0 (F := Ideal)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The points' blocks cover the result. -/
theorem cover (a : (pcfg0 (F := Ideal)).Adm) (i : S49664x1024.Idx) : ∃ t : Fin (cfg0 a).N, ((cfg0 a).win 4).flush t = true ∧ i ∈ (((cfg0 a).win 4).blk t).view.set := by
  have hi : (i 0).val < 49664 := (i 0).isLt
  have hN : grid0.N = 97 := by decide
  let t : Fin grid0.N := ⟨(i 0).val / 512, by omega⟩
  refine ⟨t, flush_4 a t, ?_⟩
  have e := emb_o a t ⟨(i 0).val % 512, by omega⟩ (i 1) (i 0) (by
    show (i 0).val = (grid0.coords t 0).val * 512 + (i 0).val % 512
    rw [coords_val]; show (i 0).val = (i 0).val / 512 * 512 + _; omega)
  rw [← eq_ix2 i] at e
  rw [← e]
  exact View.emb_mem_set _ _

/-- The array the program leaves is the reference's result. -/
theorem final (h : Ranges (tbl m)) (ha : ∀ i : S97.Idx, (m ((c : Thread nD τ).loc main_arg0) i : BitVec 32).toNat < 16) :
    (dats m hO 0 c).arrAt 4 (cfgM m hO).N = REF m c := by
  refine (dats m hO 0 c).arrAt_eq_of_emb 4 _ (fun t _ y => ?_) (cover (adm m hO))
  have B := fun p q => out_at m hO c t h ha p q ⟨(tile (adm m hO) t).val * 512 + p, by have := (tile (adm m hO) t).isLt; omega⟩ rfl
  have e := fun p q => emb_o (adm m hO) t p q ⟨(tile (adm m hO) t).val * 512 + p, by have := (tile (adm m hO) t).isLt; omega⟩ rfl
  rw [after_4]
  generalize REF m c = G at B ⊢
  generalize outAt m hO c t = O at B ⊢
  have all : ∀ y : S512x1024.Idx, O y = G ((((cfgM m hO).win 4).blk t).view.emb y) := fun y => by
    rw [eq_ix2 y]
    exact (B _ _).trans (congrArg G (e _ _)).symm
  exact (cast_eq _ _).trans (all y)

end Cert.Kernel2Ideal.Ffn

end
-- ==== Proof.InprojRef.lean ====
module

public import proofs.«01_k».proof.Proof.Gen.Reference3Ideal.Run
public import Idealize.ShloMosaic.Lib.Pointwise

@[expose] public section

set_option maxRecDepth 16384

noncomputable section
namespace Cert.Reference3Ideal.Inproj
open Cert.Reference3Ideal Cert.Reference3Ideal.Gen Idealize.ShloMosaic Idealize.ShloMosaic.TcCoe Idealize.SL.Sem

/-- One token's vector divided by its root mean square, times the norm's weight, scaled and shifted. -/
def normed (x w sc sh : Fin 1024 → EReal) (k : Fin 1024) : EReal :=
  x k * Ideal.rsqrt (Ideal.div (∑ j, x j * x j) (Ideal.ofBits .f32 0x44800000#32) + Ideal.ofBits .f32 0x358637BD#32) * w k * (1 + sc k) + sh k

/-- The latent tokens, normed and modulated, as the reference takes them. -/
def lat (x : FVec Ideal S2x8192x1024 .f32) (M : FVec Ideal S3x6x1024 .f32) (w : FVec Ideal S1024 .f32) : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] M slices_S3x6x1024_S2x1x1024_0_1_0) shapeCasts_S2x1x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S2x1x1024 ![0, 0, 0] M slices_S3x6x1024_S2x1x1024_0_0_0) shapeCasts_S2x1x1024_S2x1024)))

/-- The context tokens, normed and modulated, as the reference takes them. -/
def ctx (x : FVec Ideal S2x256x1024 .f32) (M : FVec Ideal S3x6x1024 .f32) (w : FVec Ideal S1024 .f32) : FVec Ideal S2x256x1024 .f32 :=
  addf (mulf (mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 w))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![2, 1, 0] M slices_S3x6x1024_S1x1x1024_2_1_0) shapeCasts_S1x1x1024_S1024))))) (broadcastInDim S2x256x1024 ![0, 1, 2] bcast_S1x1x1024_S2x256x1024_0_1_2 (broadcastInDim S1x1x1024 ![2] bcast_S1024_S1x1x1024_2 (shapeCast _ (extractStridedSlice S1x1x1024 ![2, 0, 0] M slices_S3x6x1024_S1x1x1024_2_0_0) shapeCasts_S1x1x1024_S1024)))

/-- The projection of all tokens. -/
def proj (h : FVec Ideal S2x256x1024 .f32) (l : FVec Ideal S2x8192x1024 .f32) (W : FVec Ideal S1024x5376 .f32) : FVec Ideal S2x8448x5376 .f32 :=
  Host.dotGeneral dot_S2x8448x1024_S1024x5376_S2x8448x5376_2_0_01_1_n_n none (concatenate S2x8448x1024 1 [⟨S2x256x1024, h⟩, ⟨S2x8192x1024, l⟩] concatenates_S2x256x1024_S2x8192x1024_S2x8448x1024_d1) W

/-- The keys of the neighbourhood attention, from the projection. -/
def keys (p : FVec Ideal S2x8448x5376 .f32) : FVec Ideal S2x8448x256 .bf16 :=
  truncf .bf16 (extractStridedSlice S2x8448x256 ![0, 0, 256] p slices_S2x8448x5376_S2x8448x256_0_0_256) bitsLt_bf16_f32

/-- Its values. -/
def vals (p : FVec Ideal S2x8448x5376 .f32) : FVec Ideal S2x8448x256 .bf16 :=
  truncf .bf16 (extractStridedSlice S2x8448x256 ![0, 0, 512] p slices_S2x8448x5376_S2x8448x256_0_0_512) bitsLt_bf16_f32

/-- The convolution's inputs. -/
def conv (p : FVec Ideal S2x8448x5376 .f32) : FVec Ideal S2x8448x768 .f32 :=
  extractStridedSlice S2x8448x768 ![0, 0, 1536] p slices_S2x8448x5376_S2x8448x768_0_0_1536

/-- Of these the latent tokens' alone. -/
def latConv (p : FVec Ideal S2x8448x5376 .f32) : FVec Ideal S2x8192x768 .f32 :=
  extractStridedSlice S2x8192x768 ![0, 256, 1536] p slices_S2x8448x5376_S2x8192x768_0_256_1536

/-- The gates of the branches, from the projection. -/
def gate (p : FVec Ideal S2x8448x5376 .f32) (b : FVec Ideal S3072 .f32) : FVec Ideal S2x8448x3072 .bf16 :=
  truncf .bf16 (Host.divf (broadcastInDim S2x8448x3072 ![] bcast_S_S2x8448x3072 (constant S_ .f32 0x3F800000#32)) (addf (broadcastInDim S2x8448x3072 ![] bcast_S_S2x8448x3072 (constant S_ .f32 0x3F800000#32)) (Host.exp (Host.negf (addf (extractStridedSlice S2x8448x3072 ![0, 0, 2304] p slices_S2x8448x5376_S2x8448x3072_0_0_2304) (broadcastInDim S2x8448x3072 ![0, 1, 2] bcast_S1x1x3072_S2x8448x3072_0_1_2 (broadcastInDim S1x1x3072 ![2] bcast_S3072_S1x1x3072_2 b))))))) bitsLt_bf16_f32

/-- The vector of a latent token, normed and modulated by its batch entry's rows. -/
theorem lat_at (x : FVec Ideal S2x8192x1024 .f32) (M : FVec Ideal S3x6x1024 .f32) (w : FVec Ideal S1024 .f32) (b : Fin 2) (t : Fin 8192) (k : Fin 1024) :
    lat x M w (ix3 b t k) = normed (fun j => x (ix3 b t j)) (fun j => w (ix1 j)) (fun j => M (ix3 (⟨b.1, by omega⟩ : Fin 3) (1 : Fin 6) j)) (fun j => M (ix3 (⟨b.1, by omega⟩ : Fin 3) (0 : Fin 6) j)) k := by
  pointwise [lat, normed]

/-- The vector of a context token, normed and modulated by the third entry's rows. -/
theorem ctx_at (x : FVec Ideal S2x256x1024 .f32) (M : FVec Ideal S3x6x1024 .f32) (w : FVec Ideal S1024 .f32) (b : Fin 2) (t : Fin 256) (k : Fin 1024) :
    ctx x M w (ix3 b t k) = normed (fun j => x (ix3 b t j)) (fun j => w (ix1 j)) (fun j => M (ix3 (2 : Fin 3) (1 : Fin 6) j)) (fun j => M (ix3 (2 : Fin 3) (0 : Fin 6) j)) k := by
  pointwise [ctx, normed]

/-- One entry of the projection: the first 256 tokens are the context's, the rest the latents'. -/
theorem proj_at (h : FVec Ideal S2x256x1024 .f32) (l : FVec Ideal S2x8192x1024 .f32) (W : FVec Ideal S1024x5376 .f32) (b : Fin 2) (t : Fin 8448) (n : Fin 5376) :
    proj h l W (ix3 b t n) = ∑ k : Fin 1024, (if ht : t.1 < 256 then h (ix3 b (⟨t.1, ht⟩ : Fin 256) k) else l (ix3 b (⟨t.1 - 256, by omega⟩ : Fin 8192) k)) * W (ix2 k n) := by
  pointwise [proj]

/-- One key is a column of the projection. -/
theorem keys_at (p : FVec Ideal S2x8448x5376 .f32) (b : Fin 2) (t : Fin 8448) (n : Fin 256) :
    keys p (ix3 b t n) = p (ix3 b t (⟨256 + n.1, by omega⟩ : Fin 5376)) := by
  pointwise [keys]

/-- One value likewise. -/
theorem vals_at (p : FVec Ideal S2x8448x5376 .f32) (b : Fin 2) (t : Fin 8448) (n : Fin 256) :
    vals p (ix3 b t n) = p (ix3 b t (⟨512 + n.1, by omega⟩ : Fin 5376)) := by
  pointwise [vals]

/-- One of the convolution's inputs likewise. -/
theorem conv_at (p : FVec Ideal S2x8448x5376 .f32) (b : Fin 2) (t : Fin 8448) (n : Fin 768) :
    conv p (ix3 b t n) = p (ix3 b t (⟨1536 + n.1, by omega⟩ : Fin 5376)) := by
  pointwise [conv]

/-- One of the latent tokens' likewise, 256 rows further down. -/
theorem latConv_at (p : FVec Ideal S2x8448x5376 .f32) (b : Fin 2) (t : Fin 8192) (n : Fin 768) :
    latConv p (ix3 b t n) = p (ix3 b (⟨256 + t.1, by omega⟩ : Fin 8448) (⟨1536 + n.1, by omega⟩ : Fin 5376)) := by
  pointwise [latConv]

/-- One gate: the logistic function of a projected column and its bias. -/
theorem gate_at (p : FVec Ideal S2x8448x5376 .f32) (g : FVec Ideal S3072 .f32) (b : Fin 2) (t : Fin 8448) (n : Fin 3072) :
    gate p g (ix3 b t n) = Ideal.div 1 (1 + Ideal.exp (-(p (ix3 b t (⟨2304 + n.1, by omega⟩ : Fin 5376)) + g (ix1 n)))) := by
  pointwise [gate]

end Cert.Reference3Ideal.Inproj
end
-- ==== Proof.InprojPay.lean ====
module

public import proofs.«01_k».proof.Proof.InprojRef
public import proofs.«01_k».proof.Proof.Gen.Kernel3Ideal.Skeleton
public import Idealize.ShloMosaic.Lib.Pointwise

@[expose] public section

set_option maxRecDepth 16384

noncomputable section
namespace Cert.Kernel3Ideal.Inproj
open Cert.Kernel3Ideal Cert.Kernel3Ideal.Gen Idealize.ShloMosaic Idealize.ShloMosaic.TcCoe Idealize.SL.Sem
open Cert.Reference3Ideal.Inproj (normed)

theorem tile_lt : ∀ n : Fin 33, Scalar.cmpi .slt (BitVec.ofNat 32 n.val) 1#32 = (if n.val < 1 then 1#1 else 0#1) := by decide +kernel

/-- The row the body works on: the context's in the first tile, the latents' after it. -/
theorem pay6_at (i : grid0.Coords) (x0 x1 : Vec Ideal S1x256x1024 .f32) (x2 : Vec Ideal S1x6x1024 .f32) (x3 : Vec Ideal S1x1024 .f32) (p : Fin 256) (k : Fin 1024) :
    k0_pay6 (F := Ideal) i x0 x1 x2 x3 (ix2 p k) = normed (fun j => if (i 1).val < 1 then x0 (ix3 0 p j) else x1 (ix3 0 p j)) (fun j => x3 (ix2 0 j)) (fun j => x2 (ix3 0 1 j)) (fun j => x2 (ix3 0 0 j)) k := by
  have e := tile_lt (i 1)
  by_cases h : (i 1).val < 1
  · rw [if_pos h] at e
    pointwise [k0_pay6, normed]
    simp only [e, h, if_true, if_false]
    rfl
  · rw [if_neg h] at e
    pointwise [k0_pay6, normed]
    simp only [e, h, if_true, if_false]
    rfl

theorem pay10_at (x : FVec Ideal S256x768 .f32) (p q : Fin 256) :
    k0_pay10 (F := Ideal) x (ix3 0 p q) = x (ix2 p (⟨256 + q.1, by omega⟩ : Fin 768)) := by
  pointwise [k0_pay10]

theorem pay11_at (x : FVec Ideal S256x768 .f32) (p q : Fin 256) :
    k0_pay11 (F := Ideal) x (ix3 0 p q) = x (ix2 p (⟨512 + q.1, by omega⟩ : Fin 768)) := by
  pointwise [k0_pay11]

theorem pay7_at (i : grid0.Coords) (x0 x1 : Vec Ideal S1x256x1024 .f32) (x2 : Vec Ideal S1x6x1024 .f32) (x3 : Vec Ideal S1x1024 .f32) (w : Vec Ideal S1024x768 .bf16) (p : Fin 256) (q : Fin 768) :
    k0_pay7 (F := Ideal) i x0 x1 x2 x3 w (ix2 p q) = ∑ k : Fin 1024, k0_pay6 (F := Ideal) i x0 x1 x2 x3 (ix2 p k) * w (ix2 k q) := by
  unfold k0_pay7
  generalize k0_pay6 (F := Ideal) i x0 x1 x2 x3 = h
  pointwise []

theorem pay3_at (h : FVec Ideal S256x1024 .bf16) (w : Vec Ideal S1024x768 .bf16) (p : Fin 256) (q : Fin 768) :
    k0_pay3 (F := Ideal) h w (ix3 0 p q) = ∑ k : Fin 1024, h (ix2 p k) * w (ix2 k q) := by
  pointwise [k0_pay3, k0_pay2]

theorem pay4_at (h : FVec Ideal S256x1024 .bf16) (w : Vec Ideal S1024x768 .bf16) (p : Fin 256) (q : Fin 768) :
    k0_pay4 (F := Ideal) h w (ix3 0 p q) = ∑ k : Fin 1024, h (ix2 p k) * w (ix2 k q) := by
  pointwise [k0_pay4, k0_pay2]

theorem pay5_at (h : FVec Ideal S256x1024 .bf16) (w : Vec Ideal S1024x3072 .bf16) (g : Vec Ideal S1x3072 .f32) (p : Fin 256) (q : Fin 3072) :
    k0_pay5 (F := Ideal) h w g (ix3 0 p q) = Ideal.div 1 (1 + Ideal.exp (-(∑ k : Fin 1024, h (ix2 p k) * w (ix2 k q) + g (ix2 0 q)))) := by
  pointwise [k0_pay5]
  rfl

end Cert.Kernel3Ideal.Inproj
end
-- ==== Proof.InprojBlocks.lean ====
module

public import proofs.«01_k».proof.Proof.Gen.Kernel3Ideal.Launch
public import Idealize.ShloMosaic.Lib.Pointwise
public import Idealize.ShloMosaic.Lib.Pipeline.ValueKit
public import Idealize.ShloMosaic.Lib.Claim

@[expose] public section

set_option maxRecDepth 16384

noncomputable section
namespace Cert.Kernel3Ideal.Inproj
open Cert.Kernel3Ideal Cert.Kernel3Ideal.Gen Idealize.ShloMosaic Idealize.ShloMosaic.TcCoe Idealize.SL.Sem
open Idealize.ShloMosaic.Pipeline (Dat)

/-- The blocks a point stages and writes: its batch entry and its tile of tokens; of the modulation the third entry's in the first tile. -/
theorem idx : ∀ t : Fin cfg0.N, win0_0.index t = ![t.val / 33, 0, 0] ∧ win0_1.index t = ![t.val / 33, t.val % 33 - 1, 0]
    ∧ win0_2.index t = ![if t.val % 33 < 1 then 2 else t.val / 33, 0, 0] ∧ win0_3.index t = ![0, 0] ∧ win0_4.index t = ![0, 0] ∧ win0_5.index t = ![0, 0]
    ∧ win0_15.index t = ![t.val / 33, t.val % 33, 0] ∧ win0_16.index t = ![t.val / 33, t.val % 33, 0] ∧ win0_21.index t = ![t.val / 33, t.val % 33, 0]
    ∧ win0_23.index t = ![t.val / 33, t.val % 33, 0] ∧ (grid0.coords t 1).val = t.val % 33 :=
  (by decide +kernel : ∀ t : Fin grid0.N, _)

/-- A point's batch entry is one of two. -/
theorem lt33 (t : Fin cfg0.N) : t.val / 33 < 2 := by
  have := t.isLt; have : cfg0.N = 66 := by decide +kernel
  omega

/-- Where a point's block of the context lies. -/
theorem emb_c (t : Fin cfg0.N) (p : Fin 256) (k : Fin 1024) :
    ((cfg0.win 0).blk t).view.emb (ix3 0 p k : S1x256x1024.Idx) = (ix3 ⟨t.val / 33, lt33 t⟩ p k : S2x256x1024.Idx) := by
  blk_ext [idx t]

/-- Where its block of the latents lies. -/
theorem emb_l (t : Fin cfg0.N) (p : Fin 256) (k : Fin 1024) :
    ((cfg0.win 1).blk t).view.emb (ix3 0 p k : S1x256x1024.Idx) = (ix3 ⟨t.val / 33, lt33 t⟩ ⟨(t.val % 33 - 1) * 256 + p, by omega⟩ k : S2x8192x1024.Idx) := by
  blk_ext [idx t]

/-- Where its block of the modulation lies. -/
theorem emb_m (t : Fin cfg0.N) (j : Fin 6) (k : Fin 1024) :
    ((cfg0.win 2).blk t).view.emb (ix3 0 j k : S1x6x1024.Idx) = (ix3 ⟨if t.val % 33 < 1 then 2 else t.val / 33, by have := lt33 t; split <;> omega⟩ j k : S3x6x1024.Idx) := by
  blk_ext [idx t]

/-- The norm's weights are staged whole. -/
theorem emb_n (t : Fin cfg0.N) (k : Fin 1024) :
    ((cfg0.win 3).blk t).view.emb (ix2 0 k : S1x1024.Idx) = (ix2 0 k : S1x1024.Idx) := by
  blk_ext [idx t]

/-- The weights are staged whole. -/
theorem emb_w (t : Fin cfg0.N) (k : Fin 1024) (n : Fin 5376) :
    ((cfg0.win 4).blk t).view.emb (ix2 k n : S1024x5376.Idx) = (ix2 k n : S1024x5376.Idx) := by
  blk_ext [idx t]

/-- The gates' biases are staged whole. -/
theorem emb_b (t : Fin cfg0.N) (n : Fin 3072) :
    ((cfg0.win 5).blk t).view.emb (ix2 0 n : S1x3072.Idx) = (ix2 0 n : S1x3072.Idx) := by
  blk_ext [idx t]

/-- Where a point's block of the keys lies. -/
theorem emb_15 (t : Fin cfg0.N) (p q : Fin 256) :
    ((cfg0.win 15).blk t).view.emb (ix3 0 p q : S1x256x256.Idx) = (ix3 ⟨t.val / 33, lt33 t⟩ ⟨t.val % 33 * 256 + p, by omega⟩ q : S2x8448x256.Idx) := by
  blk_ext [idx t]

/-- Where its block of the values lies. -/
theorem emb_16 (t : Fin cfg0.N) (p q : Fin 256) :
    ((cfg0.win 16).blk t).view.emb (ix3 0 p q : S1x256x256.Idx) = (ix3 ⟨t.val / 33, lt33 t⟩ ⟨t.val % 33 * 256 + p, by omega⟩ q : S2x8448x256.Idx) := by
  blk_ext [idx t]

/-- Where its block of the convolution's inputs lies. -/
theorem emb_21 (t : Fin cfg0.N) (p : Fin 256) (q : Fin 768) :
    ((cfg0.win 21).blk t).view.emb (ix3 0 p q : S1x256x768.Idx) = (ix3 ⟨t.val / 33, lt33 t⟩ ⟨t.val % 33 * 256 + p, by omega⟩ q : S2x8448x768.Idx) := by
  blk_ext [idx t]

/-- The block of the latent tokens' inputs to the convolution that a point writes: one tile less, and the first in the first tile too. -/
theorem idx22 : ∀ t : Fin cfg0.N, win0_22.index t = ![t.val / 33, t.val % 33 - 1, 0] :=
  (by decide +kernel : ∀ t : Fin grid0.N, _)

/-- It is written back after every tile but a batch entry's first. -/
theorem flush22 : ∀ t : Fin cfg0.N, (cfg0.win 22).flush t = true → 1 ≤ t.val % 33 :=
  (by decide +kernel : ∀ t : Fin grid0.N, _)

/-- Where it lies. -/
theorem emb_22 (t : Fin cfg0.N) (p : Fin 256) (q : Fin 768) :
    ((cfg0.win 22).blk t).view.emb (ix3 0 p q : S1x256x768.Idx) = (ix3 ⟨t.val / 33, lt33 t⟩ ⟨(t.val % 33 - 1) * 256 + p, by omega⟩ q : S2x8192x768.Idx) := by
  blk_ext [idx22 t]

/-- Where its block of the gates lies. -/
theorem emb_23 (t : Fin cfg0.N) (p : Fin 256) (q : Fin 3072) :
    ((cfg0.win 23).blk t).view.emb (ix3 0 p q : S1x256x3072.Idx) = (ix3 ⟨t.val / 33, lt33 t⟩ ⟨t.val % 33 * 256 + p, by omega⟩ q : S2x8448x3072.Idx) := by
  blk_ext [idx t]

end Cert.Kernel3Ideal.Inproj
end
-- ==== Proof.InprojFrame.lean ====
/- The frame of the projection over the extended reals: the generated one, its body obligation given the time it needs. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Inproj
open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats 0 c).arrAt_in 8 rfl _).trans ((hA c 8).trans (V_main_arg8 m c))),
      ((h c).1 9).trans (((dats 0 c).arrAt_in 9 rfl _).trans ((hA c 9).trans (V_main_arg9 m c)))⟩) h

/-! ## The body's accesses -/

abbrev r0_0 : Rect S1x256x1024 := Rect.unit (s := S1x256x1024) ![0, 0, 0] S1x256x1024.size inb_S1x256x1024_S1x256x1024_0_0_0
abbrev r0_1 : Rect S1x6x1024 := Rect.unit (s := S1x6x1024) ![0, 0, 0] S1x6x1024.size inb_S1x6x1024_S1x6x1024_0_0_0
abbrev r0_2 : Rect S1x1024 := Rect.unit (s := S1x1024) ![0, 0] S1x1024.size inb_S1x1024_S1x1024_0_0
abbrev r0_3 : Rect S1024x5376 := Rect.unit (s := S1024x5376) ![0, 0] S1024x768.size inb_S1024x5376_S1024x768_0_0
abbrev r0_4 : Rect S1x256x256 := Rect.unit (s := S1x256x256) ![0, 0, 0] S1x256x256.size inb_S1x256x256_S1x256x256_0_0_0
abbrev r0_5 : Rect S256x128 := Rect.unit (s := S256x128) ![0, 0] S256x128.size inb_S256x128_S256x128_0_0
abbrev r0_6 : Rect S1024x5376 := Rect.unit (s := S1024x5376) ![0, 768] S1024x512.size inb_S1024x5376_S1024x512_0_768
abbrev r0_7 : Rect S512x512 := Rect.unit (s := S512x512) ![0, 0] S512x512.size inb_S512x512_S512x512_0_0
abbrev r0_8 : Rect S1x512 := Rect.unit (s := S1x512) ![0, 0] S1x512.size inb_S1x512_S1x512_0_0
abbrev r0_9 : Rect S1x256x512 := Rect.unit (s := S1x256x512) ![0, 0, 0] S1x256x512.size inb_S1x256x512_S1x256x512_0_0_0
abbrev r0_10 : Rect S1024x5376 := Rect.unit (s := S1024x5376) ![0, 1280] S1024x256.size inb_S1024x5376_S1024x256_0_1280
abbrev r0_11 : Rect S128x128 := Rect.unit (s := S128x128) ![0, 0] S128x128.size inb_S128x128_S128x128_0_0
abbrev r0_12 : Rect S1x128 := Rect.unit (s := S1x128) ![0, 0] S1x128.size inb_S1x128_S1x128_0_0
abbrev r0_13 : Rect S128x256 := Rect.unit (s := S128x256) ![0, 0] S128x256.size inb_S128x256_S128x256_0_0
abbrev r0_14 : Rect S1024x5376 := Rect.unit (s := S1024x5376) ![0, 1536] S1024x768.size inb_S1024x5376_S1024x768_0_1536
abbrev r0_15 : Rect S1x256x768 := Rect.unit (s := S1x256x768) ![0, 0, 0] S1x256x768.size inb_S1x256x768_S1x256x768_0_0_0
abbrev r0_16 : Rect S1024x5376 := Rect.unit (s := S1024x5376) ![0, 2304] S1024x3072.size inb_S1024x5376_S1024x3072_0_2304
abbrev r0_17 : Rect S1x3072 := Rect.unit (s := S1x3072) ![0, 0] S1x3072.size inb_S1x3072_S1x3072_0_0
abbrev r0_18 : Rect S1x256x3072 := Rect.unit (s := S1x256x3072) ![0, 0, 0] S1x256x3072.size inb_S1x256x3072_S1x256x3072_0_0_0

/-! ## What the body leaves in each output window's buffer -/

/-! ### Values of the body that the stores' payloads, spelt out, would write more than once

    Each is a vector the body binds (often a part call's result), stated over the input windows' blocks and
    numbered on from the skeleton's payload functions (`k0_pay25` …, after `k0_pay24`), so that
    `out0_W` and the values after it name it instead of spelling it out; the comment after each is the printed function's
    name for the value (a count appended where that name is bound again). -/

def k0_pay25 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : FVec F S256x1024 .bf16 :=
  k0_pay6 i (View.ld x0 r0_0) (View.ld x1 r0_0) (View.ld x2 r0_1) (View.ld x3 r0_2) -- `v30`
def k0_pay26 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : FVec F S256x768 .f32 :=
  k0_pay7 i (View.ld x0 r0_0) (View.ld x1 r0_0) (View.ld x2 r0_1) (View.ld x3 r0_2) (View.ld x4 r0_3) -- `v33`
def k0_pay27 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : FVec F S256x512 .f32 :=
  k0_pay12 (k0_pay25 i x0 x1 x2 x3 x4 x5 x6 x7 x8 x9 x10 x11 x12 x13) (View.ld x4 r0_6) -- `v55`
def k0_pay28 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : FVec F S1x512 .f32 :=
  k0_pay13 (View.ld x6 r0_8) -- `v59`
def k0_pay29 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : FVec F S256x512 .f32 :=
  k0_pay14 (k0_pay25 i x0 x1 x2 x3 x4 x5 x6 x7 x8 x9 x10 x11 x12 x13) (View.ld x4 r0_6) (View.ld x10 r0_7) -- `v69`
def k0_pay30 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : FVec F S256x512 .f32 :=
  k0_pay15 (F := F) -- `v70`

/-- Window 14's staging buffer after the body, from the input windows' blocks: its 1 store as pieces, LAST
    FIRST (Lib/Pipeline/FrameBody.lean `View.canon`; the payloads are the skeleton's and the values stated above). -/
def out0_14 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x256 .bf16 :=
  View.canon [⟨r0_4, k0_pay9 (k0_pay8 i (View.ld x0 r0_0) (View.ld x1 r0_0) (View.ld x2 r0_1) (View.ld x3 r0_2) (View.ld x4 r0_3))⟩]

/-- Its stores tile the buffer (checked by evaluation), so they cover it. -/
theorem cover0_14 (p0 : Vec F S1x256x256 .bf16) (y : S1x256x256.Idx) :
    ∃ pc ∈ ([⟨r0_4, p0⟩] : List (View.Piece (Elt F) S1x256x256 .bf16)), y ∈ pc.1.set :=
  View.cover_of_tiled [⟨r0_4, p0⟩] S1x256x256.size (by rfl) y

/-- Window 15's staging buffer after the body, from the input windows' blocks: its 1 store as pieces, LAST
    FIRST (Lib/Pipeline/FrameBody.lean `View.canon`; the payloads are the skeleton's and the values stated above). -/
def out0_15 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x256 .bf16 :=
  View.canon [⟨r0_4, k0_pay10 (k0_pay26 i x0 x1 x2 x3 x4 x5 x6 x7 x8 x9 x10 x11 x12 x13)⟩]

/-- Its stores tile the buffer (checked by evaluation), so they cover it. -/
theorem cover0_15 (p0 : Vec F S1x256x256 .bf16) (y : S1x256x256.Idx) :
    ∃ pc ∈ ([⟨r0_4, p0⟩] : List (View.Piece (Elt F) S1x256x256 .bf16)), y ∈ pc.1.set :=
  View.cover_of_tiled [⟨r0_4, p0⟩] S1x256x256.size (by rfl) y

/-- Window 16's staging buffer after the body, from the input windows' blocks: its 1 store as pieces, LAST
    FIRST (Lib/Pipeline/FrameBody.lean `View.canon`; the payloads are the skeleton's and the values stated above). -/
def out0_16 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x256 .bf16 :=
  View.canon [⟨r0_4, k0_pay11 (k0_pay26 i x0 x1 x2 x3 x4 x5 x6 x7 x8 x9 x10 x11 x12 x13)⟩]

/-- Its stores tile the buffer (checked by evaluation), so they cover it. -/
theorem cover0_16 (p0 : Vec F S1x256x256 .bf16) (y : S1x256x256.Idx) :
    ∃ pc ∈ ([⟨r0_4, p0⟩] : List (View.Piece (Elt F) S1x256x256 .bf16)), y ∈ pc.1.set :=
  View.cover_of_tiled [⟨r0_4, p0⟩] S1x256x256.size (by rfl) y

/-- Window 17's staging buffer after the body, from the input windows' blocks: its 1 store as pieces, LAST
    FIRST (Lib/Pipeline/FrameBody.lean `View.canon`; the payloads are the skeleton's and the values stated above). -/
def out0_17 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x512 .bf16 :=
  View.canon [⟨r0_9, k0_pay17 (View.ld x8 r0_5) (View.ld x9 r0_5) (k0_pay27 i x0 x1 x2 x3 x4 x5 x6 x7 x8 x9 x10 x11 x12 x13) (k0_pay28 i x0 x1 x2 x3 x4 x5 x6 x7 x8 x9 x10 x11 x12 x13) (k0_pay29 i x0 x1 x2 x3 x4 x5 x6 x7 x8 x9 x10 x11 x12 x13) (k0_pay30 i x0 x1 x2 x3 x4 x5 x6 x7 x8 x9 x10 x11 x12 x13)⟩]

/-- Its stores tile the buffer (checked by evaluation), so they cover it. -/
theorem cover0_17 (p0 : Vec F S1x256x512 .bf16) (y : S1x256x512.Idx) :
    ∃ pc ∈ ([⟨r0_9, p0⟩] : List (View.Piece (Elt F) S1x256x512 .bf16)), y ∈ pc.1.set :=
  View.cover_of_tiled [⟨r0_9, p0⟩] S1x256x512.size (by rfl) y

/-- Window 18's staging buffer after the body, from the input windows' blocks: its 1 store as pieces, LAST
    FIRST (Lib/Pipeline/FrameBody.lean `View.canon`; the payloads are the skeleton's and the values stated above). -/
def out0_18 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x512 .bf16 :=
  View.canon [⟨r0_9, k0_pay18 (View.ld x8 r0_5) (View.ld x9 r0_5) (k0_pay27 i x0 x1 x2 x3 x4 x5 x6 x7 x8 x9 x10 x11 x12 x13) (k0_pay28 i x0 x1 x2 x3 x4 x5 x6 x7 x8 x9 x10 x11 x12 x13) (k0_pay29 i x0 x1 x2 x3 x4 x5 x6 x7 x8 x9 x10 x11 x12 x13) (k0_pay30 i x0 x1 x2 x3 x4 x5 x6 x7 x8 x9 x10 x11 x12 x13)⟩]

/-- Its stores tile the buffer (checked by evaluation), so they cover it. -/
theorem cover0_18 (p0 : Vec F S1x256x512 .bf16) (y : S1x256x512.Idx) :
    ∃ pc ∈ ([⟨r0_9, p0⟩] : List (View.Piece (Elt F) S1x256x512 .bf16)), y ∈ pc.1.set :=
  View.cover_of_tiled [⟨r0_9, p0⟩] S1x256x512.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x256 .bf16 :=
  View.canon [⟨r0_4, k0_pay22 (View.ld x8 r0_5) (View.ld x9 r0_5) (k0_pay20 (k0_pay25 i x0 x1 x2 x3 x4 x5 x6 x7 x8 x9 x10 x11 x12 x13) (View.ld x4 r0_10) (View.ld x11 r0_11) (View.ld x7 r0_12)) k0_pay21 (View.ld x12 r0_13)⟩]

/-- Its stores tile the buffer (checked by evaluation), so they cover it. -/
theorem cover0_19 (p0 : Vec F S1x256x256 .bf16) (y : S1x256x256.Idx) :
    ∃ pc ∈ ([⟨r0_4, p0⟩] : List (View.Piece (Elt F) S1x256x256 .bf16)), y ∈ pc.1.set :=
  View.cover_of_tiled [⟨r0_4, p0⟩] S1x256x256.size (by rfl) y

/-- Window 20's staging buffer after the body, from the input windows' blocks: its 1 store as pieces, LAST
    FIRST (Lib/Pipeline/FrameBody.lean `View.canon`; the payloads are the skeleton's and the values stated above). -/
def out0_20 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x256 .bf16 :=
  View.canon [⟨r0_4, k0_pay1 (k0_pay23 (k0_pay19 (k0_pay25 i x0 x1 x2 x3 x4 x5 x6 x7 x8 x9 x10 x11 x12 x13) (View.ld x4 r0_10)) (View.ld x13 r0_13)) (k0_pay24 (F := F))⟩]

/-- Its stores tile the buffer (checked by evaluation), so they cover it. -/
theorem cover0_20 (p0 : Vec F S1x256x256 .bf16) (y : S1x256x256.Idx) :
    ∃ pc ∈ ([⟨r0_4, p0⟩] : List (View.Piece (Elt F) S1x256x256 .bf16)), y ∈ pc.1.set :=
  View.cover_of_tiled [⟨r0_4, p0⟩] S1x256x256.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x768 .f32 :=
  View.canon [⟨r0_15, k0_pay3 (k0_pay25 i x0 x1 x2 x3 x4 x5 x6 x7 x8 x9 x10 x11 x12 x13) (View.ld x4 r0_14)⟩]

/-- Its stores tile the buffer (checked by evaluation), so they cover it. -/
theorem cover0_21 (p0 : Vec F S1x256x768 .f32) (y : S1x256x768.Idx) :
    ∃ pc ∈ ([⟨r0_15, p0⟩] : List (View.Piece (Elt F) S1x256x768 .f32)), y ∈ pc.1.set :=
  View.cover_of_tiled [⟨r0_15, p0⟩] S1x256x768.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x768 .f32 :=
  View.canon [⟨r0_15, k0_pay4 (k0_pay25 i x0 x1 x2 x3 x4 x5 x6 x7 x8 x9 x10 x11 x12 x13) (View.ld x4 r0_14)⟩]

/-- Its stores tile the buffer (checked by evaluation), so they cover it. -/
theorem cover0_22 (p0 : Vec F S1x256x768 .f32) (y : S1x256x768.Idx) :
    ∃ pc ∈ ([⟨r0_15, p0⟩] : List (View.Piece (Elt F) S1x256x768 .f32)), y ∈ pc.1.set :=
  View.cover_of_tiled [⟨r0_15, p0⟩] S1x256x768.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) : Vec F S1x256x3072 .bf16 :=
  View.canon [⟨r0_18, k0_pay5 (k0_pay25 i x0 x1 x2 x3 x4 x5 x6 x7 x8 x9 x10 x11 x12 x13) (View.ld x4 r0_16) (View.ld x5 r0_17)⟩]

/-- Its stores tile the buffer (checked by evaluation), so they cover it. -/
theorem cover0_23 (p0 : Vec F S1x256x3072 .bf16) (y : S1x256x3072.Idx) :
    ∃ pc ∈ ([⟨r0_18, p0⟩] : List (View.Piece (Elt F) S1x256x3072 .bf16)), y ∈ pc.1.set :=
  View.cover_of_tiled [⟨r0_18, p0⟩] S1x256x3072.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x5376 .bf16) (harg6 : arg6.IsWhole) (arg7 : Memref sig .tc .vmem S1x3072 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S512x512 .bf16) (harg12 : arg12.IsWhole) (arg13 : Memref sig .tc .vmem S128x128 .bf16) (harg13 : arg13.IsWhole) (arg14 : Memref sig .tc .vmem S128x256 .bf16) (harg14 : arg14.IsWhole) (arg15 : Memref sig .tc .vmem S128x256 .bf16) (harg15 : arg15.IsWhole) (arg16 : Memref sig .tc .vmem S1x256x256 .bf16) (harg16 : arg16.IsWhole) (arg17 : Memref sig .tc .vmem S1x256x256 .bf16) (harg17 : arg17.IsWhole) (arg18 : Memref sig .tc .vmem S1x256x256 .bf16) (harg18 : arg18.IsWhole) (arg19 : Memref sig .tc .vmem S1x256x512 .bf16) (harg19 : arg19.IsWhole) (arg20 : Memref sig .tc .vmem S1x256x512 .bf16) (harg20 : arg20.IsWhole) (arg21 : Memref sig .tc .vmem S1x256x256 .bf16) (harg21 : arg21.IsWhole) (arg22 : Memref sig .tc .vmem S1x256x256 .bf16) (harg22 : arg22.IsWhole) (arg23 : Memref sig .tc .vmem S1x256x768 .f32) (harg23 : arg23.IsWhole) (arg24 : Memref sig .tc .vmem S1x256x768 .f32) (harg24 : arg24.IsWhole) (arg25 : Memref sig .tc .vmem S1x256x3072 .bf16) (harg25 : arg25.IsWhole)
    (x0 : Vec F S1x256x1024 .f32) (x1 : Vec F S1x256x1024 .f32) (x2 : Vec F S1x6x1024 .f32) (x3 : Vec F S1x1024 .f32) (x4 : Vec F S1024x5376 .bf16) (x5 : Vec F S1x3072 .f32) (x6 : Vec F S1x512 .f32) (x7 : Vec F S1x128 .f32) (x8 : Vec F S256x128 .f32) (x9 : Vec F S256x128 .f32) (x10 : Vec F S512x512 .bf16) (x11 : Vec F S128x128 .bf16) (x12 : Vec F S128x256 .bf16) (x13 : Vec F S128x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out0_14 i x0 x1 x2 x3 x4 x5 x6 x7 x8 x9 x10 x11 x12 x13) ∗ owns (c : Thread nD τ) arg17 fullShare (out0_15 i x0 x1 x2 x3 x4 x5 x6 x7 x8 x9 x10 x11 x12 x13) ∗ owns (c : Thread nD τ) arg18 fullShare (out0_16 i x0 x1 x2 x3 x4 x5 x6 x7 x8 x9 x10 x11 x12 x13) ∗ owns (c : Thread nD τ) arg19 fullShare (out0_17 i x0 x1 x2 x3 x4 x5 x6 x7 x8 x9 x10 x11 x12 x13) ∗ owns (c : Thread nD τ) arg20 fullShare (out0_18 i x0 x1 x2 x3 x4 x5 x6 x7 x8 x9 x10 x11 x12 x13) ∗ owns (c : Thread nD τ) arg21 fullShare (out0_19 i x0 x1 x2 x3 x4 x5 x6 x7 x8 x9 x10 x11 x12 x13) ∗ owns (c : Thread nD τ) arg22 fullShare (out0_20 i x0 x1 x2 x3 x4 x5 x6 x7 x8 x9 x10 x11 x12 x13) ∗ owns (c : Thread nD τ) arg23 fullShare (out0_21 i x0 x1 x2 x3 x4 x5 x6 x7 x8 x9 x10 x11 x12 x13) ∗ owns (c : Thread nD τ) arg24 fullShare (out0_22 i x0 x1 x2 x3 x4 x5 x6 x7 x8 x9 x10 x11 x12 x13) ∗ owns (c : Thread nD τ) arg25 fullShare (out0_23 i x0 x1 x2 x3 x4 x5 x6 x7 x8 x9 x10 x11 x12 x13)) -∗ K ⟨⟩))
      ⊢ wp frame (wpE (defs₀ (F := F)) Variants.none c none) E (cc0_norm_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_norm_inproj_eq_skeleton]; unfold cc0_norm_inproj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel3Ideal.Inproj

end
-- ==== Proof.InprojAt.lean ====
module

public import proofs.«01_k».proof.Proof.InprojPay
public import proofs.«01_k».proof.Proof.InprojBlocks
public import proofs.«01_k».proof.Proof.InprojFrame
public import Idealize.ShloMosaic.Lib.Pipeline.ValueKit
public import Idealize.ShloMosaic.Lib.Claim

@[expose] public section

set_option maxRecDepth 16384

noncomputable section
namespace Cert.Kernel3Ideal.Inproj
open Cert.Kernel3Ideal Cert.Kernel3Ideal.Gen Idealize.ShloMosaic Idealize.ShloMosaic.TcCoe Idealize.SL.Sem
open Idealize.ShloMosaic.Pipeline (Dat)
open Cert.Reference3Ideal.Inproj (normed ctx lat proj gate ctx_at lat_at proj_at gate_at)

variable (i : grid0.Coords) (x0 x1 : Vec Ideal S1x256x1024 .f32) (x2 : Vec Ideal S1x6x1024 .f32) (x3 : Vec Ideal S1x1024 .f32) (x4 : Vec Ideal S1024x5376 .bf16) (x5 : Vec Ideal S1x3072 .f32)
    (x6 : Vec Ideal S1x512 .f32) (x7 : Vec Ideal S1x128 .f32) (x8 x9 : Vec Ideal S256x128 .f32) (x10 : Vec Ideal S512x512 .bf16) (x11 : Vec Ideal S128x128 .bf16) (x12 x13 : Vec Ideal S128x256 .bf16)

/-- What the body stores in its window of the neighbourhood's keys, at an element: the row's product with a column of the weights. -/
theorem out15_at (p q : Fin 256) :
    out0_15 i x0 x1 x2 x3 x4 x5 x6 x7 x8 x9 x10 x11 x12 x13 (ix3 0 p q) = ∑ k : Fin 1024, k0_pay6 (F := Ideal) i x0 x1 x2 x3 (ix2 p k) * x4 (ix2 k (⟨256 + q.1, by omega⟩ : Fin 5376)) := by
  unfold out0_15 k0_pay26
  simp (disch := decide) only [View.canon_cons_unit_lit', View.ld_unit_lit']
  rw [pay10_at, pay7_at]
  refine Finset.sum_congr rfl fun k _ => congrArg (_ * ·) ?_
  rw [View.ld_apply]
  refine congrArg x4 ?_
  blk_ext []
  · exact (Rect.idx_unit_val _ _ _ _ _).trans (Nat.zero_add _)
  · exact (Rect.idx_unit_val _ _ _ _ _).trans (Nat.zero_add _)

/-- What it stores in its window of the neighbourhood's values. -/
theorem out16_at (p q : Fin 256) :
    out0_16 i x0 x1 x2 x3 x4 x5 x6 x7 x8 x9 x10 x11 x12 x13 (ix3 0 p q) = ∑ k : Fin 1024, k0_pay6 (F := Ideal) i x0 x1 x2 x3 (ix2 p k) * x4 (ix2 k (⟨512 + q.1, by omega⟩ : Fin 5376)) := by
  unfold out0_16 k0_pay26
  simp (disch := decide) only [View.canon_cons_unit_lit', View.ld_unit_lit']
  rw [pay11_at, pay7_at]
  refine Finset.sum_congr rfl fun k _ => congrArg (_ * ·) ?_
  rw [View.ld_apply]
  refine congrArg x4 ?_
  blk_ext []
  · exact (Rect.idx_unit_val _ _ _ _ _).trans (Nat.zero_add _)
  · exact (Rect.idx_unit_val _ _ _ _ _).trans (Nat.zero_add _)

/-- What it stores in its window of the convolution's inputs. -/
theorem out21_at (p : Fin 256) (q : Fin 768) :
    out0_21 i x0 x1 x2 x3 x4 x5 x6 x7 x8 x9 x10 x11 x12 x13 (ix3 0 p q) = ∑ k : Fin 1024, k0_pay6 (F := Ideal) i x0 x1 x2 x3 (ix2 p k) * x4 (ix2 k (⟨1536 + q.1, by omega⟩ : Fin 5376)) := by
  unfold out0_21 k0_pay25
  simp (disch := decide) only [View.canon_cons_unit_lit', View.ld_unit_lit']
  rw [pay3_at]
  refine Finset.sum_congr rfl fun k _ => congrArg (_ * ·) ?_
  rw [View.ld_apply]
  refine congrArg x4 ?_
  blk_ext []
  · exact (Rect.idx_unit_val _ _ _ _ _).trans (Nat.zero_add _)
  · exact (Rect.idx_unit_val _ _ _ _ _).trans rfl

/-- What it stores in its window of the latent tokens' inputs to the convolution. -/
theorem out22_at (p : Fin 256) (q : Fin 768) :
    out0_22 i x0 x1 x2 x3 x4 x5 x6 x7 x8 x9 x10 x11 x12 x13 (ix3 0 p q) = ∑ k : Fin 1024, k0_pay6 (F := Ideal) i x0 x1 x2 x3 (ix2 p k) * x4 (ix2 k (⟨1536 + q.1, by omega⟩ : Fin 5376)) := by
  unfold out0_22 k0_pay25
  simp (disch := decide) only [View.canon_cons_unit_lit', View.ld_unit_lit']
  rw [pay4_at]
  refine Finset.sum_congr rfl fun k _ => congrArg (_ * ·) ?_
  rw [View.ld_apply]
  refine congrArg x4 ?_
  blk_ext []
  · exact (Rect.idx_unit_val _ _ _ _ _).trans (Nat.zero_add _)
  · exact (Rect.idx_unit_val _ _ _ _ _).trans rfl

/-- What it stores in its window of the gates. -/
theorem out23_at (p : Fin 256) (q : Fin 3072) :
    out0_23 i x0 x1 x2 x3 x4 x5 x6 x7 x8 x9 x10 x11 x12 x13 (ix3 0 p q) = Ideal.div 1 (1 + Ideal.exp (-(∑ k : Fin 1024, k0_pay6 (F := Ideal) i x0 x1 x2 x3 (ix2 p k) * x4 (ix2 k (⟨2304 + q.1, by omega⟩ : Fin 5376)) + x5 (ix2 0 q)))) := by
  unfold out0_23 k0_pay25
  simp (disch := decide) only [View.canon_cons_unit_lit', View.ld_unit_lit']
  rw [pay5_at]
  refine congrArg (fun s => Ideal.div 1 (1 + Ideal.exp (-(s + x5 (ix2 0 q))))) ?_
  refine Finset.sum_congr rfl fun k _ => congrArg (_ * ·) ?_
  rw [View.ld_apply]
  refine congrArg x4 ?_
  blk_ext []
  · exact (Rect.idx_unit_val _ _ _ _ _).trans (Nat.zero_add _)
  · exact (Rect.idx_unit_val _ _ _ _ _).trans rfl

end Cert.Kernel3Ideal.Inproj
end
-- ==== Proof.InprojFinal.lean ====
module

public import proofs.«01_k».proof.Proof.InprojAt

@[expose] public section

set_option maxRecDepth 16384

noncomputable section
namespace Cert.Kernel3Ideal.Inproj
open Cert.Kernel3Ideal Cert.Kernel3Ideal.Gen Idealize.ShloMosaic Idealize.ShloMosaic.TcCoe Idealize.SL.Sem
open Idealize.ShloMosaic.Pipeline (Dat)
open Cert.Reference3Ideal.Inproj (normed ctx lat proj keys vals conv latConv gate ctx_at lat_at proj_at keys_at vals_at conv_at latConv_at gate_at)

variable (m : (ℓ : Loc nD τ sig) → Buf (Elt Ideal) ℓ) (c : Dev nD) (t : Fin cfg0.N)

/-- The staged weights are the argument, cast. -/
theorem V_v0 : V m c main_v0 = (truncf .bf16 (m ((c : Thread nD τ).loc main_arg4)) bitsLt_bf16_f32 : FVec Ideal S1024x5376 .bf16) := by
  entry_read
  rfl

/-- The staged norm weights are the argument as one row. -/
theorem V_v52 : V m c main_v52 = (shapeCast _ (m ((c : Thread nD τ).loc main_arg3) : FVec Ideal S1024 .f32) shapeCasts_S1024_S1x1024 : FVec Ideal S1x1024 .f32) := by
  entry_read
  rfl

/-- The staged biases are the argument as one row. -/
theorem V_v53 : V m c main_v53 = (shapeCast _ (m ((c : Thread nD τ).loc main_arg5) : FVec Ideal S3072 .f32) shapeCasts_S3072_S1x3072 : FVec Ideal S1x3072 .f32) := by
  entry_read
  rfl

/-- A vector as one row, at an element. -/
theorem row_at (X : FVec Ideal S1024 .f32) (k : Fin 1024) : (shapeCast _ X shapeCasts_S1024_S1x1024 : FVec Ideal S1x1024 .f32) (ix2 0 k) = X (ix1 k) := by
  pointwise

/-- The biases as one row, at an element. -/
theorem bias_at (X : FVec Ideal S3072 .f32) (n : Fin 3072) : (shapeCast _ X shapeCasts_S3072_S1x3072 : FVec Ideal S1x3072 .f32) (ix2 0 n) = X (ix1 n) := by
  pointwise

/-- The context a point stages is the argument's. -/
theorem c_at (p : Fin 256) (k : Fin 1024) : (iblk m c 0 t (ix3 0 p k : S1x256x1024.Idx) : EReal) = m ((c : Thread nD τ).loc main_arg0) (ix3 ⟨t.val / 33, lt33 t⟩ p k : S2x256x1024.Idx) := by
  have e := emb_c t p k
  have v := V_main_arg0 m c
  blk_simp [iblk]
  generalize V m c main_arg0 = W at v ⊢
  subst v
  exact congrArg (m ((c : Thread nD τ).loc main_arg0)) e

/-- The latents it stages are the argument's. -/
theorem l_at (p : Fin 256) (k : Fin 1024) :
    (iblk m c 1 t (ix3 0 p k : S1x256x1024.Idx) : EReal) = m ((c : Thread nD τ).loc main_arg1) (ix3 ⟨t.val / 33, lt33 t⟩ ⟨(t.val % 33 - 1) * 256 + p, by omega⟩ k : S2x8192x1024.Idx) := by
  have e := emb_l t p k
  have v := V_main_arg1 m c
  blk_simp [iblk]
  generalize V m c main_arg1 = W at v ⊢
  subst v
  exact congrArg (m ((c : Thread nD τ).loc main_arg1)) e

/-- The modulation it stages is the argument's. -/
theorem m_at (j : Fin 6) (k : Fin 1024) :
    (iblk m c 2 t (ix3 0 j k : S1x6x1024.Idx) : EReal) = m ((c : Thread nD τ).loc main_arg2) (ix3 ⟨if t.val % 33 < 1 then 2 else t.val / 33, by have := lt33 t; split <;> omega⟩ j k : S3x6x1024.Idx) := by
  have e := emb_m t j k
  have v := V_main_arg2 m c
  blk_simp [iblk]
  generalize V m c main_arg2 = W at v ⊢
  subst v
  exact congrArg (m ((c : Thread nD τ).loc main_arg2)) e

/-- The norm's weights it stages are the argument's. -/
theorem n_at (k : Fin 1024) : (iblk m c 3 t (ix2 0 k : S1x1024.Idx) : EReal) = m ((c : Thread nD τ).loc main_arg3) (ix1 k : S1024.Idx) := by
  have e := emb_n t k
  have v := V_v52 m c
  have h := row_at (m ((c : Thread nD τ).loc main_arg3)) k
  blk_simp [iblk]
  generalize V m c main_v52 = W at v ⊢
  subst v
  exact (congrArg _ e).trans h

/-- The weights it stages are the argument's. -/
theorem w_at (k : Fin 1024) (n : Fin 5376) : (iblk m c 4 t (ix2 k n : S1024x5376.Idx) : EReal) = m ((c : Thread nD τ).loc main_arg4) (ix2 k n : S1024x5376.Idx) := by
  have e := emb_w t k n
  have v := V_v0 m c
  blk_simp [iblk]
  generalize V m c main_v0 = W at v ⊢
  subst v
  exact congrArg (m ((c : Thread nD τ).loc main_arg4)) e

/-- The biases it stages are the argument's. -/
theorem b_at (n : Fin 3072) : (iblk m c 5 t (ix2 0 n : S1x3072.Idx) : EReal) = m ((c : Thread nD τ).loc main_arg5) (ix1 n : S3072.Idx) := by
  have e := emb_b t n
  have v := V_v53 m c
  have h := bias_at (m ((c : Thread nD τ).loc main_arg5)) n
  blk_simp [iblk]
  generalize V m c main_v53 = W at v ⊢
  subst v
  exact (congrArg _ e).trans h

/-- The reference's projection at the program's arguments. -/
abbrev PROJ : FVec Ideal Cert.Reference3Ideal.S2x8448x5376 .f32 :=
  proj (ctx (m ((c : Thread nD τ).loc main_arg0)) (m ((c : Thread nD τ).loc main_arg2)) (m ((c : Thread nD τ).loc main_arg3)))
    (lat (m ((c : Thread nD τ).loc main_arg1)) (m ((c : Thread nD τ).loc main_arg2)) (m ((c : Thread nD τ).loc main_arg3))) (m ((c : Thread nD τ).loc main_arg4))

/-- A normed and modulated row is the same of equal rows. -/
theorem normed_congr (x x' w w' s s' h h' : Fin 1024 → EReal) (hx : ∀ k, x k = x' k) (hw : ∀ k, w k = w' k) (hs : ∀ k, s k = s' k) (hh : ∀ k, h k = h' k) (k : Fin 1024) :
    normed x w s h k = normed x' w' s' h' k := by
  rw [funext hx, funext hw, funext hs, funext hh]

/-- The row a point works on is the reference's: of the context in the first tile of a batch entry, of the latents after it. -/
theorem hid_at (p : Fin 256) (k : Fin 1024) :
    (k0_pay6 (F := Ideal) (grid0.coords t) (iblk m c 0 t) (iblk m c 1 t) (iblk m c 2 t) (iblk m c 3 t) (ix2 p k) : EReal) =
      if ht : t.val % 33 * 256 + p.val < 256 then ctx (m ((c : Thread nD τ).loc main_arg0)) (m ((c : Thread nD τ).loc main_arg2)) (m ((c : Thread nD τ).loc main_arg3)) (ix3 ⟨t.val / 33, lt33 t⟩ ⟨t.val % 33 * 256 + p, ht⟩ k)
      else lat (m ((c : Thread nD τ).loc main_arg1)) (m ((c : Thread nD τ).loc main_arg2)) (m ((c : Thread nD τ).loc main_arg3)) (ix3 ⟨t.val / 33, lt33 t⟩ ⟨t.val % 33 * 256 + p - 256, by omega⟩ k) := by
  have hi : (grid0.coords t 1).val = t.val % 33 := by obtain ⟨-, -, -, -, -, -, -, -, -, -, h⟩ := idx t; exact h
  refine (pay6_at (grid0.coords t) _ _ _ _ p k).trans ?_
  by_cases h : t.val % 33 < 1
  · refine Eq.trans ?_ (dif_pos (show t.val % 33 * 256 + p.val < 256 by omega)).symm
    refine Eq.trans ?_ (ctx_at _ _ _ _ _ k).symm
    refine normed_congr _ _ _ _ _ _ _ _ (fun j => ?_) (fun j => n_at m c t j) (fun j => ?_) (fun j => ?_) k
    · rw [if_pos (by rw [hi]; exact h)]
      refine (c_at m c t p j).trans (congrArg (fun r => m ((c : Thread nD τ).loc main_arg0) (ix3 ⟨t.val / 33, lt33 t⟩ r j : S2x256x1024.Idx)) (Fin.ext ?_))
      show p.val = t.val % 33 * 256 + p.val
      omega
    · exact (m_at m c t 1 j).trans (congrArg (fun r => m ((c : Thread nD τ).loc main_arg2) (ix3 r 1 j : S3x6x1024.Idx)) (Fin.ext (if_pos h)))
    · exact (m_at m c t 0 j).trans (congrArg (fun r => m ((c : Thread nD τ).loc main_arg2) (ix3 r 0 j : S3x6x1024.Idx)) (Fin.ext (if_pos h)))
  · refine Eq.trans ?_ (dif_neg (show ¬ t.val % 33 * 256 + p.val < 256 by omega)).symm
    refine Eq.trans ?_ (lat_at _ _ _ _ _ k).symm
    refine normed_congr _ _ _ _ _ _ _ _ (fun j => ?_) (fun j => n_at m c t j) (fun j => ?_) (fun j => ?_) k
    · rw [if_neg (by rw [hi]; exact h)]
      refine (l_at m c t p j).trans (congrArg (fun r => m ((c : Thread nD τ).loc main_arg1) (ix3 ⟨t.val / 33, lt33 t⟩ r j : S2x8192x1024.Idx)) (Fin.ext ?_))
      show (t.val % 33 - 1) * 256 + p.val = t.val % 33 * 256 + p.val - 256
      omega
    · exact (m_at m c t 1 j).trans (congrArg (fun r => m ((c : Thread nD τ).loc main_arg2) (ix3 r 1 j : S3x6x1024.Idx)) (Fin.ext (if_neg h)))
    · exact (m_at m c t 0 j).trans (congrArg (fun r => m ((c : Thread nD τ).loc main_arg2) (ix3 r 0 j : S3x6x1024.Idx)) (Fin.ext (if_neg h)))

/-- So its product with a column of the weights is the reference's projection there. -/
theorem prod_at (p : Fin 256) (n : Fin 5376) :
    (∑ k : Fin 1024, (k0_pay6 (F := Ideal) (grid0.coords t) (iblk m c 0 t) (iblk m c 1 t) (iblk m c 2 t) (iblk m c 3 t) (ix2 p k) : EReal) * (iblk m c 4 t (ix2 k n : S1024x5376.Idx) : EReal)) =
      PROJ m c (ix3 ⟨t.val / 33, lt33 t⟩ ⟨t.val % 33 * 256 + p, by omega⟩ n) := by
  refine Eq.trans ?_ (proj_at _ _ _ _ _ n).symm
  refine Finset.sum_congr rfl fun k _ => ?_
  rw [hid_at m c t p k, w_at m c t k n]

/-- Two blocks of one batch entry that agree at every row and lane are equal. -/
theorem whole {d : ℕ} (O G : (⟨3, ![1, 256, d]⟩ : Shape).Idx → EReal) (h : ∀ (p : Fin 256) (q : Fin d), O (ix3 0 p q) = G (ix3 0 p q)) : ∀ y, O y = G y := fun y => by
  obtain ⟨a, p, q, rfl⟩ : ∃ (a : Fin 1) (p : Fin 256) (q : Fin d), y = ix3 a p q := ⟨_, _, _, eq_ix3 y⟩
  obtain rfl : a = 0 := Subsingleton.elim _ _
  exact h p q

/-- The array of keys the program leaves is the reference's. -/
theorem final15 : (dats m 0 c).arrAt 15 cfg0.N = (keys (PROJ m c) : FVec Ideal S2x8448x256 .bf16) := by
  refine (dats m 0 c).arrAt_eq_of_covers 15 _ (by decide +kernel) fun t hf y => ?_
  have B := fun p q => (out15_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ((prod_at m c t p ⟨256 + q.1, by omega⟩).trans (keys_at (PROJ m c) _ _ q).symm)
  have e := fun p q => emb_15 t p q
  rw [after0_15]
  generalize keys (PROJ m c) = G at B ⊢
  generalize out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = O at B ⊢
  exact (cast_eq _ _).trans (whole O (fun y => G (((cfg0.win 15).blk t).view.emb y)) (fun p q => (B p q).trans (congrArg G (e p q)).symm) y)

/-- The array of values likewise. -/
theorem final16 : (dats m 0 c).arrAt 16 cfg0.N = (vals (PROJ m c) : FVec Ideal S2x8448x256 .bf16) := by
  refine (dats m 0 c).arrAt_eq_of_covers 16 _ (by decide +kernel) fun t hf y => ?_
  have B := fun p q => (out16_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ((prod_at m c t p ⟨512 + q.1, by omega⟩).trans (vals_at (PROJ m c) _ _ q).symm)
  have e := fun p q => emb_16 t p q
  rw [after0_16]
  generalize vals (PROJ m c) = G at B ⊢
  generalize out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = O at B ⊢
  exact (cast_eq _ _).trans (whole O (fun y => G (((cfg0.win 16).blk t).view.emb y)) (fun p q => (B p q).trans (congrArg G (e p q)).symm) y)

/-- The array of the convolution's inputs likewise. -/
theorem final21 : (dats m 0 c).arrAt 21 cfg0.N = (conv (PROJ m c) : FVec Ideal S2x8448x768 .f32) := by
  refine (dats m 0 c).arrAt_eq_of_covers 21 _ (by decide +kernel) fun t hf y => ?_
  have B := fun p q => (out21_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ((prod_at m c t p ⟨1536 + q.1, by omega⟩).trans (conv_at (PROJ m c) _ _ q).symm)
  have e := fun p q => emb_21 t p q
  rw [after0_21]
  generalize conv (PROJ m c) = G at B ⊢
  generalize out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = O at B ⊢
  exact (cast_eq _ _).trans (whole O (fun y => G (((cfg0.win 21).blk t).view.emb y)) (fun p q => (B p q).trans (congrArg G (e p q)).symm) y)

/-- The array of the latent tokens' inputs to the convolution likewise: what the first tile of a batch entry writes is not kept. -/
theorem final22 : (dats m 0 c).arrAt 22 cfg0.N = (latConv (PROJ m c) : FVec Ideal S2x8192x768 .f32) := by
  refine (dats m 0 c).arrAt_eq_of_covers 22 _ (by decide +kernel) fun t hf y => ?_
  have h1 := flush22 t hf
  have B := fun p q => (out22_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ((prod_at m c t p ⟨1536 + q.1, by omega⟩).trans
    ((congrArg (fun r : Fin 8448 => PROJ m c (ix3 ⟨t.val / 33, lt33 t⟩ r (⟨1536 + q.1, by omega⟩ : Fin 5376)))
      (Fin.ext (show t.val % 33 * 256 + p.val = 256 + ((t.val % 33 - 1) * 256 + p.val) by omega) : (⟨t.val % 33 * 256 + p.val, by omega⟩ : Fin 8448) = ⟨256 + ((t.val % 33 - 1) * 256 + p.val), by omega⟩)).trans
      (latConv_at (PROJ m c) _ ⟨(t.val % 33 - 1) * 256 + p, by omega⟩ q).symm))
  have e := fun p q => emb_22 t p q
  rw [after0_22]
  generalize latConv (PROJ m c) = G at B ⊢
  generalize out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = O at B ⊢
  exact (cast_eq _ _).trans (whole O (fun y => G (((cfg0.win 22).blk t).view.emb y)) (fun p q => (B p q).trans (congrArg G (e p q)).symm) y)

/-- The array of gates likewise. -/
theorem final23 : (dats m 0 c).arrAt 23 cfg0.N = (gate (PROJ m c) (m ((c : Thread nD τ).loc main_arg5)) : FVec Ideal S2x8448x3072 .bf16) := by
  refine (dats m 0 c).arrAt_eq_of_covers 23 _ (by decide +kernel) fun t hf y => ?_
  have B := fun p q => (out23_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ((congrArg₂ (fun a b : EReal => Ideal.div 1 (1 + Ideal.exp (-(a + b)))) (prod_at m c t p ⟨2304 + q.1, by omega⟩) (b_at m c t q)).trans (gate_at (PROJ m c) _ _ _ q).symm)
  have e := fun p q => emb_23 t p q
  rw [after0_23]
  generalize gate (PROJ m c) (m ((c : Thread nD τ).loc main_arg5)) = G at B ⊢
  generalize out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = O at B ⊢
  exact (cast_eq _ _).trans (whole O (fun y => G (((cfg0.win 23).blk t).view.emb y)) (fun p q => (B p q).trans (congrArg G (e p q)).symm) y)

/-- The array of keys after the run. -/
theorem post15 (r : PUnit × MemSt nD τ sig (Elt Ideal)) (h : Pipeline.FramePost cfgs (dats m) 0 (V m) r) :
    r.2.mem ((c : Thread nD τ).loc main_v54_1) = (dats m 0 c).arrAt 15 cfg0.N :=
  (h c).1 15

/-- The array of values after it. -/
theorem post16 (r : PUnit × MemSt nD τ sig (Elt Ideal)) (h : Pipeline.FramePost cfgs (dats m) 0 (V m) r) :
    r.2.mem ((c : Thread nD τ).loc main_v54_2) = (dats m 0 c).arrAt 16 cfg0.N :=
  (h c).1 16

/-- The array of the convolution's inputs after it. -/
theorem post21 (r : PUnit × MemSt nD τ sig (Elt Ideal)) (h : Pipeline.FramePost cfgs (dats m) 0 (V m) r) :
    r.2.mem ((c : Thread nD τ).loc main_v54_7) = (dats m 0 c).arrAt 21 cfg0.N :=
  (h c).1 21

/-- The array of the latent tokens' inputs after it. -/
theorem post22 (r : PUnit × MemSt nD τ sig (Elt Ideal)) (h : Pipeline.FramePost cfgs (dats m) 0 (V m) r) :
    r.2.mem ((c : Thread nD τ).loc main_v54_8) = (dats m 0 c).arrAt 22 cfg0.N :=
  (h c).1 22

/-- The array of gates after it. -/
theorem post23 (r : PUnit × MemSt nD τ sig (Elt Ideal)) (h : Pipeline.FramePost cfgs (dats m) 0 (V m) r) :
    r.2.mem ((c : Thread nD τ).loc main_v54_9) = (dats m 0 c).arrAt 23 cfg0.N :=
  (h c).1 23

/-- Argument 0 is kept. -/
theorem kept0 (r : PUnit × MemSt nD τ sig (Elt Ideal)) (h : Pipeline.FramePost cfgs (dats m) 0 (V m) r) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is kept. -/
theorem kept1 (r : PUnit × MemSt nD τ sig (Elt Ideal)) (h : Pipeline.FramePost cfgs (dats m) 0 (V m) r) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 is kept. -/
theorem kept2 (r : PUnit × MemSt nD τ sig (Elt Ideal)) (h : Pipeline.FramePost cfgs (dats m) 0 (V m) r) :
    r.2.mem ((c : Thread nD τ).loc main_arg2) = m ((c : Thread nD τ).loc main_arg2) :=
  ((h c).1 2).trans (((dats m 0 c).arrAt_in 2 rfl _).trans ((A_eq m c 2).trans (V_main_arg2 m c)))

/-- Argument 8 is kept. -/
theorem kept8 (r : PUnit × MemSt nD τ sig (Elt Ideal)) (h : Pipeline.FramePost cfgs (dats m) 0 (V m) r) :
    r.2.mem ((c : Thread nD τ).loc main_arg8) = m ((c : Thread nD τ).loc main_arg8) :=
  ((h c).1 8).trans (((dats m 0 c).arrAt_in 8 rfl _).trans ((A_eq m c 8).trans (V_main_arg8 m c)))

/-- Argument 9 is kept. -/
theorem kept9 (r : PUnit × MemSt nD τ sig (Elt Ideal)) (h : Pipeline.FramePost cfgs (dats m) 0 (V m) r) :
    r.2.mem ((c : Thread nD τ).loc main_arg9) = m ((c : Thread nD τ).loc main_arg9) :=
  ((h c).1 9).trans (((dats m 0 c).arrAt_in 9 rfl _).trans ((A_eq m c 9).trans (V_main_arg9 m c)))

set_option maxHeartbeats 1600000 in
/-- The program leaves the reference's five arrays and keeps its arguments. -/
theorem run_results (ρ : Dev nD → PrngReg) : θ_run defs (onTc (τ := τ) (main (F := Ideal))) ⟨m, fun _ => 0, ρ⟩ fun r => ∀ c : Dev nD,
      r.2.mem ((c : Thread nD τ).loc main_v54_1) = (keys (PROJ m c) : FVec Ideal S2x8448x256 .bf16)
      ∧ r.2.mem ((c : Thread nD τ).loc main_v54_2) = (vals (PROJ m c) : FVec Ideal S2x8448x256 .bf16)
      ∧ r.2.mem ((c : Thread nD τ).loc main_v54_7) = (conv (PROJ m c) : FVec Ideal S2x8448x768 .f32)
      ∧ r.2.mem ((c : Thread nD τ).loc main_v54_8) = (latConv (PROJ m c) : FVec Ideal S2x8192x768 .f32)
      ∧ r.2.mem ((c : Thread nD τ).loc main_v54_9) = (gate (PROJ m c) (m ((c : Thread nD τ).loc main_arg5)) : FVec Ideal S2x8448x3072 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post15 m c r h).trans (final15 m c), (post16 m c r h).trans (final16 m c), (post21 m c r h).trans (final21 m c), (post22 m c r h).trans (final22 m c), (post23 m c r h).trans (final23 m c),
    kept0 m c r h, kept1 m c r h, kept2 m c r h,
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    kept8 m c r h, kept9 m c r h⟩) (run_main m ρ)

end Cert.Kernel3Ideal.Inproj
end
-- ==== Proof.MergeRef.lean ====
module

public import proofs.«01_k».proof.Proof.Gen.Reference4Ideal.Run
public import proofs.«01_k».proof.Proof.InprojRef
public import Idealize.ShloMosaic.Lib.Pointwise

@[expose] public section

set_option maxRecDepth 16384

noncomputable section
namespace Cert.Reference4Ideal.Merge
open Cert.Reference4Ideal Cert.Reference4Ideal.Gen Idealize.ShloMosaic Idealize.ShloMosaic.TcCoe Idealize.SL.Sem
open Cert.Reference3Ideal.Inproj (normed)

/-- One token's branches, each times its weights, gated and summed. -/
def mixed (g : Fin 3072 → EReal) (A : Fin 256 → EReal) (B : Fin 512 → EReal) (C : Fin 256 → EReal) (wa : Fin 256 → Fin 1024 → EReal) (wb : Fin 512 → Fin 1024 → EReal) (wc : Fin 256 → Fin 1024 → EReal) (j : Fin 1024) : EReal :=
  g ⟨j.1, by omega⟩ * (∑ k, A k * wa k j) + g ⟨1024 + j.1, by omega⟩ * (∑ k, B k * wb k j) + g ⟨2048 + j.1, by omega⟩ * (∑ k, C k * wc k j)

/-- One token's stream after the layer's first half: its own value plus the scaled projection of its merged branches. -/
def added (x s p : Fin 1024 → EReal) (w : Fin 1024 → Fin 1024 → EReal) (n : Fin 1024) : EReal :=
  x n + s n * ∑ j, p j * w j n

/-- The merged branches of the latents, as the reference takes them. -/
def latMix (ya : FVec Ideal S2x8192x256 .bf16) (yb : FVec Ideal S2x8192x512 .bf16) (yc : FVec Ideal S2x8192x256 .f32) (g : FVec Ideal S2x8448x3072 .bf16) (wa : FVec Ideal S256x1024 .f32) (wb : FVec Ideal S512x1024 .f32) (wc : FVec Ideal S256x1024 .f32) : FVec Ideal S2x8192x1024 .f32 :=
  addf (addf (mulf (extractStridedSlice S2x8192x1024 ![0, 0, 0] (extf .f32 (extractStridedSlice S2x8192x3072 ![0, 256, 0] g slices_S2x8448x3072_S2x8192x3072_0_256_0) bitsLt_bf16_f32) slices_S2x8192x3072_S2x8192x1024_0_0_0) (Host.dotGeneral dot_S2x8192x256_S256x1024_S2x8192x1024_2_0_01_1_n_n none (extf .f32 ya bitsLt_bf16_f32) wa)) (mulf (extractStridedSlice S2x8192x1024 ![0, 0, 1024] (extf .f32 (extractStridedSlice S2x8192x3072 ![0, 256, 0] g slices_S2x8448x3072_S2x8192x3072_0_256_0) bitsLt_bf16_f32) slices_S2x8192x3072_S2x8192x1024_0_0_1024) (Host.dotGeneral dot_S2x8192x512_S512x1024_S2x8192x1024_2_0_01_1_n_n none (extf .f32 yb bitsLt_bf16_f32) wb))) (mulf (extractStridedSlice S2x8192x1024 ![0, 0, 2048] (extf .f32 (extractStridedSlice S2x8192x3072 ![0, 256, 0] g slices_S2x8448x3072_S2x8192x3072_0_256_0) bitsLt_bf16_f32) slices_S2x8192x3072_S2x8192x1024_0_0_2048) (Host.dotGeneral dot_S2x8192x256_S256x1024_S2x8192x1024_2_0_01_1_n_n none yc wc))

/-- The latents after the layer's first half. -/
def latAdd (x : FVec Ideal S2x8192x1024 .f32) (M : FVec Ideal S3x6x1024 .f32) (p : FVec Ideal S2x8192x1024 .f32) (wo : FVec Ideal S1024x1024 .f32) : FVec Ideal S2x8192x1024 .f32 :=
  addf x (mulf (broadcastInDim S2x8192x1024 ![0, 1, 2] bcast_S2x1x1024_S2x8192x1024_0_1_2 (broadcastInDim S2x1x1024 ![0, 2] bcast_S2x1024_S2x1x1024_0_2 (shapeCast _ (extractStridedSlice S2x1x1024 ![0, 2, 0] M slices_S3x6x1024_S2x1x1024_0_2_0) shapeCasts_S2x1x1024_S2x1024))) (Host.dotGeneral dot_S2x8192x1024_S1024x1024_S2x8192x1024_2_0_01_1_n_n none p wo))

/-- The latents normed and modulated for the layer's second half. -/
def latNorm (x : FVec Ideal S2x8192x1024 .f32) (M : FVec Ideal S3x6x1024 .f32) (w : FVec Ideal S1024 .f32) : FVec Ideal S2x8192x1024 .f32 :=
  addf (mulf (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 4, 0] M slices_S3x6x1024_S2x1x1024_0_4_0) shapeCasts_S2x1x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S2x1x1024 ![0, 3, 0] M slices_S3x6x1024_S2x1x1024_0_3_0) shapeCasts_S2x1x1024_S2x1024)))

/-- One entry of the latents' merged branches. -/
theorem latMix_at (ya : FVec Ideal S2x8192x256 .bf16) (yb : FVec Ideal S2x8192x512 .bf16) (yc : FVec Ideal S2x8192x256 .f32) (g : FVec Ideal S2x8448x3072 .bf16) (wa : FVec Ideal S256x1024 .f32) (wb : FVec Ideal S512x1024 .f32) (wc : FVec Ideal S256x1024 .f32) (b : Fin 2) (t : Fin 8192) (j : Fin 1024) :
    latMix ya yb yc g wa wb wc (ix3 b t j) = mixed (fun n => g (ix3 b (⟨256 + t.1, by omega⟩ : Fin 8448) n)) (fun k => ya (ix3 b t k)) (fun k => yb (ix3 b t k)) (fun k => yc (ix3 b t k)) (fun k j => wa (ix2 k j)) (fun k j => wb (ix2 k j)) (fun k j => wc (ix2 k j)) j := by
  pointwise [latMix, mixed]

/-- One entry of the latents after the first half. -/
theorem latAdd_at (x : FVec Ideal S2x8192x1024 .f32) (M : FVec Ideal S3x6x1024 .f32) (p : FVec Ideal S2x8192x1024 .f32) (wo : FVec Ideal S1024x1024 .f32) (b : Fin 2) (t : Fin 8192) (k : Fin 1024) :
    latAdd x M p wo (ix3 b t k) = added (fun j => x (ix3 b t j)) (fun j => M (ix3 (⟨b.1, by omega⟩ : Fin 3) (2 : Fin 6) j)) (fun j => p (ix3 b t j)) (fun j n => wo (ix2 j n)) k := by
  pointwise [latAdd, added]

/-- One entry of the latents normed. -/
theorem latNorm_at (x : FVec Ideal S2x8192x1024 .f32) (M : FVec Ideal S3x6x1024 .f32) (w : FVec Ideal S1024 .f32) (b : Fin 2) (t : Fin 8192) (k : Fin 1024) :
    latNorm x M w (ix3 b t k) = normed (fun j => x (ix3 b t j)) (fun j => w (ix1 j)) (fun j => M (ix3 (⟨b.1, by omega⟩ : Fin 3) (4 : Fin 6) j)) (fun j => M (ix3 (⟨b.1, by omega⟩ : Fin 3) (3 : Fin 6) j)) k := by
  pointwise [latNorm, normed]

/-- The merged branches of the context, as the reference takes them. -/
def ctxMix (ya : FVec Ideal S2x256x256 .bf16) (yb : FVec Ideal S2x256x512 .bf16) (yc : FVec Ideal S2x256x256 .f32) (g : FVec Ideal S2x8448x3072 .bf16) (wa : FVec Ideal S256x1024 .f32) (wb : FVec Ideal S512x1024 .f32) (wc : FVec Ideal S256x1024 .f32) : FVec Ideal S2x256x1024 .f32 :=
  addf (addf (mulf (extractStridedSlice S2x256x1024 ![0, 0, 0] (extf .f32 (extractStridedSlice S2x256x3072 ![0, 0, 0] g slices_S2x8448x3072_S2x256x3072_0_0_0) bitsLt_bf16_f32) slices_S2x256x3072_S2x256x1024_0_0_0) (Host.dotGeneral dot_S2x256x256_S256x1024_S2x256x1024_2_0_01_1_n_n none (extf .f32 ya bitsLt_bf16_f32) wa)) (mulf (extractStridedSlice S2x256x1024 ![0, 0, 1024] (extf .f32 (extractStridedSlice S2x256x3072 ![0, 0, 0] g slices_S2x8448x3072_S2x256x3072_0_0_0) bitsLt_bf16_f32) slices_S2x256x3072_S2x256x1024_0_0_1024) (Host.dotGeneral dot_S2x256x512_S512x1024_S2x256x1024_2_0_01_1_n_n none (extf .f32 yb bitsLt_bf16_f32) wb))) (mulf (extractStridedSlice S2x256x1024 ![0, 0, 2048] (extf .f32 (extractStridedSlice S2x256x3072 ![0, 0, 0] g slices_S2x8448x3072_S2x256x3072_0_0_0) bitsLt_bf16_f32) slices_S2x256x3072_S2x256x1024_0_0_2048) (Host.dotGeneral dot_S2x256x256_S256x1024_S2x256x1024_2_0_01_1_n_n none yc wc))

/-- The context after the layer's first half. -/
def ctxAdd (x : FVec Ideal S2x256x1024 .f32) (M : FVec Ideal S3x6x1024 .f32) (p : FVec Ideal S2x256x1024 .f32) (wo : FVec Ideal S1024x1024 .f32) : FVec Ideal S2x256x1024 .f32 :=
  addf x (mulf (broadcastInDim S2x256x1024 ![0, 1, 2] bcast_S1x1x1024_S2x256x1024_0_1_2 (broadcastInDim S1x1x1024 ![2] bcast_S1024_S1x1x1024_2 (shapeCast _ (extractStridedSlice S1x1x1024 ![2, 2, 0] M slices_S3x6x1024_S1x1x1024_2_2_0) shapeCasts_S1x1x1024_S1024))) (Host.dotGeneral dot_S2x256x1024_S1024x1024_S2x256x1024_2_0_01_1_n_n none p wo))

/-- The context normed and modulated for the layer's second half. -/
def ctxNorm (x : FVec Ideal S2x256x1024 .f32) (M : FVec Ideal S3x6x1024 .f32) (w : FVec Ideal S1024 .f32) : FVec Ideal S2x256x1024 .f32 :=
  addf (mulf (mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 w))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![2, 4, 0] M slices_S3x6x1024_S1x1x1024_2_4_0) shapeCasts_S1x1x1024_S1024))))) (broadcastInDim S2x256x1024 ![0, 1, 2] bcast_S1x1x1024_S2x256x1024_0_1_2 (broadcastInDim S1x1x1024 ![2] bcast_S1024_S1x1x1024_2 (shapeCast _ (extractStridedSlice S1x1x1024 ![2, 3, 0] M slices_S3x6x1024_S1x1x1024_2_3_0) shapeCasts_S1x1x1024_S1024)))

/-- One entry of the context' merged branches. -/
theorem ctxMix_at (ya : FVec Ideal S2x256x256 .bf16) (yb : FVec Ideal S2x256x512 .bf16) (yc : FVec Ideal S2x256x256 .f32) (g : FVec Ideal S2x8448x3072 .bf16) (wa : FVec Ideal S256x1024 .f32) (wb : FVec Ideal S512x1024 .f32) (wc : FVec Ideal S256x1024 .f32) (b : Fin 2) (t : Fin 256) (j : Fin 1024) :
    ctxMix ya yb yc g wa wb wc (ix3 b t j) = mixed (fun n => g (ix3 b (⟨t.1, by omega⟩ : Fin 8448) n)) (fun k => ya (ix3 b t k)) (fun k => yb (ix3 b t k)) (fun k => yc (ix3 b t k)) (fun k j => wa (ix2 k j)) (fun k j => wb (ix2 k j)) (fun k j => wc (ix2 k j)) j := by
  pointwise [ctxMix, mixed]

/-- One entry of the context after the first half. -/
theorem ctxAdd_at (x : FVec Ideal S2x256x1024 .f32) (M : FVec Ideal S3x6x1024 .f32) (p : FVec Ideal S2x256x1024 .f32) (wo : FVec Ideal S1024x1024 .f32) (b : Fin 2) (t : Fin 256) (k : Fin 1024) :
    ctxAdd x M p wo (ix3 b t k) = added (fun j => x (ix3 b t j)) (fun j => M (ix3 (2 : Fin 3) (2 : Fin 6) j)) (fun j => p (ix3 b t j)) (fun j n => wo (ix2 j n)) k := by
  pointwise [ctxAdd, added]

/-- One entry of the context normed. -/
theorem ctxNorm_at (x : FVec Ideal S2x256x1024 .f32) (M : FVec Ideal S3x6x1024 .f32) (w : FVec Ideal S1024 .f32) (b : Fin 2) (t : Fin 256) (k : Fin 1024) :
    ctxNorm x M w (ix3 b t k) = normed (fun j => x (ix3 b t j)) (fun j => w (ix1 j)) (fun j => M (ix3 (2 : Fin 3) (4 : Fin 6) j)) (fun j => M (ix3 (2 : Fin 3) (3 : Fin 6) j)) k := by
  pointwise [ctxNorm, normed]

/-- Both streams as one array, the context first. -/
def joined (h : FVec Ideal S2x256x1024 .f32) (l : FVec Ideal S2x8192x1024 .f32) : FVec Ideal S2x8448x1024 .f32 :=
  concatenate S2x8448x1024 1 [⟨S2x256x1024, h⟩, ⟨S2x8192x1024, l⟩] concatenates_S2x256x1024_S2x8192x1024_S2x8448x1024_d1

/-- All tokens of both batch entries in one list. -/
def listed (x : FVec Ideal S2x8448x1024 .f32) : FVec Ideal S16896x1024 .f32 :=
  shapeCast _ x shapeCasts_S2x8448x1024_S16896x1024

/-- One entry of the joined streams. -/
theorem joined_at (h : FVec Ideal S2x256x1024 .f32) (l : FVec Ideal S2x8192x1024 .f32) (b : Fin 2) (t : Fin 8448) (k : Fin 1024) :
    joined h l (ix3 b t k) = if ht : t.1 < 256 then h (ix3 b (⟨t.1, ht⟩ : Fin 256) k) else l (ix3 b (⟨t.1 - 256, by omega⟩ : Fin 8192) k) := by
  pointwise [joined]

/-- One entry of the list. -/
theorem listed_at (x : FVec Ideal S2x8448x1024 .f32) (r : Fin 16896) (k : Fin 1024) :
    listed x (ix2 r k) = x (ix3 (⟨r.1 / 8448, by omega⟩ : Fin 2) (⟨r.1 % 8448, by omega⟩ : Fin 8448) k) := by
  pointwise [listed]

end Cert.Reference4Ideal.Merge
end
-- ==== Proof.MergePay.lean ====
module

public import proofs.«01_k».proof.Proof.MergeRef
public import proofs.«01_k».proof.Proof.Gen.Kernel4Ideal.Skeleton
public import Idealize.ShloMosaic.Lib.Pointwise

@[expose] public section

set_option maxRecDepth 16384

noncomputable section
namespace Cert.Kernel4Ideal.Merge
open Cert.Kernel4Ideal Cert.Kernel4Ideal.Gen Idealize.ShloMosaic Idealize.ShloMosaic.TcCoe Idealize.SL.Sem
open Cert.Reference3Ideal.Inproj (normed)
open Cert.Reference4Ideal.Merge (mixed added)

/-- The body's comparison of its tile with the context's. -/
theorem tile_lt : ∀ n : Fin 33, Scalar.cmpi .slt (BitVec.ofNat 32 n.val) 1#32 = (if n.val < 1 then 1#1 else 0#1) := by decide +kernel

/-- The long convolution's branch: the context's in the first tile, the latents' after it. -/
theorem pay3_at (i : grid0.Coords) (c l : Vec Ideal S1x256x256 .f32) (p k : Fin 256) :
    k0_pay3 (F := Ideal) i c l (ix2 p k) = if (i 1).val < 1 then c (ix3 0 p k) else l (ix3 0 p k) := by
  have e := tile_lt (i 1)
  by_cases h : (i 1).val < 1
  · rw [if_pos h] at e
    pointwise [k0_pay3]
    simp only [e, h, if_true]
    rfl
  · rw [if_neg h] at e
    pointwise [k0_pay3]
    simp only [e, h, if_false]
    rfl

/-- The gates, cast. -/
theorem pay4_at (g : Vec Ideal S1x256x3072 .bf16) (p : Fin 256) (n : Fin 3072) : k0_pay4 (F := Ideal) g (ix2 p n) = g (ix3 0 p n) := by
  pointwise [k0_pay4]

/-- The two attention branches, each times its weights, gated and summed. -/
theorem pay5_at (i : grid0.Coords) (ac al : Vec Ideal S1x256x256 .bf16) (bc bl : Vec Ideal S1x256x512 .bf16) (g : Vec Ideal S1x256x3072 .bf16) (wa : Vec Ideal S256x1024 .bf16) (wb : Vec Ideal S512x1024 .bf16) (p : Fin 256) (j : Fin 1024) :
    k0_pay5 (F := Ideal) i ac al bc bl g wa wb (ix2 p j) = g (ix3 0 p (⟨j.1, by omega⟩ : Fin 3072)) * (∑ k : Fin 256, (if (i 1).val < 1 then ac (ix3 0 p k) else al (ix3 0 p k)) * wa (ix2 k j))
      + g (ix3 0 p (⟨1024 + j.1, by omega⟩ : Fin 3072)) * (∑ k : Fin 512, (if (i 1).val < 1 then bc (ix3 0 p k) else bl (ix3 0 p k)) * wb (ix2 k j)) := by
  have e := tile_lt (i 1)
  by_cases h : (i 1).val < 1
  · rw [if_pos h] at e
    pointwise [k0_pay5, k0_pay4]
    simp only [e, h, if_true]
    rfl
  · rw [if_neg h] at e
    pointwise [k0_pay5, k0_pay4]
    simp only [e, h, if_false]
    rfl

/-- The stream after the layer's first half. -/
theorem pay7_at (i : grid0.Coords) (y : FVec Ideal S256x256 .f32) (g : FVec Ideal S256x3072 .f32) (s : FVec Ideal S256x1024 .f32) (wc : Vec Ideal S256x1024 .bf16) (wo : Vec Ideal S1024x1024 .bf16) (m : Vec Ideal S1x6x1024 .f32) (c l : Vec Ideal S1x256x1024 .f32) (p : Fin 256) (n : Fin 1024) :
    k0_pay7 (F := Ideal) (Scalar.cmpi .slt (BitVec.ofNat 32 (i 1).val) 1#32) y g s wc wo m c l (ix2 p n) = added (fun j => if (i 1).val < 1 then c (ix3 0 p j) else l (ix3 0 p j)) (fun j => m (ix3 0 2 j))
      (fun j => s (ix2 p j) + g (ix2 p (⟨2048 + j.1, by omega⟩ : Fin 3072)) * (∑ k : Fin 256, y (ix2 p k) * wc (ix2 k j))) (fun j n => wo (ix2 j n)) n := by
  have e := tile_lt (i 1)
  by_cases h : (i 1).val < 1
  · rw [if_pos h] at e
    pointwise [k0_pay7, k0_pay6, added]
    simp only [e, h, if_true]
    rfl
  · rw [if_neg h] at e
    pointwise [k0_pay7, k0_pay6, added]
    simp only [e, h, if_false]
    rfl

/-- What the body stores of it. -/
theorem pay8_at (v : BitVec 1) (y : FVec Ideal S256x256 .f32) (g : FVec Ideal S256x3072 .f32) (s : FVec Ideal S256x1024 .f32) (wc : Vec Ideal S256x1024 .bf16) (wo : Vec Ideal S1024x1024 .bf16) (m : Vec Ideal S1x6x1024 .f32) (c l : Vec Ideal S1x256x1024 .f32) (p : Fin 256) (n : Fin 1024) :
    k0_pay8 (F := Ideal) v y g s wc wo m c l (ix3 0 p n) = k0_pay7 (F := Ideal) v y g s wc wo m c l (ix2 p n) := by
  unfold k0_pay8
  generalize k0_pay7 (F := Ideal) v y g s wc wo m c l = X
  pointwise []

/-- That stream over its root mean square. -/
theorem pay9_at (v : BitVec 1) (y : FVec Ideal S256x256 .f32) (g : FVec Ideal S256x3072 .f32) (s : FVec Ideal S256x1024 .f32) (wc : Vec Ideal S256x1024 .bf16) (wo : Vec Ideal S1024x1024 .bf16) (m : Vec Ideal S1x6x1024 .f32) (c l : Vec Ideal S1x256x1024 .f32) (p : Fin 256) (n : Fin 1024) :
    k0_pay9 (F := Ideal) v y g s wc wo m c l (ix2 p n) = k0_pay7 (F := Ideal) v y g s wc wo m c l (ix2 p n) * Ideal.rsqrt (Ideal.div (∑ j : Fin 1024, k0_pay7 (F := Ideal) v y g s wc wo m c l (ix2 p j) * k0_pay7 (F := Ideal) v y g s wc wo m c l (ix2 p j)) (Ideal.ofBits .f32 0x44800000#32) + Ideal.ofBits .f32 0x358637BD#32) := by
  unfold k0_pay9
  generalize k0_pay7 (F := Ideal) v y g s wc wo m c l = X
  pointwise []

/-- The weighted and modulated row. -/
theorem pay1_at (m : FVec Ideal S6x1024 .f32) (x : FVec Ideal S256x1024 .f32) (w : Vec Ideal S1x1024 .f32) (p : Fin 256) (n : Fin 1024) :
    k0_pay1 (F := Ideal) m x w (ix2 p n) = x (ix2 p n) * w (ix2 0 n) * (1 + m (ix2 4 n)) + m (ix2 3 n) := by
  pointwise [k0_pay1]

/-- The modulation's rows. -/
theorem pay6_at (m : Vec Ideal S1x6x1024 .f32) (j : Fin 6) (n : Fin 1024) : k0_pay6 (F := Ideal) m (ix2 j n) = m (ix3 0 j n) := by
  pointwise [k0_pay6]

end Cert.Kernel4Ideal.Merge
end
-- ==== Proof.MergeAt.lean ====
module

public import proofs.«01_k».proof.Proof.MergePay
public import proofs.«01_k».proof.Proof.Gen.Kernel4Ideal.Frame
public import Idealize.ShloMosaic.Lib.Pipeline.ValueKit
public import Idealize.ShloMosaic.Lib.Claim

@[expose] public section

set_option maxRecDepth 16384

noncomputable section
namespace Cert.Kernel4Ideal.Merge
open Cert.Kernel4Ideal Cert.Kernel4Ideal.Gen Idealize.ShloMosaic Idealize.ShloMosaic.TcCoe Idealize.SL.Sem
open Cert.Reference3Ideal.Inproj (normed)
open Cert.Reference4Ideal.Merge (mixed added)

variable (i : grid0.Coords) (x0 x1 : Vec Ideal S1x256x1024 .f32) (x2 : Vec Ideal S1x6x1024 .f32) (x3 x4 : Vec Ideal S1x256x256 .bf16) (x5 x6 : Vec Ideal S1x256x512 .bf16) (x7 x8 : Vec Ideal S1x256x256 .f32) (x9 : Vec Ideal S1x256x3072 .bf16)
    (x10 : Vec Ideal S256x1024 .bf16) (x11 : Vec Ideal S512x1024 .bf16) (x12 : Vec Ideal S256x1024 .bf16) (x13 : Vec Ideal S1024x1024 .bf16) (x14 : Vec Ideal S1x1024 .f32) (x15 x16 : Vec Ideal S1024x128 .bf16)

/-- A row of a tile after the layer's first half, in terms of the blocks a point stages. -/
abbrev tileRow (p : Fin 256) : Fin 1024 → EReal :=
  added (fun j => if (i 1).val < 1 then x0 (ix3 0 p j) else x1 (ix3 0 p j)) (fun j => x2 (ix3 0 2 j))
    (mixed (fun n => x9 (ix3 0 p n)) (fun k => if (i 1).val < 1 then x3 (ix3 0 p k) else x4 (ix3 0 p k)) (fun k => if (i 1).val < 1 then x5 (ix3 0 p k) else x6 (ix3 0 p k)) (fun k => if (i 1).val < 1 then x7 (ix3 0 p k) else x8 (ix3 0 p k))
      (fun k j => x10 (ix2 k j)) (fun k j => x11 (ix2 k j)) (fun k j => x12 (ix2 k j))) (fun j n => x13 (ix2 j n))

/-- The body's stream at an element is that row. -/
theorem stream_at (p : Fin 256) (n : Fin 1024) :
    k0_pay7 (F := Ideal) (Scalar.cmpi .slt (BitVec.ofNat 32 (i 1).val) 1#32) (k0_pay3 i x7 x8) (k0_pay4 x9) (k0_pay5 i x3 x4 x5 x6 x9 x10 x11) x12 x13 x2 x0 x1 (ix2 p n) = tileRow i x0 x1 x2 x3 x4 x5 x6 x7 x8 x9 x10 x11 x12 x13 p n := by
  rw [pay7_at]
  refine congrArg (fun P => added _ _ P _ n) (funext fun j => ?_)
  rw [pay5_at, pay4_at]
  simp only [pay3_at]
  rfl

/-- What the body stores in its window of the stream. -/
theorem out17_at (p : Fin 256) (n : Fin 1024) :
    out0_17 i x0 x1 x2 x3 x4 x5 x6 x7 x8 x9 x10 x11 x12 x13 x14 x15 x16 (ix3 0 p n) = tileRow i x0 x1 x2 x3 x4 x5 x6 x7 x8 x9 x10 x11 x12 x13 p n := by
  unfold out0_17 k0_pay12 k0_pay11 k0_pay10
  simp (disch := decide) only [View.canon_cons_unit_lit', View.ld_unit_lit']
  rw [pay8_at, stream_at]

/-- What it stores in its window of the normed tokens. -/
theorem out18_at (p : Fin 256) (n : Fin 1024) :
    out0_18 i x0 x1 x2 x3 x4 x5 x6 x7 x8 x9 x10 x11 x12 x13 x14 x15 x16 (ix2 p n) = normed (tileRow i x0 x1 x2 x3 x4 x5 x6 x7 x8 x9 x10 x11 x12 x13 p) (fun j => x14 (ix2 0 j)) (fun j => x2 (ix3 0 4 j)) (fun j => x2 (ix3 0 3 j)) n := by
  unfold out0_18 k0_pay14 k0_pay13 k0_pay12 k0_pay11 k0_pay10
  simp (disch := decide) only [View.canon_cons_unit_lit', View.ld_unit_lit']
  rw [pay1_at, pay9_at, pay6_at, pay6_at]
  simp only [stream_at]
  rfl

end Cert.Kernel4Ideal.Merge
end
-- ==== Proof.MergeBlocks.lean ====
module

public import proofs.«01_k».proof.Proof.Gen.Kernel4Ideal.Launch
public import Idealize.ShloMosaic.Lib.Pointwise
public import Idealize.ShloMosaic.Lib.Pipeline.ValueKit
public import Idealize.ShloMosaic.Lib.Claim

@[expose] public section

set_option maxRecDepth 16384

noncomputable section
namespace Cert.Kernel4Ideal.Merge
open Cert.Kernel4Ideal Cert.Kernel4Ideal.Gen Idealize.ShloMosaic Idealize.ShloMosaic.TcCoe Idealize.SL.Sem
open Idealize.ShloMosaic.Pipeline (Dat)

/-- The blocks of the streams and the modulation a point stages: its batch entry and its tile of tokens; of the modulation the third entry's in the first tile. -/
theorem idxA : ∀ t : Fin cfg0.N, win0_0.index t = ![t.val / 33, 0, 0] ∧ win0_1.index t = ![t.val / 33, t.val % 33 - 1, 0]
    ∧ win0_2.index t = ![if t.val % 33 < 1 then 2 else t.val / 33, 0, 0] ∧ win0_3.index t = ![t.val / 33, 0, 0] ∧ win0_4.index t = ![t.val / 33, t.val % 33 - 1, 0]
    ∧ win0_5.index t = ![t.val / 33, 0, 0] ∧ win0_6.index t = ![t.val / 33, t.val % 33 - 1, 0] ∧ win0_7.index t = ![t.val / 33, 0, 0] ∧ win0_8.index t = ![t.val / 33, t.val % 33 - 1, 0]
    ∧ win0_9.index t = ![t.val / 33, t.val % 33, 0] ∧ (grid0.coords t 1).val = t.val % 33 :=
  (by decide +kernel : ∀ t : Fin grid0.N, _)

/-- The weights are staged whole; the results' blocks are the point's batch entry and tile. -/
theorem idxB : ∀ t : Fin cfg0.N, win0_10.index t = ![0, 0] ∧ win0_11.index t = ![0, 0] ∧ win0_12.index t = ![0, 0] ∧ win0_13.index t = ![0, 0] ∧ win0_14.index t = ![0, 0]
    ∧ win0_17.index t = ![t.val / 33, t.val % 33, 0] ∧ win0_18.index t = ![t.val, 0] :=
  (by decide +kernel : ∀ t : Fin grid0.N, _)

/-- There are 66 points. -/
theorem lt66 (t : Fin cfg0.N) : t.val < 66 := by
  have := t.isLt; have : cfg0.N = 66 := by decide +kernel
  omega

/-- A point's batch entry is one of two. -/
theorem lt33 (t : Fin cfg0.N) : t.val / 33 < 2 := by
  have := lt66 t
  omega

/-- Where a point's block of the context lies. -/
theorem emb_c (t : Fin cfg0.N) (p : Fin 256) (k : Fin 1024) :
    ((cfg0.win 0).blk t).view.emb (ix3 0 p k : S1x256x1024.Idx) = (ix3 ⟨t.val / 33, lt33 t⟩ p k : S2x256x1024.Idx) := by
  blk_ext [idxA t]

/-- Where a point's block of the latents lies. -/
theorem emb_l (t : Fin cfg0.N) (p : Fin 256) (k : Fin 1024) :
    ((cfg0.win 1).blk t).view.emb (ix3 0 p k : S1x256x1024.Idx) = (ix3 ⟨t.val / 33, lt33 t⟩ ⟨(t.val % 33 - 1) * 256 + p, by omega⟩ k : S2x8192x1024.Idx) := by
  blk_ext [idxA t]

/-- Where a point's block of the context's first branch lies. -/
theorem emb_ac (t : Fin cfg0.N) (p : Fin 256) (k : Fin 256) :
    ((cfg0.win 3).blk t).view.emb (ix3 0 p k : S1x256x256.Idx) = (ix3 ⟨t.val / 33, lt33 t⟩ p k : S2x256x256.Idx) := by
  blk_ext [idxA t]

/-- Where a point's block of the latents' first branch lies. -/
theorem emb_al (t : Fin cfg0.N) (p : Fin 256) (k : Fin 256) :
    ((cfg0.win 4).blk t).view.emb (ix3 0 p k : S1x256x256.Idx) = (ix3 ⟨t.val / 33, lt33 t⟩ ⟨(t.val % 33 - 1) * 256 + p, by omega⟩ k : S2x8192x256.Idx) := by
  blk_ext [idxA t]

/-- Where a point's block of the context's second branch lies. -/
theorem emb_bc (t : Fin cfg0.N) (p : Fin 256) (k : Fin 512) :
    ((cfg0.win 5).blk t).view.emb (ix3 0 p k : S1x256x512.Idx) = (ix3 ⟨t.val / 33, lt33 t⟩ p k : S2x256x512.Idx) := by
  blk_ext [idxA t]

/-- Where a point's block of the latents' second branch lies. -/
theorem emb_bl (t : Fin cfg0.N) (p : Fin 256) (k : Fin 512) :
    ((cfg0.win 6).blk t).view.emb (ix3 0 p k : S1x256x512.Idx) = (ix3 ⟨t.val / 33, lt33 t⟩ ⟨(t.val % 33 - 1) * 256 + p, by omega⟩ k : S2x8192x512.Idx) := by
  blk_ext [idxA t]

/-- Where a point's block of the context's third branch lies. -/
theorem emb_hc (t : Fin cfg0.N) (p : Fin 256) (k : Fin 256) :
    ((cfg0.win 7).blk t).view.emb (ix3 0 p k : S1x256x256.Idx) = (ix3 ⟨t.val / 33, lt33 t⟩ p k : S2x256x256.Idx) := by
  blk_ext [idxA t]

/-- Where a point's block of the latents' third branch lies. -/
theorem emb_hl (t : Fin cfg0.N) (p : Fin 256) (k : Fin 256) :
    ((cfg0.win 8).blk t).view.emb (ix3 0 p k : S1x256x256.Idx) = (ix3 ⟨t.val / 33, lt33 t⟩ ⟨(t.val % 33 - 1) * 256 + p, by omega⟩ k : S2x8192x256.Idx) := by
  blk_ext [idxA t]

/-- Where a point's block of the gates lies. -/
theorem emb_g (t : Fin cfg0.N) (p : Fin 256) (k : Fin 3072) :
    ((cfg0.win 9).blk t).view.emb (ix3 0 p k : S1x256x3072.Idx) = (ix3 ⟨t.val / 33, lt33 t⟩ ⟨t.val % 33 * 256 + p, by omega⟩ k : S2x8448x3072.Idx) := by
  blk_ext [idxA t]

/-- Where a point's block of the first branch's weights lies. -/
theorem emb_wa (t : Fin cfg0.N) (p : Fin 256) (k : Fin 1024) :
    ((cfg0.win 10).blk t).view.emb (ix2 p k : S256x1024.Idx) = (ix2 p k : S256x1024.Idx) := by
  blk_ext [idxB t]

/-- Where a point's block of the second branch's weights lies. -/
theorem emb_wb (t : Fin cfg0.N) (p : Fin 512) (k : Fin 1024) :
    ((cfg0.win 11).blk t).view.emb (ix2 p k : S512x1024.Idx) = (ix2 p k : S512x1024.Idx) := by
  blk_ext [idxB t]

/-- Where a point's block of the third branch's weights lies. -/
theorem emb_wc (t : Fin cfg0.N) (p : Fin 256) (k : Fin 1024) :
    ((cfg0.win 12).blk t).view.emb (ix2 p k : S256x1024.Idx) = (ix2 p k : S256x1024.Idx) := by
  blk_ext [idxB t]

/-- Where a point's block of the output projection's weights lies. -/
theorem emb_wo (t : Fin cfg0.N) (p : Fin 1024) (k : Fin 1024) :
    ((cfg0.win 13).blk t).view.emb (ix2 p k : S1024x1024.Idx) = (ix2 p k : S1024x1024.Idx) := by
  blk_ext [idxB t]

/-- Where its block of the modulation lies. -/
theorem emb_m (t : Fin cfg0.N) (j : Fin 6) (k : Fin 1024) :
    ((cfg0.win 2).blk t).view.emb (ix3 0 j k : S1x6x1024.Idx) = (ix3 ⟨if t.val % 33 < 1 then 2 else t.val / 33, by have := lt33 t; split <;> omega⟩ j k : S3x6x1024.Idx) := by
  blk_ext [idxA t]

/-- The norm's weights are staged whole. -/
theorem emb_n (t : Fin cfg0.N) (k : Fin 1024) :
    ((cfg0.win 14).blk t).view.emb (ix2 0 k : S1x1024.Idx) = (ix2 0 k : S1x1024.Idx) := by
  blk_ext [idxB t]

/-- Where a point's block of the stream lies. -/
theorem emb_17 (t : Fin cfg0.N) (p : Fin 256) (k : Fin 1024) :
    ((cfg0.win 17).blk t).view.emb (ix3 0 p k : S1x256x1024.Idx) = (ix3 ⟨t.val / 33, lt33 t⟩ ⟨t.val % 33 * 256 + p, by omega⟩ k : S2x8448x1024.Idx) := by
  blk_ext [idxB t]

/-- Where its block of the list of normed tokens lies. -/
theorem emb_18 (t : Fin cfg0.N) (p : Fin 256) (k : Fin 1024) :
    ((cfg0.win 18).blk t).view.emb (ix2 p k : S256x1024.Idx) = (ix2 ⟨t.val * 256 + p, by have := lt66 t; omega⟩ k : S16896x1024.Idx) := by
  blk_ext [idxB t]

end Cert.Kernel4Ideal.Merge
end
-- ==== Proof.MergeStaged.lean ====
module

public import proofs.«01_k».proof.Proof.MergeBlocks
public import proofs.«01_k».proof.Proof.Gen.Kernel4Ideal.Frame
public import Idealize.ShloMosaic.Lib.Pipeline.ValueKit
public import Idealize.ShloMosaic.Lib.Claim

@[expose] public section

set_option maxRecDepth 16384

noncomputable section
namespace Cert.Kernel4Ideal.Merge
open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The staged first branch's weights are the argument, cast. -/
theorem V_v0 : V m c main_v0 = (truncf .bf16 (m ((c : Thread nD τ).loc main_arg10)) bitsLt_bf16_f32 : FVec Ideal S256x1024 .bf16) := by
  entry_read
  rfl

/-- The staged second branch's weights are the argument, cast. -/
theorem V_v1 : V m c main_v1 = (truncf .bf16 (m ((c : Thread nD τ).loc main_arg11)) bitsLt_bf16_f32 : FVec Ideal S512x1024 .bf16) := by
  entry_read
  rfl

/-- The staged third branch's weights are the argument, cast. -/
theorem V_v2 : V m c main_v2 = (truncf .bf16 (m ((c : Thread nD τ).loc main_arg12)) bitsLt_bf16_f32 : FVec Ideal S256x1024 .bf16) := by
  entry_read
  rfl

/-- The staged output projection's weights are the argument, cast. -/
theorem V_v3 : V m c main_v3 = (truncf .bf16 (m ((c : Thread nD τ).loc main_arg13)) bitsLt_bf16_f32 : FVec Ideal S1024x1024 .bf16) := by
  entry_read
  rfl

/-- The staged norm weights are the argument as one row. -/
theorem V_v9 : V m c main_v9 = (shapeCast _ (m ((c : Thread nD τ).loc main_arg14) : FVec Ideal S1024 .f32) shapeCasts_S1024_S1x1024 : FVec Ideal S1x1024 .f32) := by
  entry_read
  rfl

/-- A vector as one row, at an element. -/
theorem row_at (X : FVec Ideal S1024 .f32) (k : Fin 1024) : (shapeCast _ X shapeCasts_S1024_S1x1024 : FVec Ideal S1x1024 .f32) (ix2 0 k) = X (ix1 k) := by
  pointwise

/-- A point's block of the context is the argument's. -/
theorem c_at (p : Fin 256) (k : Fin 1024) : (iblk m c 0 t (ix3 0 p k : S1x256x1024.Idx) : EReal) = m ((c : Thread nD τ).loc main_arg0) (ix3 ⟨t.val / 33, lt33 t⟩ p k : S2x256x1024.Idx) := by
  have e := emb_c t p k
  have v := V_main_arg0 m c
  blk_simp [iblk]
  generalize V m c main_arg0 = W at v ⊢
  subst v
  exact congrArg (m ((c : Thread nD τ).loc main_arg0)) e

/-- A point's block of the latents is the argument's. -/
theorem l_at (p : Fin 256) (k : Fin 1024) : (iblk m c 1 t (ix3 0 p k : S1x256x1024.Idx) : EReal) = m ((c : Thread nD τ).loc main_arg1) (ix3 ⟨t.val / 33, lt33 t⟩ ⟨(t.val % 33 - 1) * 256 + p, by omega⟩ k : S2x8192x1024.Idx) := by
  have e := emb_l t p k
  have v := V_main_arg1 m c
  blk_simp [iblk]
  generalize V m c main_arg1 = W at v ⊢
  subst v
  exact congrArg (m ((c : Thread nD τ).loc main_arg1)) e

/-- A point's block of the context's first branch is the argument's. -/
theorem ac_at (p : Fin 256) (k : Fin 256) : (iblk m c 3 t (ix3 0 p k : S1x256x256.Idx) : EReal) = m ((c : Thread nD τ).loc main_arg3) (ix3 ⟨t.val / 33, lt33 t⟩ p k : S2x256x256.Idx) := by
  have e := emb_ac t p k
  have v := V_main_arg3 m c
  blk_simp [iblk]
  generalize V m c main_arg3 = W at v ⊢
  subst v
  exact congrArg (m ((c : Thread nD τ).loc main_arg3)) e

/-- A point's block of the latents' first branch is the argument's. -/
theorem al_at (p : Fin 256) (k : Fin 256) : (iblk m c 4 t (ix3 0 p k : S1x256x256.Idx) : EReal) = m ((c : Thread nD τ).loc main_arg4) (ix3 ⟨t.val / 33, lt33 t⟩ ⟨(t.val % 33 - 1) * 256 + p, by omega⟩ k : S2x8192x256.Idx) := by
  have e := emb_al t p k
  have v := V_main_arg4 m c
  blk_simp [iblk]
  generalize V m c main_arg4 = W at v ⊢
  subst v
  exact congrArg (m ((c : Thread nD τ).loc main_arg4)) e

/-- A point's block of the context's second branch is the argument's. -/
theorem bc_at (p : Fin 256) (k : Fin 512) : (iblk m c 5 t (ix3 0 p k : S1x256x512.Idx) : EReal) = m ((c : Thread nD τ).loc main_arg5) (ix3 ⟨t.val / 33, lt33 t⟩ p k : S2x256x512.Idx) := by
  have e := emb_bc t p k
  have v := V_main_arg5 m c
  blk_simp [iblk]
  generalize V m c main_arg5 = W at v ⊢
  subst v
  exact congrArg (m ((c : Thread nD τ).loc main_arg5)) e

/-- A point's block of the latents' second branch is the argument's. -/
theorem bl_at (p : Fin 256) (k : Fin 512) : (iblk m c 6 t (ix3 0 p k : S1x256x512.Idx) : EReal) = m ((c : Thread nD τ).loc main_arg6) (ix3 ⟨t.val / 33, lt33 t⟩ ⟨(t.val % 33 - 1) * 256 + p, by omega⟩ k : S2x8192x512.Idx) := by
  have e := emb_bl t p k
  have v := V_main_arg6 m c
  blk_simp [iblk]
  generalize V m c main_arg6 = W at v ⊢
  subst v
  exact congrArg (m ((c : Thread nD τ).loc main_arg6)) e

/-- A point's block of the context's third branch is the argument's. -/
theorem hc_at (p : Fin 256) (k : Fin 256) : (iblk m c 7 t (ix3 0 p k : S1x256x256.Idx) : EReal) = m ((c : Thread nD τ).loc main_arg7) (ix3 ⟨t.val / 33, lt33 t⟩ p k : S2x256x256.Idx) := by
  have e := emb_hc t p k
  have v := V_main_arg7 m c
  blk_simp [iblk]
  generalize V m c main_arg7 = W at v ⊢
  subst v
  exact congrArg (m ((c : Thread nD τ).loc main_arg7)) e

/-- A point's block of the latents' third branch is the argument's. -/
theorem hl_at (p : Fin 256) (k : Fin 256) : (iblk m c 8 t (ix3 0 p k : S1x256x256.Idx) : EReal) = m ((c : Thread nD τ).loc main_arg8) (ix3 ⟨t.val / 33, lt33 t⟩ ⟨(t.val % 33 - 1) * 256 + p, by omega⟩ k : S2x8192x256.Idx) := by
  have e := emb_hl t p k
  have v := V_main_arg8 m c
  blk_simp [iblk]
  generalize V m c main_arg8 = W at v ⊢
  subst v
  exact congrArg (m ((c : Thread nD τ).loc main_arg8)) e

/-- A point's block of the gates is the argument's. -/
theorem g_at (p : Fin 256) (k : Fin 3072) : (iblk m c 9 t (ix3 0 p k : S1x256x3072.Idx) : EReal) = m ((c : Thread nD τ).loc main_arg9) (ix3 ⟨t.val / 33, lt33 t⟩ ⟨t.val % 33 * 256 + p, by omega⟩ k : S2x8448x3072.Idx) := by
  have e := emb_g t p k
  have v := V_main_arg9 m c
  blk_simp [iblk]
  generalize V m c main_arg9 = W at v ⊢
  subst v
  exact congrArg (m ((c : Thread nD τ).loc main_arg9)) e

/-- A point's block of the first branch's weights is the argument's. -/
theorem wa_at (p : Fin 256) (k : Fin 1024) : (iblk m c 10 t (ix2 p k : S256x1024.Idx) : EReal) = m ((c : Thread nD τ).loc main_arg10) (ix2 p k : S256x1024.Idx) := by
  have e := emb_wa t p k
  have v := V_v0 m c
  blk_simp [iblk]
  generalize V m c main_v0 = W at v ⊢
  subst v
  exact congrArg (m ((c : Thread nD τ).loc main_arg10)) e

/-- A point's block of the second branch's weights is the argument's. -/
theorem wb_at (p : Fin 512) (k : Fin 1024) : (iblk m c 11 t (ix2 p k : S512x1024.Idx) : EReal) = m ((c : Thread nD τ).loc main_arg11) (ix2 p k : S512x1024.Idx) := by
  have e := emb_wb t p k
  have v := V_v1 m c
  blk_simp [iblk]
  generalize V m c main_v1 = W at v ⊢
  subst v
  exact congrArg (m ((c : Thread nD τ).loc main_arg11)) e

/-- A point's block of the third branch's weights is the argument's. -/
theorem wc_at (p : Fin 256) (k : Fin 1024) : (iblk m c 12 t (ix2 p k : S256x1024.Idx) : EReal) = m ((c : Thread nD τ).loc main_arg12) (ix2 p k : S256x1024.Idx) := by
  have e := emb_wc t p k
  have v := V_v2 m c
  blk_simp [iblk]
  generalize V m c main_v2 = W at v ⊢
  subst v
  exact congrArg (m ((c : Thread nD τ).loc main_arg12)) e

/-- A point's block of the output projection's weights is the argument's. -/
theorem wo_at (p : Fin 1024) (k : Fin 1024) : (iblk m c 13 t (ix2 p k : S1024x1024.Idx) : EReal) = m ((c : Thread nD τ).loc main_arg13) (ix2 p k : S1024x1024.Idx) := by
  have e := emb_wo t p k
  have v := V_v3 m c
  blk_simp [iblk]
  generalize V m c main_v3 = W at v ⊢
  subst v
  exact congrArg (m ((c : Thread nD τ).loc main_arg13)) e

/-- The modulation a point stages is the argument's. -/
theorem m_at (j : Fin 6) (k : Fin 1024) :
    (iblk m c 2 t (ix3 0 j k : S1x6x1024.Idx) : EReal) = m ((c : Thread nD τ).loc main_arg2) (ix3 ⟨if t.val % 33 < 1 then 2 else t.val / 33, by have := lt33 t; split <;> omega⟩ j k : S3x6x1024.Idx) := by
  have e := emb_m t j k
  have v := V_main_arg2 m c
  blk_simp [iblk]
  generalize V m c main_arg2 = W at v ⊢
  subst v
  exact congrArg (m ((c : Thread nD τ).loc main_arg2)) e

/-- The norm's weights it stages are the argument's. -/
theorem n_at (k : Fin 1024) : (iblk m c 14 t (ix2 0 k : S1x1024.Idx) : EReal) = m ((c : Thread nD τ).loc main_arg14) (ix1 k : S1024.Idx) := by
  have e := emb_n t k
  have v := V_v9 m c
  have h := row_at (m ((c : Thread nD τ).loc main_arg14)) k
  blk_simp [iblk]
  generalize V m c main_v9 = W at v ⊢
  subst v
  exact (congrArg _ e).trans h

end Cert.Kernel4Ideal.Merge
end
-- ==== Proof.MergeFinal.lean ====
module

public import proofs.«01_k».proof.Proof.MergeAt
public import proofs.«01_k».proof.Proof.MergeStaged
public import proofs.«01_k».proof.Proof.InprojFinal
public import proofs.«01_k».proof.Proof.Gen.Kernel4Ideal.Value

@[expose] public section

set_option maxRecDepth 16384

noncomputable section
namespace Cert.Kernel4Ideal.Merge
open Cert.Kernel4Ideal Cert.Kernel4Ideal.Gen Idealize.ShloMosaic Idealize.ShloMosaic.TcCoe Idealize.SL.Sem
open Idealize.ShloMosaic.Pipeline (Dat)
open Cert.Reference3Ideal.Inproj (normed)
open Cert.Kernel3Ideal.Inproj (normed_congr whole)
open Cert.Reference4Ideal.Merge

variable (m : (ℓ : Loc nD τ sig) → Buf (Elt Ideal) ℓ) (c : Dev nD) (t : Fin cfg0.N)

/-- Merged branches of equal parts are equal. -/
theorem mixed_congr {g g' : Fin 3072 → EReal} {A A' : Fin 256 → EReal} {B B' : Fin 512 → EReal} {C C' : Fin 256 → EReal} {wa wa' : Fin 256 → Fin 1024 → EReal} {wb wb' : Fin 512 → Fin 1024 → EReal} {wc wc' : Fin 256 → Fin 1024 → EReal}
    (hg : ∀ n, g n = g' n) (hA : ∀ k, A k = A' k) (hB : ∀ k, B k = B' k) (hC : ∀ k, C k = C' k) (ha : ∀ k j, wa k j = wa' k j) (hb : ∀ k j, wb k j = wb' k j) (hc : ∀ k j, wc k j = wc' k j) (j : Fin 1024) :
    mixed g A B C wa wb wc j = mixed g' A' B' C' wa' wb' wc' j := by
  obtain rfl := funext hg; obtain rfl := funext hA; obtain rfl := funext hB; obtain rfl := funext hC
  obtain rfl := funext fun k => funext (ha k); obtain rfl := funext fun k => funext (hb k); obtain rfl := funext fun k => funext (hc k)
  rfl

/-- So are rows of the stream. -/
theorem added_congr {x x' s s' p p' : Fin 1024 → EReal} {w w' : Fin 1024 → Fin 1024 → EReal} (hx : ∀ j, x j = x' j) (hs : ∀ j, s j = s' j) (hp : ∀ j, p j = p' j) (hw : ∀ j n, w j n = w' j n) (n : Fin 1024) :
    added x s p w n = added x' s' p' w' n := by
  obtain rfl := funext hx; obtain rfl := funext hs; obtain rfl := funext hp; obtain rfl := funext fun j => funext (hw j)
  rfl

/-- An array's row is found by its number. -/
theorem token {a b d : ℕ} (X : (⟨3, ![a, b, d]⟩ : Shape).Idx → EReal) (i : Fin a) {r r' : Fin b} (h : r.1 = r'.1) (k : Fin d) : X (ix3 i r k) = X (ix3 i r' k) :=
  congrArg (fun r => X (ix3 i r k)) (Fin.ext h)

/-- The reference's context after the layer's first half. -/
abbrev CTX : FVec Ideal Cert.Reference4Ideal.S2x256x1024 .f32 :=
  ctxAdd (m ((c : Thread nD τ).loc main_arg0)) (m ((c : Thread nD τ).loc main_arg2)) (ctxMix (m ((c : Thread nD τ).loc main_arg3)) (m ((c : Thread nD τ).loc main_arg5)) (m ((c : Thread nD τ).loc main_arg7)) (m ((c : Thread nD τ).loc main_arg9)) (m ((c : Thread nD τ).loc main_arg10)) (m ((c : Thread nD τ).loc main_arg11)) (m ((c : Thread nD τ).loc main_arg12))) (m ((c : Thread nD τ).loc main_arg13))

/-- Its latents. -/
abbrev LAT : FVec Ideal Cert.Reference4Ideal.S2x8192x1024 .f32 :=
  latAdd (m ((c : Thread nD τ).loc main_arg1)) (m ((c : Thread nD τ).loc main_arg2)) (latMix (m ((c : Thread nD τ).loc main_arg4)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg13))

/-- Both as one array. -/
abbrev STREAM : FVec Ideal Cert.Reference4Ideal.S2x8448x1024 .f32 := joined (CTX m c) (LAT m c)

/-- The normed tokens of both. -/
abbrev NORMED : FVec Ideal Cert.Reference4Ideal.S2x8448x1024 .f32 :=
  joined (ctxNorm (CTX m c) (m ((c : Thread nD τ).loc main_arg2)) (m ((c : Thread nD τ).loc main_arg14))) (latNorm (LAT m c) (m ((c : Thread nD τ).loc main_arg2)) (m ((c : Thread nD τ).loc main_arg14)))

/-- The tile coordinate of a point. -/
theorem coord_at : (grid0.coords t 1).val = t.val % 33 := (idxA t).2.2.2.2.2.2.2.2.2.2

/-- A row of a point's tile is the reference's stream there. -/
theorem stream_row (p : Fin 256) (n : Fin 1024) :
    tileRow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p n = STREAM m c (ix3 ⟨t.val / 33, lt33 t⟩ ⟨t.val % 33 * 256 + p, by omega⟩ n) := by
  have e := coord_at t
  unfold STREAM CTX LAT tileRow
  rw [joined_at]
  by_cases h : t.val % 33 < 1
  · rw [dif_pos (show t.val % 33 * 256 + p.1 < 256 by omega), ctxAdd_at]
    refine added_congr (fun k => (if_pos (e ▸ h)).trans ((c_at m c t p k).trans (token _ _ (by dsimp only; omega) k))) (fun j => (m_at m c t 2 j).trans (congrArg (fun r => m ((c : Thread nD τ).loc main_arg2) (ix3 r 2 j : S3x6x1024.Idx)) (Fin.ext (if_pos h)))) (fun j => ?_) (fun j n => wo_at m c t j n) n
    rw [ctxMix_at]
    exact mixed_congr (fun n => g_at m c t p n) (fun k => (if_pos (e ▸ h)).trans ((ac_at m c t p k).trans (token _ _ (by dsimp only; omega) k))) (fun k => (if_pos (e ▸ h)).trans ((bc_at m c t p k).trans (token _ _ (by dsimp only; omega) k))) (fun k => (if_pos (e ▸ h)).trans ((hc_at m c t p k).trans (token _ _ (by dsimp only; omega) k))) (fun k j => wa_at m c t k j) (fun k j => wb_at m c t k j) (fun k j => wc_at m c t k j) j
  · rw [dif_neg (show ¬ t.val % 33 * 256 + p.1 < 256 by omega), latAdd_at]
    refine added_congr (fun k => (if_neg (e ▸ h)).trans ((l_at m c t p k).trans (token _ _ (by dsimp only; omega) k))) (fun j => (m_at m c t 2 j).trans (congrArg (fun r => m ((c : Thread nD τ).loc main_arg2) (ix3 r 2 j : S3x6x1024.Idx)) (Fin.ext (if_neg h)))) (fun j => ?_) (fun j n => wo_at m c t j n) n
    rw [latMix_at]
    exact mixed_congr (fun n => (g_at m c t p n).trans (token _ _ (by dsimp only; omega) n)) (fun k => (if_neg (e ▸ h)).trans ((al_at m c t p k).trans (token _ _ (by dsimp only; omega) k))) (fun k => (if_neg (e ▸ h)).trans ((bl_at m c t p k).trans (token _ _ (by dsimp only; omega) k))) (fun k => (if_neg (e ▸ h)).trans ((hl_at m c t p k).trans (token _ _ (by dsimp only; omega) k))) (fun k j => wa_at m c t k j) (fun k j => wb_at m c t k j) (fun k j => wc_at m c t k j) j

/-- Its normed row is the reference's there. -/
theorem normed_row (p : Fin 256) (n : Fin 1024) :
    normed (tileRow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p) (fun j => iblk m c 14 t (ix2 0 j)) (fun j => iblk m c 2 t (ix3 0 4 j)) (fun j => iblk m c 2 t (ix3 0 3 j)) n = NORMED m c (ix3 ⟨t.val / 33, lt33 t⟩ ⟨t.val % 33 * 256 + p, by omega⟩ n) := by
  unfold NORMED
  rw [joined_at]
  by_cases h : t.val % 33 < 1
  · have q : t.val % 33 * 256 + p.1 < 256 := by omega
    rw [dif_pos q, ctxNorm_at]
    refine normed_congr _ _ _ _ _ _ _ _ (fun j => (stream_row m c t p j).trans ?_) (fun j => n_at m c t j) (fun j => (m_at m c t 4 j).trans (congrArg (fun r => m ((c : Thread nD τ).loc main_arg2) (ix3 r 4 j : S3x6x1024.Idx)) (Fin.ext (if_pos h)))) (fun j => (m_at m c t 3 j).trans (congrArg (fun r => m ((c : Thread nD τ).loc main_arg2) (ix3 r 3 j : S3x6x1024.Idx)) (Fin.ext (if_pos h)))) n
    unfold STREAM
    rw [joined_at, dif_pos q]
  · have q : ¬ t.val % 33 * 256 + p.1 < 256 := by omega
    rw [dif_neg q, latNorm_at]
    refine normed_congr _ _ _ _ _ _ _ _ (fun j => (stream_row m c t p j).trans ?_) (fun j => n_at m c t j) (fun j => (m_at m c t 4 j).trans (congrArg (fun r => m ((c : Thread nD τ).loc main_arg2) (ix3 r 4 j : S3x6x1024.Idx)) (Fin.ext (if_neg h)))) (fun j => (m_at m c t 3 j).trans (congrArg (fun r => m ((c : Thread nD τ).loc main_arg2) (ix3 r 3 j : S3x6x1024.Idx)) (Fin.ext (if_neg h)))) n
    unfold STREAM
    rw [joined_at, dif_neg q]

/-- The list's row of a point's tile is that token of its batch entry. -/
theorem listed_row (X : FVec Ideal Cert.Reference4Ideal.S2x8448x1024 .f32) (p : Fin 256) (n : Fin 1024) :
    listed X (ix2 ⟨t.val * 256 + p, by have := lt66 t; omega⟩ n) = X (ix3 ⟨t.val / 33, lt33 t⟩ ⟨t.val % 33 * 256 + p, by omega⟩ n) := by
  have := lt66 t
  rw [listed_at]
  have a : (t.val * 256 + p.1) / 8448 = t.val / 33 := by omega
  have b : (t.val * 256 + p.1) % 8448 = t.val % 33 * 256 + p.1 := by omega
  exact congrArg₂ (fun i r => X (ix3 i r n)) (Fin.ext a) (Fin.ext b)

/-- The stream the program leaves is the reference's. -/
theorem final17 : (dats m 0 c).arrAt 17 cfg0.N = (STREAM m c : FVec Ideal S2x8448x1024 .f32) := by
  refine (dats m 0 c).arrAt_eq_of_covers 17 _ (by decide +kernel) fun t hf y => ?_
  have B := fun p q => (out17_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans (stream_row m c t p q)
  have e := fun p q => emb_17 t p q
  rw [after0_17]
  generalize STREAM m c = G at B ⊢
  generalize out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = O at B ⊢
  exact (cast_eq _ _).trans (whole O (fun y => G (((cfg0.win 17).blk t).view.emb y)) (fun p q => (B p q).trans (congrArg G (e p q)).symm) y)

/-- Two blocks of a list that agree at every row and lane are equal. -/
theorem whole2 {a d : ℕ} (O G : (⟨2, ![a, d]⟩ : Shape).Idx → EReal) (h : ∀ (p : Fin a) (q : Fin d), O (ix2 p q) = G (ix2 p q)) : ∀ y, O y = G y := fun y => by
  obtain ⟨p, q, rfl⟩ : ∃ (p : Fin a) (q : Fin d), y = ix2 p q := ⟨_, _, eq_ix2 y⟩
  exact h p q

/-- So is the list of normed tokens. -/
theorem final18 : (dats m 0 c).arrAt 18 cfg0.N = (listed (NORMED m c) : FVec Ideal S16896x1024 .f32) := by
  refine (dats m 0 c).arrAt_eq_of_covers 18 _ (by decide +kernel) fun t hf y => ?_
  have B := fun p q => (out18_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ((normed_row m c t p q).trans (listed_row t (NORMED m c) p q).symm)
  have e := fun p q => emb_18 t p q
  rw [after0_18]
  generalize listed (NORMED m c) = G at B ⊢
  generalize out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = O at B ⊢
  exact (cast_eq _ _).trans (whole2 O (fun y => G (((cfg0.win 18).blk t).view.emb y)) (fun p q => (B p q).trans (congrArg G (e p q)).symm) y)

set_option maxHeartbeats 1600000 in
/-- The program leaves the reference's stream and its list of normed tokens and keeps its arguments. -/
theorem run_results (ρ : Dev nD → PrngReg) : θ_run defs (onTc (τ := τ) (main (F := Ideal))) ⟨m, fun _ => 0, ρ⟩ fun r => ∀ c : Dev nD,
      r.2.mem ((c : Thread nD τ).loc main_v10_0) = (STREAM m c : FVec Ideal S2x8448x1024 .f32)
      ∧ r.2.mem ((c : Thread nD τ).loc main_v10_1) = (listed (NORMED m c) : FVec Ideal S16896x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨(h c).1.trans (final17 m c), (h c).2.1.trans (final18 m c), (h c).2.2.2⟩) (Cert.Kernel4Ideal.Value.run_blocks m ρ)

end Cert.Kernel4Ideal.Merge
end
-- ==== Proof.Ada.lean ====
module

public import proofs.«01_k».proof.Proof.Gen.Kernel5Ideal.Value
public import proofs.«01_k».proof.Proof.Gen.Reference5Ideal.Run
public import proofs.«01_k».proof.Proof.MergeFinal
public import Idealize.ShloMosaic.Lib.Pointwise
public import Idealize.ShloMosaic.Lib.Pipeline.ValueKit
public import Idealize.ShloMosaic.Lib.Claim

@[expose] public section

set_option maxRecDepth 16384

noncomputable section
namespace Cert.Reference5Ideal.Ada
open Cert.Reference5Ideal Cert.Reference5Ideal.Gen Idealize.ShloMosaic Idealize.ShloMosaic.TcCoe Idealize.SL.Sem

/-- One entry of the modulation: the conditioning row, gated by its own sigmoid, times a column of the weights, plus the bias. -/
def entry (x : Fin 1024 → EReal) (w : Fin 1024 → EReal) (b : EReal) : EReal :=
  (∑ k, x k * Ideal.div 1 (1 + Ideal.exp (-x k)) * w k) + b

/-- The reference's modulation, as it takes it. -/
def modulation (x : FVec Ideal S8x1024 .f32) (w : FVec Ideal S2x1024x6144 .f32) (b : FVec Ideal S2x6144 .f32) : FVec Ideal S8x6144 .f32 :=
  addf (Host.dotGeneral dot_S8x1024_S1024x6144_S8x6144_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) (shapeCast _ (extractStridedSlice S1x1024x6144 ![0, 0, 0] w slices_S2x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![0, 0] b slices_S2x6144_S1x6144_0_0) shapeCasts_S1x6144_S6144)))

/-- One entry of it. -/
theorem modulation_at (x : FVec Ideal S8x1024 .f32) (w : FVec Ideal S2x1024x6144 .f32) (b : FVec Ideal S2x6144 .f32) (p : Fin 8) (n : Fin 6144) :
    modulation x w b (ix2 p n) = entry (fun k => x (ix2 p k)) (fun k => w (ix3 0 k n)) (b (ix2 0 n)) := by
  pointwise [modulation, entry]

end Cert.Reference5Ideal.Ada

namespace Cert.Kernel5Ideal.Ada
open Cert.Kernel5Ideal Cert.Kernel5Ideal.Gen Idealize.ShloMosaic Idealize.ShloMosaic.TcCoe Idealize.SL.Sem
open Idealize.ShloMosaic.Pipeline (Dat)
open Cert.Reference5Ideal.Ada

/-- The body's payload at an element. -/
theorem pay_at (x : Vec Ideal S8x1024 .f32) (w : Vec Ideal S1x1024x1536 .f32) (b : Vec Ideal S1x1x1536 .f32) (p : Fin 8) (q : Fin 1536) :
    k0_pay1 (F := Ideal) x w b (ix2 p q) = entry (fun k => x (ix2 p k)) (fun k => w (ix3 0 k q)) (b (ix3 0 0 q)) := by
  pointwise [k0_pay1, entry]
  rfl

/-- What the body stores is that payload of its blocks. -/
theorem out_at (x : Vec Ideal S8x1024 .f32) (w : Vec Ideal S1x1024x1536 .f32) (b : Vec Ideal S1x1x1536 .f32) (p : Fin 8) (q : Fin 1536) :
    out0_3 x w b (ix2 p q) = entry (fun k => x (ix2 p k)) (fun k => w (ix3 0 k q)) (b (ix3 0 0 q)) := by
  unfold out0_3
  simp (disch := decide) only [View.canon_cons_unit_lit', View.ld_unit_lit']
  rw [pay_at]

/-- The blocks a point stages: the conditioning whole, of the first layer's weights and bias its columns. -/
theorem idx : ∀ t : Fin cfg0.N, win0_0.index t = ![0, 0] ∧ win0_1.index t = ![0, 0, t.val] ∧ win0_2.index t = ![0, 0, t.val] ∧ win0_3.index t = ![0, t.val] :=
  (by decide +kernel : ∀ t : Fin grid0.N, _)

/-- There are four points. -/
theorem lt4 (t : Fin cfg0.N) : t.val < 4 := by
  have := t.isLt; have : cfg0.N = 4 := by decide +kernel
  omega

/-- A point's column of the array. -/
abbrev col (t : Fin cfg0.N) (q : Fin 1536) : Fin 6144 := ⟨t.val * 1536 + q, by have := lt4 t; omega⟩

theorem emb_x (t : Fin cfg0.N) (p : Fin 8) (k : Fin 1024) : ((cfg0.win 0).blk t).view.emb (ix2 p k : S8x1024.Idx) = (ix2 p k : S8x1024.Idx) := by
  blk_ext [idx t]

theorem emb_w (t : Fin cfg0.N) (k : Fin 1024) (q : Fin 1536) : ((cfg0.win 1).blk t).view.emb (ix3 0 k q : S1x1024x1536.Idx) = (ix3 0 k (col t q) : S2x1024x6144.Idx) := by
  blk_ext [idx t]

theorem emb_b (t : Fin cfg0.N) (q : Fin 1536) : ((cfg0.win 2).blk t).view.emb (ix3 0 0 q : S1x1x1536.Idx) = (ix3 0 0 (col t q) : S2x1x6144.Idx) := by
  blk_ext [idx t]

theorem emb_o (t : Fin cfg0.N) (p : Fin 8) (q : Fin 1536) : ((cfg0.win 3).blk t).view.emb (ix2 p q : S8x1536.Idx) = (ix2 p (col t q) : S8x6144.Idx) := by
  blk_ext [idx t]

variable (m : (ℓ : Loc nD τ sig) → Buf (Elt Ideal) ℓ) (c : Dev nD) (t : Fin cfg0.N)

/-- The staged bias is the argument with an axis more. -/
theorem V_v0 : V m c main_v0 = (shapeCast _ (m ((c : Thread nD τ).loc main_arg2) : FVec Ideal S2x6144 .f32) shapeCasts_S2x6144_S2x1x6144 : FVec Ideal S2x1x6144 .f32) := by
  entry_read
  rfl

/-- It, at an element. -/
theorem bias_at (X : FVec Ideal S2x6144 .f32) (n : Fin 6144) : (shapeCast _ X shapeCasts_S2x6144_S2x1x6144 : FVec Ideal S2x1x6144 .f32) (ix3 0 0 n) = X (ix2 0 n) := by
  pointwise

/-- The conditioning a point stages is the argument. -/
theorem x_at (p : Fin 8) (k : Fin 1024) : (iblk m c 0 t (ix2 p k : S8x1024.Idx) : EReal) = m ((c : Thread nD τ).loc main_arg0) (ix2 p k : S8x1024.Idx) := by
  have e := emb_x t p k
  have v := V_main_arg0 m c
  blk_simp [iblk]
  generalize V m c main_arg0 = W at v ⊢
  subst v
  exact congrArg (m ((c : Thread nD τ).loc main_arg0)) e

/-- Its weights are the first layer's. -/
theorem w_at (k : Fin 1024) (q : Fin 1536) : (iblk m c 1 t (ix3 0 k q : S1x1024x1536.Idx) : EReal) = m ((c : Thread nD τ).loc main_arg1) (ix3 0 k (col t q) : S2x1024x6144.Idx) := by
  have e := emb_w t k q
  have v := V_main_arg1 m c
  blk_simp [iblk]
  generalize V m c main_arg1 = W at v ⊢
  subst v
  exact congrArg (m ((c : Thread nD τ).loc main_arg1)) e

/-- So is its bias. -/
theorem b_at (q : Fin 1536) : (iblk m c 2 t (ix3 0 0 q : S1x1x1536.Idx) : EReal) = m ((c : Thread nD τ).loc main_arg2) (ix2 0 (col t q) : S2x6144.Idx) := by
  have e := emb_b t q
  have v := V_v0 m c
  have h := bias_at (m ((c : Thread nD τ).loc main_arg2)) (col t q)
  blk_simp [iblk]
  generalize V m c main_v0 = W at v ⊢
  subst v
  exact (congrArg _ e).trans h

/-- Entries of equal parts are equal. -/
theorem entry_congr {x x' w w' : Fin 1024 → EReal} {b b' : EReal} (hx : ∀ k, x k = x' k) (hw : ∀ k, w k = w' k) (hb : b = b') : entry x w b = entry x' w' b' := by
  obtain rfl := funext hx; obtain rfl := funext hw; subst hb
  rfl

/-- The array the program leaves is the reference's. -/
theorem final : (dats m 0 c).arrAt 3 cfg0.N = (modulation (m ((c : Thread nD τ).loc main_arg0)) (m ((c : Thread nD τ).loc main_arg1)) (m ((c : Thread nD τ).loc main_arg2)) : FVec Ideal S8x6144 .f32) := by
  refine (dats m 0 c).arrAt_eq_of_covers 3 _ (by decide +kernel) fun t hf y => ?_
  have B := fun p q => (out_at (iblk m c 0 t) (iblk m c 1 t) (iblk m c 2 t) p q).trans ((entry_congr (fun k => x_at m c t p k) (fun k => w_at m c t k q) (b_at m c t q)).trans (modulation_at _ _ _ p (col t q)).symm)
  have e := fun p q => emb_o t p q
  rw [after0_3]
  generalize modulation (m ((c : Thread nD τ).loc main_arg0)) (m ((c : Thread nD τ).loc main_arg1)) (m ((c : Thread nD τ).loc main_arg2)) = G at B ⊢
  generalize out0_3 (iblk m c 0 t) (iblk m c 1 t) (iblk m c 2 t) = O at B ⊢
  exact (cast_eq _ _).trans (Cert.Kernel4Ideal.Merge.whole2 O (fun y => G (((cfg0.win 3).blk t).view.emb y)) (fun p q => (B p q).trans (congrArg G (e p q)).symm) y)

end Cert.Kernel5Ideal.Ada
end
-- ==== Proof.ConvRef.lean ====
module

public import proofs.«01_k».proof.Proof.Gen.Reference6Ideal
public import Idealize.ShloMosaic.Lib.Pointwise
public import Idealize.ShloMosaic.Lib.KernelVsHost

@[expose] public section

set_option maxRecDepth 16384

noncomputable section
namespace Cert.Reference6Ideal.Conv
open Cert.Reference6Ideal Cert.Reference6Ideal.Gen Idealize.ShloMosaic Idealize.ShloMosaic.TcCoe Idealize.SL.Sem

/-- One entry of the short convolution: the token before, the token and the token after, each times its weight, plus the bias. -/
def tap (up u dn w0 w1 w2 b : EReal) : EReal := up * w0 + u * w1 + dn * w2 + b

/-- The tokens with one row of zeros before and one after. -/
def padded (X : FVec Ideal S2x8192x768 .f32) : FVec Ideal S2x8194x768 .f32 :=
  pad S2x8194x768 ![0, 1, 0] ![0, 1, 0] ![0, 0, 0] X (sitofp .f32 (constantI S_ 32 0#32)) pads_S2x8192x768_S2x8194x768_000_110_000 h_S_

/-- The short convolution of every token, as the reference takes it. -/
def conv (X : FVec Ideal S2x8192x768 .f32) (w : FVec Ideal S3x768 .f32) (b : FVec Ideal S768 .f32) : FVec Ideal S2x8192x768 .f32 :=
  addf (addf (addf
      (mulf (extractStridedSlice S2x8192x768 ![0, 0, 0] (padded X) slices_S2x8194x768_S2x8192x768_0_0_0) (broadcastInDim S2x8192x768 ![0, 1, 2] bcast_S1x1x768_S2x8192x768_0_1_2 (broadcastInDim S1x1x768 ![2] bcast_S768_S1x1x768_2 (shapeCast _ (extractStridedSlice S1x768 ![0, 0] w slices_S3x768_S1x768_0_0) shapeCasts_S1x768_S768))))
      (mulf (extractStridedSlice S2x8192x768 ![0, 1, 0] (padded X) slices_S2x8194x768_S2x8192x768_0_1_0) (broadcastInDim S2x8192x768 ![0, 1, 2] bcast_S1x1x768_S2x8192x768_0_1_2 (broadcastInDim S1x1x768 ![2] bcast_S768_S1x1x768_2 (shapeCast _ (extractStridedSlice S1x768 ![1, 0] w slices_S3x768_S1x768_1_0) shapeCasts_S1x768_S768)))))
      (mulf (extractStridedSlice S2x8192x768 ![0, 2, 0] (padded X) slices_S2x8194x768_S2x8192x768_0_2_0) (broadcastInDim S2x8192x768 ![0, 1, 2] bcast_S1x1x768_S2x8192x768_0_1_2 (broadcastInDim S1x1x768 ![2] bcast_S768_S1x1x768_2 (shapeCast _ (extractStridedSlice S1x768 ![2, 0] w slices_S3x768_S1x768_2_0) shapeCasts_S1x768_S768)))))
    (broadcastInDim S2x8192x768 ![0, 1, 2] bcast_S1x1x768_S2x8192x768_0_1_2 (broadcastInDim S1x1x768 ![2] bcast_S768_S1x1x768_2 b))

/-- A stream of 256 channels laid out by its phase within rows of 128 tokens. -/
def byPhase (Y : FVec Ideal S2x8192x256 .f32) : FVec Ideal S2x128x64x256 .f32 :=
  transpose S2x128x64x256 [0, 2, 1, 3] (shapeCast _ Y shapeCasts_S2x8192x256_S2x64x128x256) transposes_S2x64x128x256_S2x128x64x256_0_2_1_3

/-- The first 256 channels of the convolution. -/
def part0 (Z : FVec Ideal S2x8192x768 .f32) : FVec Ideal S2x128x64x256 .f32 :=
  byPhase (extractStridedSlice S2x8192x256 ![0, 0, 0] Z slices_S2x8192x768_S2x8192x256_0_0_0)

/-- The next 256. -/
def part1 (Z : FVec Ideal S2x8192x768 .f32) : FVec Ideal S2x128x64x256 .f32 :=
  byPhase (extractStridedSlice S2x8192x256 ![0, 0, 256] Z slices_S2x8192x768_S2x8192x256_0_0_256)

/-- The last 256. -/
def part2 (Z : FVec Ideal S2x8192x768 .f32) : FVec Ideal S2x128x64x256 .f32 :=
  byPhase (extractStridedSlice S2x8192x256 ![0, 0, 512] Z slices_S2x8192x768_S2x8192x256_0_0_512)

/-- A row of the padded tokens past the first zeros is a token. -/
theorem padded_in (X : FVec Ideal S2x8192x768 .f32) (b : Fin 2) (r : Fin 8194) (k : Fin 768) (s : Fin 8192) (h : r.1 = s.1 + 1) : padded X (ix3 b r k) = X (ix3 b s k) := by
  unfold padded
  refine pad_apply_of_inside _ _ _ _ _ _ _ _ (ix3 b s k) fun a => ?_
  match a with
  | ⟨0, _⟩ => show b.1 = 0 + b.1 * (0 + 1); omega
  | ⟨1, _⟩ => show r.1 = 1 + s.1 * (0 + 1); omega
  | ⟨2, _⟩ => show k.1 = 0 + k.1 * (0 + 1); omega

/-- The outer rows are zero. -/
theorem padded_out (X : FVec Ideal S2x8192x768 .f32) (b : Fin 2) (r : Fin 8194) (k : Fin 768) (h : r.1 = 0 ∨ r.1 = 8193) : padded X (ix3 b r k) = 0 := by
  unfold padded
  refine (pad_apply_of_not_inside _ _ _ _ _ _ _ _ (⟨1, by decide⟩ : Fin 3) ?_).trans ?_
  · show ¬(1 ≤ r.1 ∧ (r.1 - 1) % (0 + 1) = 0 ∧ (r.1 - 1) / (0 + 1) < 8192)
    omega
  · pointwise
    show (((0#32 : BitVec 32).toInt : ℝ) : EReal) = 0
    simp

/-- One entry of the convolution: beyond the ends of the sequence there are zeros. -/
theorem conv_at (X : FVec Ideal S2x8192x768 .f32) (w : FVec Ideal S3x768 .f32) (b : FVec Ideal S768 .f32) (i : Fin 2) (r : Fin 8192) (k : Fin 768) :
    conv X w b (ix3 i r k) = tap (if r.1 = 0 then 0 else X (ix3 i (⟨r.1 - 1, by omega⟩ : Fin 8192) k)) (X (ix3 i r k)) (if h : r.1 + 1 < 8192 then X (ix3 i (⟨r.1 + 1, h⟩ : Fin 8192) k) else 0)
      (w (ix2 (0 : Fin 3) k)) (w (ix2 (1 : Fin 3) k)) (w (ix2 (2 : Fin 3) k)) (b (ix1 k)) := by
  have e0 : padded X (ix3 i (⟨r.1, by omega⟩ : Fin 8194) k) = if r.1 = 0 then 0 else X (ix3 i (⟨r.1 - 1, by omega⟩ : Fin 8192) k) := by
    split
    · exact padded_out X i _ k (Or.inl ‹_›)
    · exact padded_in X i _ k _ (by dsimp only; omega)
  have e1 : padded X (ix3 i (⟨1 + r.1, by omega⟩ : Fin 8194) k) = X (ix3 i r k) := padded_in X i _ k r (by dsimp only; omega)
  have e2 : padded X (ix3 i (⟨2 + r.1, by omega⟩ : Fin 8194) k) = if h : r.1 + 1 < 8192 then X (ix3 i (⟨r.1 + 1, h⟩ : Fin 8192) k) else 0 := by
    split
    · exact padded_in X i _ k _ (by dsimp only; omega)
    · exact padded_out X i _ k (Or.inr (by dsimp only; omega))
  rw [← e0, ← e1, ← e2]
  pointwise [conv, tap]

/-- One entry of a stream laid out by phase. -/
theorem byPhase_at (Y : FVec Ideal S2x8192x256 .f32) (i : Fin 2) (s : Fin 128) (q : Fin 64) (k : Fin 256) :
    byPhase Y (ix4 i s q k) = Y (ix3 i (⟨q.1 * 128 + s.1, by omega⟩ : Fin 8192) k) := by
  pointwise [byPhase]

/-- One entry of the first part. -/
theorem part0_at (Z : FVec Ideal S2x8192x768 .f32) (i : Fin 2) (s : Fin 128) (q : Fin 64) (k : Fin 256) :
    part0 Z (ix4 i s q k) = Z (ix3 i (⟨q.1 * 128 + s.1, by omega⟩ : Fin 8192) (⟨0 + k.1, by omega⟩ : Fin 768)) := by
  unfold part0
  rw [byPhase_at]
  pointwise

/-- One entry of the second. -/
theorem part1_at (Z : FVec Ideal S2x8192x768 .f32) (i : Fin 2) (s : Fin 128) (q : Fin 64) (k : Fin 256) :
    part1 Z (ix4 i s q k) = Z (ix3 i (⟨q.1 * 128 + s.1, by omega⟩ : Fin 8192) (⟨256 + k.1, by omega⟩ : Fin 768)) := by
  unfold part1
  rw [byPhase_at]
  pointwise

/-- One entry of the third. -/
theorem part2_at (Z : FVec Ideal S2x8192x768 .f32) (i : Fin 2) (s : Fin 128) (q : Fin 64) (k : Fin 256) :
    part2 Z (ix4 i s q k) = Z (ix3 i (⟨q.1 * 128 + s.1, by omega⟩ : Fin 8192) (⟨512 + k.1, by omega⟩ : Fin 768)) := by
  unfold part2
  rw [byPhase_at]
  pointwise

end Cert.Reference6Ideal.Conv
end
-- ==== Proof.ConvPay.lean ====
module

public import proofs.«01_k».proof.Proof.ConvRef
public import proofs.«01_k».proof.Proof.Gen.Kernel6Ideal.Frame
public import Idealize.ShloMosaic.Lib.Pointwise
public import Idealize.ShloMosaic.Lib.Pipeline.ValueKit
public import Idealize.ShloMosaic.Lib.KernelVsHost

@[expose] public section

set_option maxRecDepth 16384

noncomputable section
namespace Cert.Kernel6Ideal.Conv
open Cert.Kernel6Ideal Cert.Kernel6Ideal.Gen Idealize.ShloMosaic Idealize.ShloMosaic.TcCoe Idealize.SL.Sem
open Cert.Reference6Ideal.Conv (tap)

/-- The body's comparison of its tile with the first. -/
theorem first_tile : ∀ n : Fin 8, Scalar.cmpi .sgt (BitVec.ofNat 32 n.val) 0#32 = (if 0 < n.val then 1#1 else 0#1) := by decide +kernel

/-- Its comparison with the last. -/
theorem last_tile : ∀ n : Fin 8, Scalar.cmpi .slt (BitVec.ofNat 32 n.val) 7#32 = (if n.val < 7 then 1#1 else 0#1) := by decide +kernel

/-- The body's comparison of its rows with the first. -/
theorem first_row : ∀ p : Fin 1024, IntOp.cmpi .eq (BitVec.ofNat 32 p.1) 0#32 = (if p.1 = 0 then 1#1 else 0#1) := by decide +kernel

/-- With the last. -/
theorem last_row : ∀ p : Fin 1024, IntOp.cmpi .eq (BitVec.ofNat 32 p.1) 1023#32 = (if p.1 = 1023 then 1#1 else 0#1) := by decide +kernel

/-- A choice by the bit of a proposition is the choice by it. -/
theorem select_bit {α : Type} (P : Prop) [Decidable P] (x y : α) : Scalar.select (if P then 1#1 else 0#1) x y = if P then x else y := by
  split <;> rfl

/-- The tile moved down a row. -/
theorem down_at (x : FVec Ideal S1024x768 .f32) (p : Fin 1024) (k : Fin 768) :
    dynamicRotate 0 1#32 none x rotates_S1024x768_d0 (ix2 p k) = x (ix2 (⟨(p.1 + 1023) % 1024, by omega⟩ : Fin 1024) k) := by
  refine dynamicRotate_apply _ _ _ _ _ _ fun b => ?_
  match b with
  | ⟨0, _⟩ => rfl
  | ⟨1, _⟩ => rfl

/-- The tile moved up a row. -/
theorem up_at (x : FVec Ideal S1024x768 .f32) (p : Fin 1024) (k : Fin 768) :
    dynamicRotate 0 1023#32 none x rotates_S1024x768_d0 (ix2 p k) = x (ix2 (⟨(p.1 + 1) % 1024, by omega⟩ : Fin 1024) k) := by
  refine dynamicRotate_apply _ _ _ _ _ _ fun b => ?_
  match b with
  | ⟨0, _⟩ => rfl
  | ⟨1, _⟩ => rfl

/-- The tile's rows. -/
theorem pay8_at (v0 : Vec Ideal S1x1024x768 .f32) (p : Fin 1024) (k : Fin 768) : k0_pay8 (F := Ideal) v0 (ix2 p k) = v0 (ix3 0 p k) := by
  pointwise [k0_pay8]

/-- The row before and the row itself, each times its weight. -/
theorem pay9_at (i : grid0.Coords) (v0 : Vec Ideal S1x1024x768 .f32) (v3 : Vec Ideal S1x1x768 .f32) (v25 v28 : Vec Ideal S1x768 .f32) (p : Fin 1024) (k : Fin 768) :
    k0_pay9 (F := Ideal) i v0 v3 v25 v28 (ix2 p k) = (if p.1 = 0 then (if 0 < (i 1).val then v3 (ix3 0 0 k) else 0) else v0 (ix3 0 (⟨(p.1 + 1023) % 1024, by omega⟩ : Fin 1024) k)) * v25 (ix2 0 k) + v0 (ix3 0 p k) * v28 (ix2 0 k) := by
  have e := first_tile (i 1)
  have d := (down_at (k0_pay8 (F := Ideal) v0) p k).trans (pay8_at _ _ _)
  have c := pay8_at v0 p k
  rw [← d, ← c]
  pointwise [k0_pay9]
  rw [first_row, e, select_bit, select_bit]

/-- The row after, times its weight. -/
theorem pay10_at (i : grid0.Coords) (v0 : Vec Ideal S1x1024x768 .f32) (v8 : Vec Ideal S1x1x768 .f32) (v32 : Vec Ideal S1x768 .f32) (p : Fin 1024) (k : Fin 768) :
    k0_pay10 (F := Ideal) i v0 v8 v32 (ix2 p k) = (if p.1 = 1023 then (if (i 1).val < 7 then v8 (ix3 0 0 k) else 0) else v0 (ix3 0 (⟨(p.1 + 1) % 1024, by omega⟩ : Fin 1024) k)) * v32 (ix2 0 k) := by
  have e := last_tile (i 1)
  have d := (up_at (k0_pay8 (F := Ideal) v0) p k).trans (pay8_at _ _ _)
  rw [← d]
  pointwise [k0_pay10]
  rw [last_row, e, select_bit, select_bit]

/-- Both sums and the bias. -/
theorem pay11_at (a c : FVec Ideal S1024x768 .f32) (b : Vec Ideal S1x768 .f32) (p : Fin 1024) (k : Fin 768) : k0_pay11 (F := Ideal) a c b (ix2 p k) = a (ix2 p k) + c (ix2 p k) + b (ix2 0 k) := by
  pointwise [k0_pay11]

/-- A block of 128 by 8 by 256 from 1024 rows of 256 lanes: row `128 j + s` at `(s, j)`. -/
def laid (z : Fin 1024 → Fin 256 → EReal) (y : S1x128x8x256.Idx) : EReal :=
  z ⟨128 * (y 2).val + (y 1).val, by have h2 : (y 2).val < 8 := (y 2).isLt; have h1 : (y 1).val < 128 := (y 1).isLt; omega⟩ (y 3)

/-- Eight groups of 128 rows of 256 lanes stored side by side are a block that holds each at its place. -/
theorem canon_at (P : Fin 8 → Vec Ideal S1x128x1x256 .f32) (z : Fin 1024 → Fin 256 → EReal) (h : ∀ (j : Fin 8) (s : Fin 128) (k : Fin 256), P j (ix4 0 s 0 k) = z ⟨128 * j.1 + s.1, by omega⟩ k) (s : Fin 128) (j : Fin 8) (k : Fin 256) :
    View.canon (Val := Elt Ideal) [⟨r0_14, P 7⟩, ⟨r0_13, P 6⟩, ⟨r0_12, P 5⟩, ⟨r0_11, P 4⟩, ⟨r0_10, P 3⟩, ⟨r0_9, P 2⟩, ⟨r0_8, P 1⟩, ⟨r0_7, P 0⟩] (ix4 0 s j k) = z ⟨128 * j.1 + s.1, by omega⟩ k := by
  have q : ∀ (j : Fin 8) (inb) (x : S1x128x1x256.Idx), P j x = laid z ((Rect.unit (s := S1x128x8x256) ![0, 0, j.1, 0] S1x128x1x256.size inb).idx x) := by
    intro j inb x
    obtain ⟨a, s, b, k, rfl⟩ : ∃ (a : Fin 1) (s : Fin 128) (b : Fin 1) (k : Fin 256), x = ix4 a s b k := ⟨_, _, _, _, eq_ix4 x⟩
    obtain rfl : a = 0 := Subsingleton.elim _ _
    obtain rfl : b = 0 := Subsingleton.elim _ _
    refine (h j s k).trans (congrArg₂ z (Fin.ext ?_) (Fin.ext ?_))
    · show 128 * j.1 + s.1 = 128 * (j.1 + 1 * 0) + (0 + 1 * s.1)
      omega
    · show k.1 = 0 + 1 * k.1
      omega
  refine (View.canon_apply_of_pieces (laid z) _ ?_ _ (cover0_5 _ _ _ _ _ _ _ _ _)).trans rfl
  intro pc hpc
  simp only [List.mem_cons, List.not_mem_nil, or_false] at hpc
  rcases hpc with rfl | rfl | rfl | rfl | rfl | rfl | rfl | rfl
  · exact q 7 inb_S1x128x8x256_S1x128x1x256_0_0_7_0
  · exact q 6 inb_S1x128x8x256_S1x128x1x256_0_0_6_0
  · exact q 5 inb_S1x128x8x256_S1x128x1x256_0_0_5_0
  · exact q 4 inb_S1x128x8x256_S1x128x1x256_0_0_4_0
  · exact q 3 inb_S1x128x8x256_S1x128x1x256_0_0_3_0
  · exact q 2 inb_S1x128x8x256_S1x128x1x256_0_0_2_0
  · exact q 1 inb_S1x128x8x256_S1x128x1x256_0_0_1_0
  · exact q 0 inb_S1x128x8x256_S1x128x1x256_0_0_0_0

/-- 128 rows and 256 lanes of a tile, as the body stores them. -/
def piece (r c : ℕ) (z : FVec Ideal S1024x768 .f32) (hr : S1024x768.Slices ![r, 0] S128x768) (hc : S128x768.Slices ![0, c] S128x256) : FVec Ideal S1x128x1x256 .f32 :=
  shapeCast S1x128x1x256 (extractStridedSlice S128x256 ![0, c] (extractStridedSlice S128x768 ![r, 0] z hr) hc) shapeCasts_S128x256_S1x128x1x256

/-- One entry of them. -/
theorem piece_at (r c : ℕ) (z : FVec Ideal S1024x768 .f32) (hr : S1024x768.Slices ![r, 0] S128x768) (hc : S128x768.Slices ![0, c] S128x256) (s : Fin 128) (k : Fin 256) (R : r + 128 ≤ 1024) (C : c + 256 ≤ 768) :
    piece r c z hr hc (ix4 0 s 0 k) = z (ix2 ⟨r + s.1, by omega⟩ ⟨c + k.1, by omega⟩) := by
  unfold piece
  have e1 : shapeCast S1x128x1x256 (extractStridedSlice S128x256 ![0, c] (extractStridedSlice S128x768 ![r, 0] z hr) hc) shapeCasts_S128x256_S1x128x1x256 (ix4 0 s 0 k) = extractStridedSlice S128x256 ![0, c] (extractStridedSlice S128x768 ![r, 0] z hr) hc (ix2 s k) := by
    generalize extractStridedSlice S128x256 ![0, c] (extractStridedSlice S128x768 ![r, 0] z hr) hc = T
    pointwise
  refine e1.trans ?_
  refine (extractStridedSlice_apply _ _ _ _ (ix2 s ⟨c + k.1, by omega⟩) fun a => ?_).trans ?_
  · match a with
    | ⟨0, _⟩ => exact (Nat.zero_add _).symm
    | ⟨1, _⟩ => rfl
  · refine extractStridedSlice_apply _ _ _ _ (ix2 ⟨r + s.1, by omega⟩ ⟨c + k.1, by omega⟩) fun a => ?_
    match a with
    | ⟨0, _⟩ => rfl
    | ⟨1, _⟩ => exact (Nat.zero_add _).symm

/-- The eight groups of rows of 256 lanes. -/
def stacked (c : ℕ) (z : FVec Ideal S1024x768 .f32) (hc : S128x768.Slices ![0, c] S128x256) : Fin 8 → Vec Ideal S1x128x1x256 .f32 :=
  ![piece 0 c z slices_S1024x768_o0_0_S128x768 hc, piece 128 c z slices_S1024x768_o128_0_S128x768 hc, piece 256 c z slices_S1024x768_o256_0_S128x768 hc, piece 384 c z slices_S1024x768_o384_0_S128x768 hc,
    piece 512 c z slices_S1024x768_o512_0_S128x768 hc, piece 640 c z slices_S1024x768_o640_0_S128x768 hc, piece 768 c z slices_S1024x768_o768_0_S128x768 hc, piece 896 c z slices_S1024x768_o896_0_S128x768 hc]

/-- One entry of them. -/
theorem stacked_at (c : ℕ) (z : FVec Ideal S1024x768 .f32) (hc : S128x768.Slices ![0, c] S128x256) (C : c + 256 ≤ 768) (j : Fin 8) (s : Fin 128) (k : Fin 256) :
    stacked c z hc j (ix4 0 s 0 k) = z (ix2 ⟨128 * j.1 + s.1, by omega⟩ ⟨c + k.1, by omega⟩) := by
  match j with
  | ⟨0, _⟩ => exact piece_at 0 c z slices_S1024x768_o0_0_S128x768 hc s k (by decide) C
  | ⟨1, _⟩ => exact piece_at 128 c z slices_S1024x768_o128_0_S128x768 hc s k (by decide) C
  | ⟨2, _⟩ => exact piece_at 256 c z slices_S1024x768_o256_0_S128x768 hc s k (by decide) C
  | ⟨3, _⟩ => exact piece_at 384 c z slices_S1024x768_o384_0_S128x768 hc s k (by decide) C
  | ⟨4, _⟩ => exact piece_at 512 c z slices_S1024x768_o512_0_S128x768 hc s k (by decide) C
  | ⟨5, _⟩ => exact piece_at 640 c z slices_S1024x768_o640_0_S128x768 hc s k (by decide) C
  | ⟨6, _⟩ => exact piece_at 768 c z slices_S1024x768_o768_0_S128x768 hc s k (by decide) C
  | ⟨7, _⟩ => exact piece_at 896 c z slices_S1024x768_o896_0_S128x768 hc s k (by decide) C

/-- A row of the weights, loaded. -/
theorem ld_weight (x : Vec Ideal S3x768 .f32) (r : Fin 3) (inb) (k : Fin 768) : View.ld (Val := Elt Ideal) x (Rect.unit (s := S3x768) ![r.1, 0] S1x768.size inb) (ix2 0 k : S1x768.Idx) = x (ix2 r k) := by
  refine congrArg x (funext fun a => ?_)
  match a with
  | ⟨0, _⟩ => exact Fin.ext (Rect.idx_unit_val _ _ _ _ _)
  | ⟨1, _⟩ => exact Fin.ext ((Rect.idx_unit_val _ _ _ _ _).trans (Nat.zero_add _))

/-- A row of a neighbouring group of eight tokens, loaded. -/
theorem ld_edge (x : Vec Ideal S1x8x768 .f32) (r : Fin 8) (inb) (k : Fin 768) : View.ld (Val := Elt Ideal) x (Rect.unit (s := S1x8x768) ![0, r.1, 0] S1x1x768.size inb) (ix3 0 0 k : S1x1x768.Idx) = x (ix3 0 r k) := by
  refine congrArg x (funext fun a => ?_)
  match a with
  | ⟨0, _⟩ => exact Fin.ext (Rect.idx_unit_val _ _ _ _ _)
  | ⟨1, _⟩ => exact Fin.ext (Rect.idx_unit_val _ _ _ _ _)
  | ⟨2, _⟩ => exact Fin.ext ((Rect.idx_unit_val _ _ _ _ _).trans (Nat.zero_add _))

variable (i : grid0.Coords) (x0 : Vec Ideal S1x8x768 .f32) (x1 : Vec Ideal S1x1024x768 .f32) (x2 : Vec Ideal S1x8x768 .f32) (x3 : Vec Ideal S3x768 .f32) (x4 : Vec Ideal S1x768 .f32)

/-- The tile the body convolves. -/
abbrev tile : FVec Ideal S1024x768 .f32 := k0_pay41 (F := Ideal) i x0 x1 x2 x3 x4

/-- One entry of it, in terms of the blocks a point stages. -/
theorem tile_at (p : Fin 1024) (k : Fin 768) : tile i x0 x1 x2 x3 x4 (ix2 p k) =
    tap (if p.1 = 0 then (if 0 < (i 1).val then x0 (ix3 0 7 k) else 0) else x1 (ix3 0 (⟨(p.1 + 1023) % 1024, by omega⟩ : Fin 1024) k)) (x1 (ix3 0 p k))
      (if p.1 = 1023 then (if (i 1).val < 7 then x2 (ix3 0 0 k) else 0) else x1 (ix3 0 (⟨(p.1 + 1) % 1024, by omega⟩ : Fin 1024) k)) (x3 (ix2 0 k)) (x3 (ix2 1 k)) (x3 (ix2 2 k)) (x4 (ix2 0 k)) := by
  have l0 : View.ld (Val := Elt Ideal) x0 r0_1 (ix3 0 0 k : S1x1x768.Idx) = x0 (ix3 0 7 k) := ld_edge x0 7 inb_S1x8x768_S1x1x768_0_7_0 k
  have l2 : View.ld (Val := Elt Ideal) x2 r0_2 (ix3 0 0 k : S1x1x768.Idx) = x2 (ix3 0 0 k) := ld_edge x2 0 inb_S1x8x768_S1x1x768_0_0_0 k
  have w0 : View.ld (Val := Elt Ideal) x3 r0_3 (ix2 0 k : S1x768.Idx) = x3 (ix2 0 k) := ld_weight x3 0 inb_S3x768_S1x768_0_0 k
  have w1 : View.ld (Val := Elt Ideal) x3 r0_4 (ix2 0 k : S1x768.Idx) = x3 (ix2 1 k) := ld_weight x3 1 inb_S3x768_S1x768_1_0 k
  have w2 : View.ld (Val := Elt Ideal) x3 r0_5 (ix2 0 k : S1x768.Idx) = x3 (ix2 2 k) := ld_weight x3 2 inb_S3x768_S1x768_2_0 k
  have b : View.ld (Val := Elt Ideal) x4 r0_6 = x4 := by simp (disch := decide) only [View.ld_unit_lit']
  have u : View.ld (Val := Elt Ideal) x1 r0_0 = x1 := by simp (disch := decide) only [View.ld_unit_lit']
  unfold tile k0_pay41
  rw [pay11_at]
  unfold k0_pay39 k0_pay40
  rw [pay9_at, pay10_at, l0, l2, w0, w1, w2, b, u]
  rfl

/-- What the body leaves in the window of the first 256 channels. -/
theorem out5_at (s : Fin 128) (j : Fin 8) (k : Fin 256) : out0_5 i x0 x1 x2 x3 x4 (ix4 0 s j k) = tile i x0 x1 x2 x3 x4 (ix2 ⟨128 * j.1 + s.1, by omega⟩ ⟨0 + k.1, by omega⟩) :=
  canon_at (stacked 0 (tile i x0 x1 x2 x3 x4) slices_S128x768_o0_0_S128x256) (fun p k => tile i x0 x1 x2 x3 x4 (ix2 p ⟨0 + k.1, by omega⟩)) (stacked_at 0 _ _ (by decide)) s j k

/-- What the body leaves in the window of the next 256 channels. -/
theorem out6_at (s : Fin 128) (j : Fin 8) (k : Fin 256) : out0_6 i x0 x1 x2 x3 x4 (ix4 0 s j k) = tile i x0 x1 x2 x3 x4 (ix2 ⟨128 * j.1 + s.1, by omega⟩ ⟨256 + k.1, by omega⟩) :=
  canon_at (stacked 256 (tile i x0 x1 x2 x3 x4) slices_S128x768_o0_256_S128x256) (fun p k => tile i x0 x1 x2 x3 x4 (ix2 p ⟨256 + k.1, by omega⟩)) (stacked_at 256 _ _ (by decide)) s j k

/-- What the body leaves in the window of the last 256 channels. -/
theorem out7_at (s : Fin 128) (j : Fin 8) (k : Fin 256) : out0_7 i x0 x1 x2 x3 x4 (ix4 0 s j k) = tile i x0 x1 x2 x3 x4 (ix2 ⟨128 * j.1 + s.1, by omega⟩ ⟨512 + k.1, by omega⟩) :=
  canon_at (stacked 512 (tile i x0 x1 x2 x3 x4) slices_S128x768_o0_512_S128x256) (fun p k => tile i x0 x1 x2 x3 x4 (ix2 p ⟨512 + k.1, by omega⟩)) (stacked_at 512 _ _ (by decide)) s j k

end Cert.Kernel6Ideal.Conv
end
-- ==== Proof.ConvFinal.lean ====
module

public import proofs.«01_k».proof.Proof.ConvPay
public import proofs.«01_k».proof.Proof.Gen.Kernel6Ideal.Value

@[expose] public section

set_option maxRecDepth 16384

noncomputable section
namespace Cert.Kernel6Ideal.Conv
open Cert.Kernel6Ideal Cert.Kernel6Ideal.Gen Idealize.ShloMosaic Idealize.ShloMosaic.TcCoe Idealize.SL.Sem
open Idealize.ShloMosaic.Pipeline (Dat)
open Cert.Reference6Ideal.Conv

/-- The blocks a point stages and leaves: its batch entry, its tile of 1024 tokens and the groups of eight tokens on either side, the weights and the bias whole. -/
theorem idx : ∀ t : Fin cfg0.N, win0_0.index t = ![t.val / 8, t.val % 8 * 128 - 1, 0] ∧ win0_1.index t = ![t.val / 8, t.val % 8, 0] ∧ win0_2.index t = ![t.val / 8, min ((t.val % 8 + 1) * 128) 1023, 0]
    ∧ win0_3.index t = ![0, 0] ∧ win0_4.index t = ![0, 0] ∧ win0_5.index t = ![t.val / 8, 0, t.val % 8, 0] ∧ win0_6.index t = ![t.val / 8, 0, t.val % 8, 0] ∧ win0_7.index t = ![t.val / 8, 0, t.val % 8, 0] ∧ (grid0.coords t 1).val = t.val % 8 :=
  (by decide +kernel : ∀ t : Fin grid0.N, _)

/-- A point's batch entry is one of two. -/
theorem lt2 (t : Fin cfg0.N) : t.val / 8 < 2 := by
  have := t.isLt; have : cfg0.N = 16 := by decide +kernel
  omega

/-- A point's batch entry. -/
abbrev entry (t : Fin cfg0.N) : Fin 2 := ⟨t.val / 8, lt2 t⟩

/-- A token of a point's tile. -/
abbrev tok (t : Fin cfg0.N) (p : Fin 1024) : Fin 8192 := ⟨t.val % 8 * 1024 + p, by omega⟩

/-- Where the last token of the group before a point's tile lies. -/
theorem emb_prev (t : Fin cfg0.N) (k : Fin 768) (s : Fin 8192) (h : 0 < t.val % 8) (hs : s.1 + 1 = t.val % 8 * 1024) :
    ((cfg0.win 0).blk t).view.emb (ix3 0 7 k : S1x8x768.Idx) = (ix3 (entry t) s k : S2x8192x768.Idx) := by
  blk_ext [idx t]

/-- Where a point's tile lies. -/
theorem emb_cur (t : Fin cfg0.N) (p : Fin 1024) (k : Fin 768) : ((cfg0.win 1).blk t).view.emb (ix3 0 p k : S1x1024x768.Idx) = (ix3 (entry t) (tok t p) k : S2x8192x768.Idx) := by
  blk_ext [idx t]

/-- Where the first token of the group after it lies. -/
theorem emb_next (t : Fin cfg0.N) (k : Fin 768) (s : Fin 8192) (h : t.val % 8 < 7) (hs : s.1 = (t.val % 8 + 1) * 1024) :
    ((cfg0.win 2).blk t).view.emb (ix3 0 0 k : S1x8x768.Idx) = (ix3 (entry t) s k : S2x8192x768.Idx) := by
  blk_ext [idx t]

/-- The weights are staged whole. -/
theorem emb_w (t : Fin cfg0.N) (r : Fin 3) (k : Fin 768) : ((cfg0.win 3).blk t).view.emb (ix2 r k : S3x768.Idx) = (ix2 r k : S3x768.Idx) := by
  blk_ext [idx t]

/-- So is the bias. -/
theorem emb_b (t : Fin cfg0.N) (k : Fin 768) : ((cfg0.win 4).blk t).view.emb (ix2 0 k : S1x768.Idx) = (ix2 0 k : S1x768.Idx) := by
  blk_ext [idx t]

variable (m : (ℓ : Loc nD τ sig) → Buf (Elt Ideal) ℓ) (c : Dev nD) (t : Fin cfg0.N)

/-- The tokens. -/
abbrev X : FVec Ideal S2x8192x768 .f32 := m ((c : Thread nD τ).loc main_arg0)

/-- The staged bias is the argument with an axis more. -/
theorem V_v0 : V m c main_v0 = (shapeCast _ (m ((c : Thread nD τ).loc main_arg2) : FVec Ideal S768 .f32) shapeCasts_S768_S1x768 : FVec Ideal S1x768 .f32) := by
  entry_read
  rfl

/-- It, at an element. -/
theorem bias_at (B : FVec Ideal S768 .f32) (k : Fin 768) : (shapeCast _ B shapeCasts_S768_S1x768 : FVec Ideal S1x768 .f32) (ix2 0 k) = B (ix1 k) := by
  pointwise

/-- The last token before a point's tile. -/
theorem prev_at (k : Fin 768) (s : Fin 8192) (h : 0 < t.val % 8) (hs : s.1 + 1 = t.val % 8 * 1024) : (iblk m c 0 t (ix3 0 7 k : S1x8x768.Idx) : EReal) = X m c (ix3 (entry t) s k) := by
  have e := emb_prev t k s h hs
  have v := V_main_arg0 m c
  blk_simp [iblk]
  generalize V m c main_arg0 = W at v ⊢
  subst v
  exact congrArg (m ((c : Thread nD τ).loc main_arg0)) e

/-- The tokens of its tile. -/
theorem cur_at (p : Fin 1024) (k : Fin 768) : (iblk m c 1 t (ix3 0 p k : S1x1024x768.Idx) : EReal) = X m c (ix3 (entry t) (tok t p) k) := by
  have e := emb_cur t p k
  have v := V_main_arg0 m c
  blk_simp [iblk]
  generalize V m c main_arg0 = W at v ⊢
  subst v
  exact congrArg (m ((c : Thread nD τ).loc main_arg0)) e

/-- The first token after it. -/
theorem next_at (k : Fin 768) (s : Fin 8192) (h : t.val % 8 < 7) (hs : s.1 = (t.val % 8 + 1) * 1024) : (iblk m c 2 t (ix3 0 0 k : S1x8x768.Idx) : EReal) = X m c (ix3 (entry t) s k) := by
  have e := emb_next t k s h hs
  have v := V_main_arg0 m c
  blk_simp [iblk]
  generalize V m c main_arg0 = W at v ⊢
  subst v
  exact congrArg (m ((c : Thread nD τ).loc main_arg0)) e

/-- The weights. -/
theorem w_at (r : Fin 3) (k : Fin 768) : (iblk m c 3 t (ix2 r k : S3x768.Idx) : EReal) = m ((c : Thread nD τ).loc main_arg1) (ix2 r k : S3x768.Idx) := by
  have e := emb_w t r k
  have v := V_main_arg1 m c
  blk_simp [iblk]
  generalize V m c main_arg1 = W at v ⊢
  subst v
  exact congrArg (m ((c : Thread nD τ).loc main_arg1)) e

/-- The bias. -/
theorem b_at (k : Fin 768) : (iblk m c 4 t (ix2 0 k : S1x768.Idx) : EReal) = m ((c : Thread nD τ).loc main_arg2) (ix1 k : S768.Idx) := by
  have e := emb_b t k
  have v := V_v0 m c
  have h := bias_at (m ((c : Thread nD τ).loc main_arg2)) k
  blk_simp [iblk]
  generalize V m c main_v0 = W at v ⊢
  subst v
  exact (congrArg _ e).trans h

/-- Entries of equal parts are equal. -/
theorem tap_congr {a a' u u' d d' x x' y y' z z' b b' : EReal} (ha : a = a') (hu : u = u') (hd : d = d') (hx : x = x') (hy : y = y') (hz : z = z') (hb : b = b') : tap a u d x y z b = tap a' u' d' x' y' z' b' := by
  subst ha hu hd hx hy hz hb
  rfl

/-- The reference's convolution of the tokens. -/
abbrev Z : FVec Ideal S2x8192x768 .f32 := conv (X m c) (m ((c : Thread nD τ).loc main_arg1)) (m ((c : Thread nD τ).loc main_arg2))

/-- The tile a point convolves is the reference's there. -/
theorem tile_eq (p : Fin 1024) (k : Fin 768) : tile (grid0.coords t) (iblk m c 0 t) (iblk m c 1 t) (iblk m c 2 t) (iblk m c 3 t) (iblk m c 4 t) (ix2 p k) = Z m c (ix3 (entry t) (tok t p) k) := by
  have g : (grid0.coords t 1).val = t.val % 8 := (idx t).2.2.2.2.2.2.2.2
  rw [tile_at, g]
  unfold Z
  rw [conv_at]
  refine tap_congr ?_ (cur_at m c t p k) ?_ (w_at m c t 0 k) (w_at m c t 1 k) (w_at m c t 2 k) (b_at m c t k)
  · by_cases hp : p.1 = 0
    · rw [if_pos hp]
      by_cases h : 0 < t.val % 8
      · rw [if_pos h, if_neg (show ¬ t.val % 8 * 1024 + p.1 = 0 by omega)]
        exact prev_at m c t k _ h (by dsimp only; omega)
      · rw [if_neg h, if_pos (show t.val % 8 * 1024 + p.1 = 0 by omega)]
    · rw [if_neg hp, if_neg (show ¬ t.val % 8 * 1024 + p.1 = 0 by omega)]
      exact (cur_at m c t _ k).trans (congrArg (fun r => X m c (ix3 (entry t) r k)) (Fin.ext (by dsimp only; omega)))
  · by_cases hp : p.1 = 1023
    · rw [if_pos hp]
      by_cases h : t.val % 8 < 7
      · rw [if_pos h, dif_pos (show t.val % 8 * 1024 + p.1 + 1 < 8192 by omega)]
        exact next_at m c t k _ h (by dsimp only; omega)
      · rw [if_neg h, dif_neg (show ¬ t.val % 8 * 1024 + p.1 + 1 < 8192 by omega)]
    · rw [if_neg hp, dif_pos (show t.val % 8 * 1024 + p.1 + 1 < 8192 by omega)]
      exact (cur_at m c t _ k).trans (congrArg (fun r => X m c (ix3 (entry t) r k)) (Fin.ext (by dsimp only; omega)))

/-- Two blocks that agree at every phase, row and lane are equal. -/
theorem whole4 (O G : S1x128x8x256.Idx → EReal) (h : ∀ (s : Fin 128) (j : Fin 8) (k : Fin 256), O (ix4 0 s j k) = G (ix4 0 s j k)) : ∀ y, O y = G y := fun y => by
  obtain ⟨a, s, j, k, rfl⟩ : ∃ (a : Fin 1) (s : Fin 128) (j : Fin 8) (k : Fin 256), y = ix4 a s j k := ⟨_, _, _, _, eq_ix4 y⟩
  obtain rfl : a = 0 := Subsingleton.elim _ _
  exact h s j k

/-- A row of 128 tokens within the sequence. -/
abbrev row (t : Fin cfg0.N) (j : Fin 8) : Fin 64 := ⟨t.val % 8 * 8 + j, by omega⟩

/-- A token by its row of 128 and its phase. -/
theorem tok_row (Y : FVec Ideal S2x8192x768 .f32) (s : Fin 128) (j : Fin 8) (k : Fin 768) :
    Y (ix3 (entry t) (tok t ⟨128 * j.1 + s.1, by omega⟩) k) = Y (ix3 (entry t) ⟨(row t j).1 * 128 + s.1, by dsimp only; omega⟩ k) :=
  congrArg (fun r => Y (ix3 (entry t) r k)) (Fin.ext (by dsimp only; omega))

/-- Where a point's block of the first part lies. -/
theorem emb_5 (s : Fin 128) (j : Fin 8) (k : Fin 256) : ((cfg0.win 5).blk t).view.emb (ix4 0 s j k : S1x128x8x256.Idx) = (ix4 (entry t) s (row t j) k : S2x128x64x256.Idx) := by
  blk_ext [idx t]

/-- The first part the program leaves is the reference's. -/
theorem final5 : (dats m 0 c).arrAt 5 cfg0.N = (part0 (Z m c) : FVec Ideal S2x128x64x256 .f32) := by
  refine (dats m 0 c).arrAt_eq_of_covers 5 _ (by decide +kernel) fun t hf y => ?_
  have B := fun s j k => (out5_at (grid0.coords t) (iblk m c 0 t) (iblk m c 1 t) (iblk m c 2 t) (iblk m c 3 t) (iblk m c 4 t) s j k).trans ((tile_eq m c t _ _).trans ((tok_row t (Z m c) s j _).trans (part0_at (Z m c) (entry t) s (row t j) k).symm))
  have e := fun s j k => emb_5 t s j k
  rw [after0_5]
  generalize part0 (Z m c) = G at B ⊢
  generalize out0_5 (grid0.coords t) (iblk m c 0 t) (iblk m c 1 t) (iblk m c 2 t) (iblk m c 3 t) (iblk m c 4 t) = O at B ⊢
  exact (cast_eq _ _).trans (whole4 O (fun y => G (((cfg0.win 5).blk t).view.emb y)) (fun s j k => (B s j k).trans (congrArg G (e s j k)).symm) y)

/-- Where a point's block of the second part lies. -/
theorem emb_6 (s : Fin 128) (j : Fin 8) (k : Fin 256) : ((cfg0.win 6).blk t).view.emb (ix4 0 s j k : S1x128x8x256.Idx) = (ix4 (entry t) s (row t j) k : S2x128x64x256.Idx) := by
  blk_ext [idx t]

/-- The second part the program leaves is the reference's. -/
theorem final6 : (dats m 0 c).arrAt 6 cfg0.N = (part1 (Z m c) : FVec Ideal S2x128x64x256 .f32) := by
  refine (dats m 0 c).arrAt_eq_of_covers 6 _ (by decide +kernel) fun t hf y => ?_
  have B := fun s j k => (out6_at (grid0.coords t) (iblk m c 0 t) (iblk m c 1 t) (iblk m c 2 t) (iblk m c 3 t) (iblk m c 4 t) s j k).trans ((tile_eq m c t _ _).trans ((tok_row t (Z m c) s j _).trans (part1_at (Z m c) (entry t) s (row t j) k).symm))
  have e := fun s j k => emb_6 t s j k
  rw [after0_6]
  generalize part1 (Z m c) = G at B ⊢
  generalize out0_6 (grid0.coords t) (iblk m c 0 t) (iblk m c 1 t) (iblk m c 2 t) (iblk m c 3 t) (iblk m c 4 t) = O at B ⊢
  exact (cast_eq _ _).trans (whole4 O (fun y => G (((cfg0.win 6).blk t).view.emb y)) (fun s j k => (B s j k).trans (congrArg G (e s j k)).symm) y)

/-- Where a point's block of the third part lies. -/
theorem emb_7 (s : Fin 128) (j : Fin 8) (k : Fin 256) : ((cfg0.win 7).blk t).view.emb (ix4 0 s j k : S1x128x8x256.Idx) = (ix4 (entry t) s (row t j) k : S2x128x64x256.Idx) := by
  blk_ext [idx t]

/-- The third part the program leaves is the reference's. -/
theorem final7 : (dats m 0 c).arrAt 7 cfg0.N = (part2 (Z m c) : FVec Ideal S2x128x64x256 .f32) := by
  refine (dats m 0 c).arrAt_eq_of_covers 7 _ (by decide +kernel) fun t hf y => ?_
  have B := fun s j k => (out7_at (grid0.coords t) (iblk m c 0 t) (iblk m c 1 t) (iblk m c 2 t) (iblk m c 3 t) (iblk m c 4 t) s j k).trans ((tile_eq m c t _ _).trans ((tok_row t (Z m c) s j _).trans (part2_at (Z m c) (entry t) s (row t j) k).symm))
  have e := fun s j k => emb_7 t s j k
  rw [after0_7]
  generalize part2 (Z m c) = G at B ⊢
  generalize out0_7 (grid0.coords t) (iblk m c 0 t) (iblk m c 1 t) (iblk m c 2 t) (iblk m c 3 t) (iblk m c 4 t) = O at B ⊢
  exact (cast_eq _ _).trans (whole4 O (fun y => G (((cfg0.win 7).blk t).view.emb y)) (fun s j k => (B s j k).trans (congrArg G (e s j k)).symm) y)

end Cert.Kernel6Ideal.Conv
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_tiles
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Final
public import proofs.«01_k».proof.Proof.FfnBits
public import proofs.«01_k».proof.Proof.FfnFinal
public import proofs.«01_k».proof.Proof.InprojLaunch
public import proofs.«01_k».proof.Proof.InprojFinal
public import proofs.«01_k».proof.Proof.MergeFinal
public import proofs.«01_k».proof.Proof.Ada
public import proofs.«01_k».proof.Proof.ConvFinal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs at the ideal instance, keeps its arguments and leaves every semaphore at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- At real queries and keys the kernel and the reference leave the same array. -/
theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨⟨q, hq⟩, k, hk⟩ := Cert.KernelIdeal.Attn.finite_real _ _ _ (hpre c)
  obtain ⟨h0, h1, h2⟩ := hagree c
  refine Eq.trans ?_ (Cert.KernelIdeal.Attn.final m c q k hq hk).symm
  have e0 := h0.trans hq
  have e1 := h1.trans hk
  rw [e0, e1, h2]
  rfl

/-- The grouped feed-forward runs on machine words, keeps its arguments and leaves every semaphore at zero. -/
theorem frame_p2 : Cert.quiescent_Kernel2 := fun m ρ hpre =>
  Cert.Kernel2.Ffn.frame m ρ (Cert.Kernel2Ideal.Ffn.ok_of_ranges _ (Cert.Kernel2Ideal.Ffn.ranges (F := Bits) m _ _ rfl rfl _ _ _ _ (hpre 0)))

/-- The precondition puts the idealized program's tables in range. -/
theorem ranges_pi2 (m : (ℓ : Loc Cert.Kernel2Ideal.nD Cert.Kernel2Ideal.τ Cert.Kernel2Ideal.sig) → Buf (Elt Ideal) ℓ) (hpre : Cert.Pre_Kernel2Ideal m) :
    Cert.Kernel2Ideal.Ffn.Ranges (Cert.Kernel2Ideal.Ffn.tbl m) :=
  Cert.Kernel2Ideal.Ffn.ranges m _ _ rfl rfl _ _ _ _ (hpre 0)

/-- The idealized grouped feed-forward likewise. -/
theorem frame_pi2 : Cert.quiescent_Kernel2Ideal := fun m ρ hpre =>
  (θ_run Cert.Kernel2Ideal.defs _ _).mono (fun _ h => ⟨fun c => (h.1 c).2, h.2⟩)
    (Cert.Kernel2Ideal.Ffn.run_result m ρ (Cert.Kernel2Ideal.Ffn.ok_of_ranges _ (ranges_pi2 m hpre)))

/-- The experts' reference runs at the ideal instance, keeps its arguments and leaves every semaphore at zero. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- With tables in range the grouped feed-forward and its reference leave the same array. -/
theorem algebraic2 : Cert.algebraic_Kernel2Ideal_Reference2Ideal := by
  intro m ρ m' ρ' hpre hagree
  have hR := ranges_pi2 m hpre
  refine ⟨_, (θ_run Cert.Kernel2Ideal.defs _ _).mono (fun _ h c => h.1 c)
    (Cert.Kernel2Ideal.Ffn.run_result m ρ (Cert.Kernel2Ideal.Ffn.ok_of_ranges _ hR)), ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5⟩ := hagree c
  refine Eq.trans ?_ (Cert.Kernel2Ideal.Ffn.final m _ c hR (Cert.Kernel2Ideal.Ffn.tiles_ranges _ _ _ _ _ _ (hpre c)).1).symm
  rw [h0, h1, h2, h3, h4, h5]
  rfl

/-- The projection's reference runs at the ideal instance, keeps its arguments and leaves every semaphore at zero. -/
theorem frame_ri3 : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

/-- The projection and its reference leave the same arrays of keys, values, convolution inputs (with and without the context) and gates. -/
theorem algebraic3 : Cert.algebraic_Kernel3Ideal_Reference3Ideal := by
  intro m ρ m' ρ' _ hagree
  refine ⟨_, _, _, _, _, Cert.Kernel3Ideal.Inproj.run_results m ρ, ?_⟩
  refine (θ_run Cert.Reference3Ideal.defs _ _).mono (fun _ h c => ?_)
    (Cert.Reference3Ideal.Value.run (F := Ideal) m' ρ')
  obtain ⟨r0, r1, r2, r3, r4, kept⟩ := h c
  obtain ⟨h0, h1, h2, h3, h4, h5, -⟩ := hagree c
  rw [h0, h1, h2, h3, h4] at r0 r1 r2 r3
  rw [h0, h1, h2, h3, h4, h5] at r4
  exact ⟨r0, r1, r2, r3, r4, kept⟩

/-- The merge's reference runs at the ideal instance, keeps its arguments and leaves every semaphore at zero. -/
theorem frame_ri4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

set_option maxHeartbeats 3200000 in
/-- The merge and its reference leave the same stream and the same list of normed tokens. -/
theorem algebraic4 : Cert.algebraic_Kernel4Ideal_Reference4Ideal := by
  intro m ρ m' ρ' _ hagree
  refine ⟨_, _, Cert.Kernel4Ideal.Merge.run_results m ρ, ?_⟩
  refine (θ_run Cert.Reference4Ideal.defs _ _).mono (fun _ h c => ?_)
    (Cert.Reference4Ideal.Value.run (F := Ideal) m' ρ')
  obtain ⟨r0, r1, kept⟩ := h c
  obtain ⟨h0, h1, h2, h3, h4, h5, h6, h7, h8, h9, h10, h11, h12, h13, h14, -⟩ := hagree c
  unfold Cert.Reference4Ideal.Value.res_main_v96 at r1
  rw [h0, h1, h2, h3, h4, h5, h6, h7, h8, h9, h10, h11, h12, h13] at r0
  rw [h0, h1, h2, h3, h4, h5, h6, h7, h8, h9, h10, h11, h12, h13, h14] at r1
  exact ⟨r0, r1, kept⟩

/-- The modulation's reference runs at the ideal instance, keeps its arguments and leaves every semaphore at zero. -/
theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The modulation's call and its reference leave the same array. -/
theorem algebraic5 : Cert.algebraic_Kernel5Ideal_Reference5Ideal := by
  intro m ρ m' ρ' _ hagree
  refine ⟨_, Cert.Kernel5Ideal.Value.run_blocks m ρ, ?_⟩
  refine (θ_run Cert.Reference5Ideal.defs _ _).mono (fun _ h c => ⟨(h c).1.trans ?_, (h c).2⟩)
    (Cert.Reference5Ideal.Value.run (F := Ideal) m' ρ')
  obtain ⟨h0, h1, h2⟩ := hagree c
  refine Eq.trans ?_ (Cert.Kernel5Ideal.Ada.final m c).symm
  rw [h0, h1, h2]
  rfl

/-- The short convolution's reference runs at the ideal instance, keeps its arguments and leaves every semaphore at zero. -/
theorem frame_ri6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The short convolution and its reference leave the same three streams. -/
theorem algebraic6 : Cert.algebraic_Kernel6Ideal_Reference6Ideal := by
  intro m ρ m' ρ' _ hagree
  refine ⟨_, _, _, Cert.Kernel6Ideal.Value.run_blocks m ρ, ?_⟩
  refine (θ_run Cert.Reference6Ideal.defs _ _).mono (fun _ h c => ?_)
    (Cert.Reference6Ideal.Value.run (F := Ideal) m' ρ')
  obtain ⟨r0, r1, r2, kept⟩ := h c
  obtain ⟨h0, h1, h2⟩ := hagree c
  rw [h0, h1, h2] at r0 r1 r2
  exact ⟨r0.trans (Cert.Kernel6Ideal.Conv.final5 m c).symm, r1.trans (Cert.Kernel6Ideal.Conv.final6 m c).symm, r2.trans (Cert.Kernel6Ideal.Conv.final7 m c).symm, kept⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_tiles.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  frame_p2, frame_pi2, frame_ri2, fun m ρ _ => frame_ri2 m ρ trivial,
  fun m ρ _ => Cert.Kernel3.Inproj.frame m ρ, fun m ρ _ => Cert.Kernel3Ideal.Inproj.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  IdealRules.named_const.statement Cert.KernelIdeal.κ "scale_log2e" .f32 _ _ rfl, algebraic, trivial, algebraic2, trivial, algebraic3, trivial, algebraic4, trivial, algebraic5, trivial, algebraic6⟩

end Cert.Proof

end
